-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2_beta1" .f32 0xBE1BA6B3#32 (((Real.log (9 / 10)) * (Real.log 2)⁻¹ : ℝ) : EReal)
  ∧ IdealRules.named_const.Statement Cert.KernelIdeal.κ "log2_beta2" .f32 0xBD978D9E#32 (((Real.log (19 / 20)) * (Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "ten_eps" .f32 0x33D6BF95#32 ((1 / 10000000 : ℝ) : EReal)
  ∧ IdealRules.named_const.Statement Cert.KernelIdeal.κ "log2_fp8_max" .f32 0x410CEAED#32 (((Real.log 448) * (Real.log 2)⁻¹ : ℝ) : EReal)
  ∧ IdealRules.sign_bit.MaskStatement Cert.KernelIdeal.S32x128 .f32
  ∧ IdealRules.named_const.Statement Cert.KernelIdeal.κ "tenth" .f32 0x3DCCCCCD#32 ((1 / 10 : ℝ) : EReal)
  ∧ IdealRules.named_const.Statement Cert.KernelIdeal.κ "log_range_8" .f32 0x3FC57D69#32 (((Real.log 229376) * (1 / 8) : ℝ) : EReal)
  ∧ IdealRules.named_const.Statement Cert.KernelIdeal.κ "log_range" .f32 0x41457D69#32 ((Real.log 229376 : ℝ) : EReal)
  ∧ IdealRules.named_const.Statement Cert.KernelIdeal.κ "twentieth" .f32 0x3D4CCCCD#32 ((1 / 20 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_v4_5) = v5 c
          ∧ r.2.mem ((c.tc : Thread Cert.ReferenceIdeal.nD Cert.ReferenceIdeal.τ).loc Cert.ReferenceIdeal.main_v4_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x4096x2048 : Shape := ⟨3, ![4, 4096, 2048]⟩
abbrev S4x32x2048 : Shape := ⟨3, ![4, 32, 2048]⟩
abbrev S_ : Shape := ⟨0, ![]⟩

class Facts : Prop where
  bitsLt_bf16_f32 : FTy.bits .bf16 < FTy.bits .f32
  bcast_S_S4x4096x2048 : S_.BroadcastsInDim S4x4096x2048 (![] : Fin 0 → Fin S4x4096x2048.rank)
  bcast_S_S4x32x2048 : S_.BroadcastsInDim S4x32x2048 (![] : Fin 0 → Fin S4x32x2048.rank)

variable [Facts]

def fn_part2 {F : FTy → Type} [FloatOps F] (main_arg7 : FVec F S4x32x2048 .f32) (main_arg8 : IVec S_ 32) (main_v5 : IVec S4x4096x2048 1) (main_v10 : IVec S4x4096x2048 1) (main_v21 : IVec S4x32x2048 1) (main_v26 : IVec S4x4096x2048 1) (main_v34 : IVec S4x32x2048 1) : IVec S4x4096x2048 1 × IVec S4x4096x2048 1 × IVec S4x32x2048 1 × IVec S4x4096x2048 1 × IVec S4x32x2048 1 × IVec S_ 1 :=
  let main_cst_12 : FVec F S_ .f32 := constant S_ .f32 0x7F800000#32
  let main_v35 : FVec F S4x32x2048 .f32 := broadcastInDim S4x32x2048 ![] bcast_S_S4x32x2048 main_cst_12
  let main_v36 : IVec S4x32x2048 1 := cmpf .olt main_arg7 main_v35
  let main_v37 : IVec S4x32x2048 1 := andi main_v34 main_v36
  let main_c : IVec S_ 32 := constantI S_ 32 1#32
  let main_v38 : IVec S_ 1 := cmpi .sge main_arg8 main_c
  (main_v5, main_v10, main_v21, main_v26, main_v37, main_v38)

def fn_part1 {F : FTy → Type} [FloatOps F] (main_arg4 : FVec F S4x32x2048 .f32) (main_arg5 : FVec F S4x4096x2048 .f32) (main_arg6 : FVec F S4x32x2048 .f32) (main_arg7 : FVec F S4x32x2048 .f32) (main_arg8 : IVec S_ 32) (main_v5 : IVec S4x4096x2048 1) (main_v10 : IVec S4x4096x2048 1) (main_v15 : IVec S4x32x2048 1) (main_v16 : FVec F S4x32x2048 .f32) : IVec S4x4096x2048 1 × IVec S4x4096x2048 1 × IVec S4x32x2048 1 × IVec S4x4096x2048 1 × IVec S4x32x2048 1 × IVec S_ 1 :=
  let main_v17 : IVec S4x32x2048 1 := cmpf .ogt main_arg4 main_v16
  let main_v18 : IVec S4x32x2048 1 := andi main_v15 main_v17
  let main_cst_6 : FVec F S_ .f32 := constant S_ .f32 0x7F800000#32
  let main_v19 : FVec F S4x32x2048 .f32 := broadcastInDim S4x32x2048 ![] bcast_S_S4x32x2048 main_cst_6
  let main_v20 : IVec S4x32x2048 1 := cmpf .olt main_arg4 main_v19
  let main_v21 : IVec S4x32x2048 1 := andi main_v18 main_v20
  let main_cst_7 : FVec F S_ .f32 := constant S_ .f32 0x00000000#32
  let main_v22 : FVec F S4x4096x2048 .f32 := broadcastInDim S4x4096x2048 ![] bcast_S_S4x4096x2048 main_cst_7
  let main_v23 : IVec S4x4096x2048 1 := cmpf .oge main_arg5 main_v22
  let main_cst_8 : FVec F S_ .f32 := constant S_ .f32 0x7F800000#32
  let main_v24 : FVec F S4x4096x2048 .f32 := broadcastInDim S4x4096x2048 ![] bcast_S_S4x4096x2048 main_cst_8
  let main_v25 : IVec S4x4096x2048 1 := cmpf .olt main_arg5 main_v24
  let main_v26 : IVec S4x4096x2048 1 := andi main_v23 main_v25
  let main_cst_9 : FVec F S_ .f32 := constant S_ .f32 0x00000000#32
  let main_v27 : FVec F S4x32x2048 .f32 := broadcastInDim S4x32x2048 ![] bcast_S_S4x32x2048 main_cst_9
  let main_v28 : IVec S4x32x2048 1 := cmpf .oge main_arg6 main_v27
  let main_cst_10 : FVec F S_ .f32 := constant S_ .f32 0x7F800000#32
  let main_v29 : FVec F S4x32x2048 .f32 := broadcastInDim S4x32x2048 ![] bcast_S_S4x32x2048 main_cst_10
  let main_v30 : IVec S4x32x2048 1 := cmpf .olt main_arg6 main_v29
  let main_v31 : IVec S4x32x2048 1 := andi main_v28 main_v30
  let main_cst_11 : FVec F S_ .f32 := constant S_ .f32 0x00000000#32
  let main_v32 : FVec F S4x32x2048 .f32 := broadcastInDim S4x32x2048 ![] bcast_S_S4x32x2048 main_cst_11
  let main_v33 : IVec S4x32x2048 1 := cmpf .ogt main_arg7 main_v32
  let main_v34 : IVec S4x32x2048 1 := andi main_v31 main_v33
  fn_part2 (F := F) main_arg7 main_arg8 main_v5 main_v10 main_v21 main_v26 main_v34

def fn {F : FTy → Type} [FloatOps F] (main_arg0 : FVec F S4x4096x2048 .f32) (main_arg1 : FVec F S4x4096x2048 .bf16) (main_arg2 : FVec F S4x4096x2048 .f32) (main_arg3 : FVec F S4x32x2048 .f32) (main_arg4 : FVec F S4x32x2048 .f32) (main_arg5 : FVec F S4x4096x2048 .f32) (main_arg6 : FVec F S4x32x2048 .f32) (main_arg7 : FVec F S4x32x2048 .f32) (main_arg8 : IVec S_ 32) : IVec S4x4096x2048 1 × IVec S4x4096x2048 1 × IVec S4x32x2048 1 × IVec S4x4096x2048 1 × IVec S4x32x2048 1 × IVec S_ 1 :=
  let main_v0 : FVec F S4x4096x2048 .f32 := (extf .f32 · bitsLt_bf16_f32) main_arg1
  let main_cst : FVec F S_ .f32 := constant S_ .f32 0xFF800000#32
  let main_v1 : FVec F S4x4096x2048 .f32 := broadcastInDim S4x4096x2048 ![] bcast_S_S4x4096x2048 main_cst
  let main_v2 : IVec S4x4096x2048 1 := cmpf .ogt main_v0 main_v1
  let main_cst_0 : FVec F S_ .f32 := constant S_ .f32 0x7F800000#32
  let main_v3 : FVec F S4x4096x2048 .f32 := broadcastInDim S4x4096x2048 ![] bcast_S_S4x4096x2048 main_cst_0
  let main_v4 : IVec S4x4096x2048 1 := cmpf .olt main_v0 main_v3
  let main_v5 : IVec S4x4096x2048 1 := andi main_v2 main_v4
  let main_cst_1 : FVec F S_ .f32 := constant S_ .f32 0xFF800000#32
  let main_v6 : FVec F S4x4096x2048 .f32 := broadcastInDim S4x4096x2048 ![] bcast_S_S4x4096x2048 main_cst_1
  let main_v7 : IVec S4x4096x2048 1 := cmpf .ogt main_arg2 main_v6
  let main_cst_2 : FVec F S_ .f32 := constant S_ .f32 0x7F800000#32
  let main_v8 : FVec F S4x4096x2048 .f32 := broadcastInDim S4x4096x2048 ![] bcast_S_S4x4096x2048 main_cst_2
  let main_v9 : IVec S4x4096x2048 1 := cmpf .olt main_arg2 main_v8
  let main_v10 : IVec S4x4096x2048 1 := andi main_v7 main_v9
  let main_cst_3 : FVec F S_ .f32 := constant S_ .f32 0x00000000#32
  let main_v11 : FVec F S4x32x2048 .f32 := broadcastInDim S4x32x2048 ![] bcast_S_S4x32x2048 main_cst_3
  let main_v12 : IVec S4x32x2048 1 := cmpf .oge main_arg3 main_v11
  let main_cst_4 : FVec F S_ .f32 := constant S_ .f32 0x7F800000#32
  let main_v13 : FVec F S4x32x2048 .f32 := broadcastInDim S4x32x2048 ![] bcast_S_S4x32x2048 main_cst_4
  let main_v14 : IVec S4x32x2048 1 := cmpf .olt main_arg3 main_v13
  let main_v15 : IVec S4x32x2048 1 := andi main_v12 main_v14
  let main_cst_5 : FVec F S_ .f32 := constant S_ .f32 0x00000000#32
  let main_v16 : FVec F S4x32x2048 .f32 := broadcastInDim S4x32x2048 ![] bcast_S_S4x32x2048 main_cst_5
  fn_part1 (F := F) main_arg4 main_arg5 main_arg6 main_arg7 main_arg8 main_v5 main_v10 main_v15 main_v16
-- ==== Kernel.lean ====
abbrev S4x4096x2048 : Shape := ⟨3, ![4, 4096, 2048]⟩
abbrev S4x32x2048 : Shape := ⟨3, ![4, 32, 2048]⟩
abbrev S_ : Shape := ⟨0, ![]⟩
abbrev S1 : Shape := ⟨1, ![1]⟩
abbrev S1x1024x512 : Shape := ⟨3, ![1, 1024, 512]⟩
abbrev S1x8x512 : Shape := ⟨3, ![1, 8, 512]⟩
abbrev S1024x128 : Shape := ⟨2, ![1024, 128]⟩
abbrev S4x72x128 : Shape := ⟨3, ![4, 72, 128]⟩
abbrev S4x8x128 : Shape := ⟨3, ![4, 8, 128]⟩
abbrev S8x128 : Shape := ⟨2, ![8, 128]⟩
abbrev S1x128 : Shape := ⟨2, ![1, 128]⟩
abbrev S1x8x128 : Shape := ⟨3, ![1, 8, 128]⟩
abbrev S1x1x128 : Shape := ⟨3, ![1, 1, 128]⟩
abbrev S1x32x128 : Shape := ⟨3, ![1, 32, 128]⟩
abbrev S32x128 : Shape := ⟨2, ![32, 128]⟩
abbrev S1x72x128 : Shape := ⟨3, ![1, 72, 128]⟩
abbrev S72x128 : Shape := ⟨2, ![72, 128]⟩

abbrev nBuf : Space → Nat
  | .hbm => 20
  | .vmem => 35
  | .smem => 1
  | _ => 0

abbrev bufTy : (tb : Table) → Fin (tcTables nBuf tb) → BufTy
  | .hbm, ⟨0, _⟩ => ⟨S4x4096x2048, .f32⟩
  | .hbm, ⟨1, _⟩ => ⟨S4x4096x2048, .bf16⟩
  | .hbm, ⟨2, _⟩ => ⟨S4x4096x2048, .f32⟩
  | .hbm, ⟨3, _⟩ => ⟨S4x32x2048, .f32⟩
  | .hbm, ⟨4, _⟩ => ⟨S4x32x2048, .f32⟩
  | .hbm, ⟨5, _⟩ => ⟨S4x4096x2048, .f32⟩
  | .hbm, ⟨6, _⟩ => ⟨S4x32x2048, .f32⟩
  | .hbm, ⟨7, _⟩ => ⟨S4x32x2048, .f32⟩
  | .hbm, ⟨8, _⟩ => ⟨S_, .i32⟩
  | .hbm, ⟨9, _⟩ => ⟨S_, .f32⟩
  | .hbm, ⟨10, _⟩ => ⟨S1, .f32⟩
  | .hbm, ⟨11, _⟩ => ⟨S4x4096x2048, .fp8e4m3⟩
  | .hbm, ⟨12, _⟩ => ⟨S4x4096x2048, .fp8e4m3⟩
  | .hbm, ⟨13, _⟩ => ⟨S4x4096x2048, .f32⟩
  | .hbm, ⟨14, _⟩ => ⟨S4x4096x2048, .fp8e4m3⟩
  | .hbm, ⟨15, _⟩ => ⟨S4x32x2048, .f32⟩
  | .hbm, ⟨16, _⟩ => ⟨S4x32x2048, .f32⟩
  | .hbm, ⟨17, _⟩ => ⟨S4x4096x2048, .fp8e4m3⟩
  | .hbm, ⟨18, _⟩ => ⟨S4x32x2048, .f32⟩
  | .hbm, ⟨19, _⟩ => ⟨S4x32x2048, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .fp8e4m3⟩
  | .local _ .vmem, ⟨5, _⟩ => ⟨S1x1024x512, .fp8e4m3⟩
  | .local _ .vmem, ⟨6, _⟩ => ⟨S1x8x512, .f32⟩
  | .local _ .vmem, ⟨7, _⟩ => ⟨S1x8x512, .f32⟩
  | .local _ .vmem, ⟨8, _⟩ => ⟨S1x8x512, .f32⟩
  | .local _ .vmem, ⟨9, _⟩ => ⟨S1x8x512, .f32⟩
  | .local _ .vmem, ⟨10, _⟩ => ⟨S1x1024x512, .fp8e4m3⟩
  | .local _ .vmem, ⟨11, _⟩ => ⟨S1x1024x512, .fp8e4m3⟩
  | .local _ .vmem, ⟨12, _⟩ => ⟨S1x8x512, .f32⟩
  | .local _ .vmem, ⟨13, _⟩ => ⟨S1x8x512, .f32⟩
  | .local _ .vmem, ⟨14, _⟩ => ⟨S1x8x512, .f32⟩
  | .local _ .vmem, ⟨15, _⟩ => ⟨S1x8x512, .f32⟩
  | .local _ .vmem, ⟨16, _⟩ => ⟨S1x1024x512, .f32⟩
  | .local _ .vmem, ⟨17, _⟩ => ⟨S1x1024x512, .f32⟩
  | .local _ .vmem, ⟨18, _⟩ => ⟨S1x1024x512, .fp8e4m3⟩
  | .local _ .vmem, ⟨19, _⟩ => ⟨S1x1024x512, .fp8e4m3⟩
  | .local _ .vmem, ⟨20, _⟩ => ⟨S1x8x512, .f32⟩
  | .local _ .vmem, ⟨21, _⟩ => ⟨S1x8x512, .f32⟩
  | .local _ .vmem, ⟨22, _⟩ => ⟨S1x8x512, .f32⟩
  | .local _ .vmem, ⟨23, _⟩ => ⟨S1x8x512, .f32⟩
  | .local _ .vmem, ⟨24, _⟩ => ⟨S1x1024x512, .fp8e4m3⟩
  | .local _ .vmem, ⟨25, _⟩ => ⟨S1x1024x512, .fp8e4m3⟩
  | .local _ .vmem, ⟨26, _⟩ => ⟨S1x8x512, .f32⟩
  | .local _ .vmem, ⟨27, _⟩ => ⟨S1x8x512, .f32⟩
  | .local _ .vmem, ⟨28, _⟩ => ⟨S1x8x512, .f32⟩
  | .local _ .vmem, ⟨29, _⟩ => ⟨S1x8x512, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S4x72x128, .f32⟩
  | .local _ .vmem, ⟨34, _⟩ => ⟨S4x8x128, .f32⟩
  | .local _ .smem, ⟨0, _⟩ => ⟨S1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [BitOps F]

abbrev grid0 : Pipeline.Grid := ⟨3, ![4, 4, 4], ![false, false, false]⟩

@[reducible] def k0_t1_loop : Scf.Loop 32 :=
  let c0_i32 : BitVec 32 := 0#32
  let c4_i32 : BitVec 32 := 4#32
  let v29 : BitVec 32 := Scalar.addi c0_i32 c4_i32
  let c1_i32 : BitVec 32 := 1#32
  ⟨c0_i32, v29, c1_i32⟩
def k0_mult1 (k0_t1 : Fin k0_t1_loop.trips) : BitVec 32 :=
  let c0_i32 : BitVec 32 := 0#32
  let c1_i32 : BitVec 32 := 1#32
  let arg24 : BitVec 32 := Scf.iv c0_i32 c1_i32 k0_t1
  let c128_i32 : BitVec 32 := 128#32
  let v30 : BitVec 32 := Scalar.muli arg24 c128_i32
  v30
def k0_off1 (k0_t1 : Fin k0_t1_loop.trips) : Fin 3 → Nat :=
  let c0_10 : Index := 0#32
  let c0_11 : Index := 0#32
  let c0_i32 : BitVec 32 := 0#32
  let c1_i32 : BitVec 32 := 1#32
  let arg24 : BitVec 32 := Scf.iv c0_i32 c1_i32 k0_t1
  let c128_i32 : BitVec 32 := 128#32
  let v30 : BitVec 32 := Scalar.muli arg24 c128_i32
  let v31 : BitVec 32 := v30
  let v32 : Index := Scalar.indexCast v31
  ![0, 0, v32.toNat]
@[reducible] def k0_t2_loop : Scf.Loop 32 :=
  let c0_i32_35 : BitVec 32 := 0#32
  let c8_i32 : BitVec 32 := 8#32
  let v76 : BitVec 32 := Scalar.addi c0_i32_35 c8_i32
  let c1_i32_36 : BitVec 32 := 1#32
  ⟨c0_i32_35, v76, c1_i32_36⟩
def k0_off2 (k0_t2 : Fin k0_t2_loop.trips) : Fin 3 → Nat :=
  let c0_233 : Index := 0#32
  let c0_i32_35 : BitVec 32 := 0#32
  let c1_i32_36 : BitVec 32 := 1#32
  let arg25 : BitVec 32 := Scf.iv c0_i32_35 c1_i32_36 k0_t2
  let v280 : Index := Scalar.indexCast arg25
  let c0_234 : Index := 0#32
  ![0, v280.toNat, 0]
def k0_off3 (k0_t2 : Fin k0_t2_loop.trips) : Fin 3 → Nat :=
  let c1_235 : Index := 1#32
  let c0_i32_35 : BitVec 32 := 0#32
  let c1_i32_36 : BitVec 32 := 1#32
  let arg25 : BitVec 32 := Scf.iv c0_i32_35 c1_i32_36 k0_t2
  let v283 : Index := Scalar.indexCast arg25
  let c0_236 : Index := 0#32
  ![1, v283.toNat, 0]
def k0_off4 (k0_t2 : Fin k0_t2_loop.trips) : Fin 3 → Nat :=
  let c2_237 : Index := 2#32
  let c0_i32_35 : BitVec 32 := 0#32
  let c1_i32_36 : BitVec 32 := 1#32
  let arg25 : BitVec 32 := Scf.iv c0_i32_35 c1_i32_36 k0_t2
  let v286 : Index := Scalar.indexCast arg25
  let c0_238 : Index := 0#32
  ![2, v286.toNat, 0]
def k0_off5 (k0_t2 : Fin k0_t2_loop.trips) : Fin 3 → Nat :=
  let c3_239 : Index := 3#32
  let c0_i32_35 : BitVec 32 := 0#32
  let c1_i32_36 : BitVec 32 := 1#32
  let arg25 : BitVec 32 := Scf.iv c0_i32_35 c1_i32_36 k0_t2
  let v289 : Index := Scalar.indexCast arg25
  let c0_240 : Index := 0#32
  ![3, v289.toNat, 0]
def k0_mult2 (k0_t2 : Fin k0_t2_loop.trips) : BitVec 32 :=
  let c0_i32_35 : BitVec 32 := 0#32
  let c1_i32_36 : BitVec 32 := 1#32
  let arg25 : BitVec 32 := Scf.iv c0_i32_35 c1_i32_36 k0_t2
  let c128_i32_241 : BitVec 32 := 128#32
  let v292 : BitVec 32 := Scalar.muli arg25 c128_i32_241
  let c0_i32_242 : BitVec 32 := 0#32
  let v293 : BitVec 32 := Scalar.addi v292 c0_i32_242
  v293
def k0_off6 (k0_t1 : Fin k0_t1_loop.trips) (k0_t2 : Fin k0_t2_loop.trips) (c0_i32_242 : BitVec 32) : Fin 3 → Nat :=
  let c0_243 : Index := 0#32
  let c0_i32_35 : BitVec 32 := 0#32
  let c1_i32_36 : BitVec 32 := 1#32
  let arg25 : BitVec 32 := Scf.iv c0_i32_35 c1_i32_36 k0_t2
  let c128_i32_241 : BitVec 32 := 128#32
  let v292 : BitVec 32 := Scalar.muli arg25 c128_i32_241
  let v293 : BitVec 32 := Scalar.addi v292 c0_i32_242
  let v294 : BitVec 32 := v293
  let v295 : Index := Scalar.indexCast v294
  let c0_i32 : BitVec 32 := 0#32
  let c1_i32 : BitVec 32 := 1#32
  let arg24 : BitVec 32 := Scf.iv c0_i32 c1_i32 k0_t1
  let c128_i32 : BitVec 32 := 128#32
  let v30 : BitVec 32 := Scalar.muli arg24 c128_i32
  let v31 : BitVec 32 := v30
  let v296 : Index := Scalar.indexCast v31
  ![0, v295.toNat, v296.toNat]
def k0_off7 (k0_t2 : Fin k0_t2_loop.trips) (c0_i32_242 : BitVec 32) : Fin 2 → Nat :=
  let c0_i32_35 : BitVec 32 := 0#32
  let c1_i32_36 : BitVec 32 := 1#32
  let arg25 : BitVec 32 := Scf.iv c0_i32_35 c1_i32_36 k0_t2
  let c128_i32_241 : BitVec 32 := 128#32
  let v292 : BitVec 32 := Scalar.muli arg25 c128_i32_241
  let v293 : BitVec 32 := Scalar.addi v292 c0_i32_242
  let v294 : BitVec 32 := v293
  let v376 : Index := Scalar.indexCast v294
  let c0_258 : Index := 0#32
  ![v376.toNat, 0]
def k0_mult3 (k0_t2 : Fin k0_t2_loop.trips) : BitVec 32 :=
  let c0_i32_35 : BitVec 32 := 0#32
  let c1_i32_36 : BitVec 32 := 1#32
  let arg25 : BitVec 32 := Scf.iv c0_i32_35 c1_i32_36 k0_t2
  let c128_i32_266 : BitVec 32 := 128#32
  let v427 : BitVec 32 := Scalar.muli arg25 c128_i32_266
  let c32_i32 : BitVec 32 := 32#32
  let v428 : BitVec 32 := Scalar.addi v427 c32_i32
  v428
def k0_mult4 (k0_t2 : Fin k0_t2_loop.trips) : BitVec 32 :=
  let c0_i32_35 : BitVec 32 := 0#32
  let c1_i32_36 : BitVec 32 := 1#32
  let arg25 : BitVec 32 := Scf.iv c0_i32_35 c1_i32_36 k0_t2
  let c128_i32_291 : BitVec 32 := 128#32
  let v566 : BitVec 32 := Scalar.muli arg25 c128_i32_291
  let c64_i32 : BitVec 32 := 64#32
  let v567 : BitVec 32 := Scalar.addi v566 c64_i32
  v567
def k0_mult5 (k0_t2 : Fin k0_t2_loop.trips) : BitVec 32 :=
  let c0_i32_35 : BitVec 32 := 0#32
  let c1_i32_36 : BitVec 32 := 1#32
  let arg25 : BitVec 32 := Scf.iv c0_i32_35 c1_i32_36 k0_t2
  let c128_i32_316 : BitVec 32 := 128#32
  let v705 : BitVec 32 := Scalar.muli arg25 c128_i32_316
  let c96_i32 : BitVec 32 := 96#32
  let v706 : BitVec 32 := Scalar.addi v705 c96_i32
  v706
def k0_off8 (k0_t2 : Fin k0_t2_loop.trips) : Fin 2 → Nat :=
  let c0_i32_35 : BitVec 32 := 0#32
  let c1_i32_36 : BitVec 32 := 1#32
  let arg25 : BitVec 32 := Scf.iv c0_i32_35 c1_i32_36 k0_t2
  let v846 : Index := Scalar.indexCast arg25
  let c0_344 : Index := 0#32
  ![v846.toNat, 0]
@[reducible] def k0_t3_loop : Scf.Loop 32 :=
  let c0_i32_229 : BitVec 32 := 0#32
  let c8_i32_230 : BitVec 32 := 8#32
  let v279 : BitVec 32 := Scalar.addi c0_i32_229 c8_i32_230
  let c1_i32_231 : BitVec 32 := 1#32
  ⟨c0_i32_229, v279, c1_i32_231⟩
def k0_off9 (k0_t3 : Fin k0_t3_loop.trips) : Fin 3 → Nat :=
  let c0_233 : Index := 0#32
  let c0_i32_229 : BitVec 32 := 0#32
  let c1_i32_231 : BitVec 32 := 1#32
  let arg25 : BitVec 32 := Scf.iv c0_i32_229 c1_i32_231 k0_t3
  let v280 : Index := Scalar.indexCast arg25
  let c0_234 : Index := 0#32
  ![0, v280.toNat, 0]
def k0_off10 (k0_t3 : Fin k0_t3_loop.trips) : Fin 3 → Nat :=
  let c1_235 : Index := 1#32
  let c0_i32_229 : BitVec 32 := 0#32
  let c1_i32_231 : BitVec 32 := 1#32
  let arg25 : BitVec 32 := Scf.iv c0_i32_229 c1_i32_231 k0_t3
  let v283 : Index := Scalar.indexCast arg25
  let c0_236 : Index := 0#32
  ![1, v283.toNat, 0]
def k0_off11 (k0_t3 : Fin k0_t3_loop.trips) : Fin 3 → Nat :=
  let c2_237 : Index := 2#32
  let c0_i32_229 : BitVec 32 := 0#32
  let c1_i32_231 : BitVec 32 := 1#32
  let arg25 : BitVec 32 := Scf.iv c0_i32_229 c1_i32_231 k0_t3
  let v286 : Index := Scalar.indexCast arg25
  let c0_238 : Index := 0#32
  ![2, v286.toNat, 0]
def k0_off12 (k0_t3 : Fin k0_t3_loop.trips) : Fin 3 → Nat :=
  let c3_239 : Index := 3#32
  let c0_i32_229 : BitVec 32 := 0#32
  let c1_i32_231 : BitVec 32 := 1#32
  let arg25 : BitVec 32 := Scf.iv c0_i32_229 c1_i32_231 k0_t3
  let v289 : Index := Scalar.indexCast arg25
  let c0_240 : Index := 0#32
  ![3, v289.toNat, 0]
def k0_mult6 (k0_t3 : Fin k0_t3_loop.trips) : BitVec 32 :=
  let c0_i32_229 : BitVec 32 := 0#32
  let c1_i32_231 : BitVec 32 := 1#32
  let arg25 : BitVec 32 := Scf.iv c0_i32_229 c1_i32_231 k0_t3
  let c128_i32_241 : BitVec 32 := 128#32
  let v292 : BitVec 32 := Scalar.muli arg25 c128_i32_241
  let c0_i32_242 : BitVec 32 := 0#32
  let v293 : BitVec 32 := Scalar.addi v292 c0_i32_242
  v293
def k0_off13 (k0_t3 : Fin k0_t3_loop.trips) (c0_i32_242 : BitVec 32) : Fin 2 → Nat :=
  let c0_i32_229 : BitVec 32 := 0#32
  let c1_i32_231 : BitVec 32 := 1#32
  let arg25 : BitVec 32 := Scf.iv c0_i32_229 c1_i32_231 k0_t3
  let c128_i32_241 : BitVec 32 := 128#32
  let v292 : BitVec 32 := Scalar.muli arg25 c128_i32_241
  let v293 : BitVec 32 := Scalar.addi v292 c0_i32_242
  let v294 : BitVec 32 := v293
  let v295 : Index := Scalar.indexCast v294
  let c0_243 : Index := 0#32
  ![v295.toNat, 0]
def k0_off14 (k0_t1 : Fin k0_t1_loop.trips) (k0_t3 : Fin k0_t3_loop.trips) (c0_i32_242 : BitVec 32) : Fin 3 → Nat :=
  let c0_248 : Index := 0#32
  let c0_i32_229 : BitVec 32 := 0#32
  let c1_i32_231 : BitVec 32 := 1#32
  let arg25 : BitVec 32 := Scf.iv c0_i32_229 c1_i32_231 k0_t3
  let c128_i32_241 : BitVec 32 := 128#32
  let v292 : BitVec 32 := Scalar.muli arg25 c128_i32_241
  let v293 : BitVec 32 := Scalar.addi v292 c0_i32_242
  let v294 : BitVec 32 := v293
  let v317 : Index := Scalar.indexCast v294
  let c0_i32 : BitVec 32 := 0#32
  let c1_i32 : BitVec 32 := 1#32
  let arg24 : BitVec 32 := Scf.iv c0_i32 c1_i32 k0_t1
  let c128_i32 : BitVec 32 := 128#32
  let v30 : BitVec 32 := Scalar.muli arg24 c128_i32
  let v31 : BitVec 32 := v30
  let v318 : Index := Scalar.indexCast v31
  ![0, v317.toNat, v318.toNat]
def k0_mult7 (k0_t3 : Fin k0_t3_loop.trips) : BitVec 32 :=
  let c0_i32_229 : BitVec 32 := 0#32
  let c1_i32_231 : BitVec 32 := 1#32
  let arg25 : BitVec 32 := Scf.iv c0_i32_229 c1_i32_231 k0_t3
  let c128_i32_252 : BitVec 32 := 128#32
  let v337 : BitVec 32 := Scalar.muli arg25 c128_i32_252
  let c32_i32 : BitVec 32 := 32#32
  let v338 : BitVec 32 := Scalar.addi v337 c32_i32
  v338
def k0_mult8 (k0_t3 : Fin k0_t3_loop.trips) : BitVec 32 :=
  let c0_i32_229 : BitVec 32 := 0#32
  let c1_i32_231 : BitVec 32 := 1#32
  let arg25 : BitVec 32 := Scf.iv c0_i32_229 c1_i32_231 k0_t3
  let c128_i32_263 : BitVec 32 := 128#32
  let v382 : BitVec 32 := Scalar.muli arg25 c128_i32_263
  let c64_i32 : BitVec 32 := 64#32
  let v383 : BitVec 32 := Scalar.addi v382 c64_i32
  v383
def k0_mult9 (k0_t3 : Fin k0_t3_loop.trips) : BitVec 32 :=
  let c0_i32_229 : BitVec 32 := 0#32
  let c1_i32_231 : BitVec 32 := 1#32
  let arg25 : BitVec 32 := Scf.iv c0_i32_229 c1_i32_231 k0_t3
  let c128_i32_274 : BitVec 32 := 128#32
  let v427 : BitVec 32 := Scalar.muli arg25 c128_i32_274
  let c96_i32 : BitVec 32 := 96#32
  let v428 : BitVec 32 := Scalar.addi v427 c96_i32
  v428
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1024x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1024x512 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== KernelIdeal.lean ====
variable {F : FTy → Type} [FloatOps F] [Named F]
def κ : String → Option EReal := fun
  | "ln2" => some ((Real.log 2 : ℝ) : EReal)
  | "log2_beta1" => some (((Real.log (9 / 10)) * (Real.log 2)⁻¹ : ℝ) : EReal)
  | "log2_beta2" => some (((Real.log (19 / 20)) * (Real.log 2)⁻¹ : ℝ) : EReal)
  | "log2_fp8_max" => some (((Real.log 448) * (Real.log 2)⁻¹ : ℝ) : EReal)
  | "log_range" => some ((Real.log 229376 : ℝ) : EReal)
  | "log_range_8" => some (((Real.log 229376) * (1 / 8) : ℝ) : EReal)
  | "ten_eps" => some ((1 / 10000000 : ℝ) : EReal)
  | "tenth" => some ((1 / 10 : ℝ) : EReal)
  | "twentieth" => some ((1 / 20 : ℝ) : EReal)
  | _ => none
-- ==== ReferenceIdeal.lean ====
abbrev S4x4096x2048 : Shape := ⟨3, ![4, 4096, 2048]⟩
abbrev S4x32x2048 : Shape := ⟨3, ![4, 32, 2048]⟩
abbrev S_ : Shape := ⟨0, ![]⟩
abbrev S1x1x1 : Shape := ⟨3, ![1, 1, 1]⟩
abbrev S4x32x128x2048 : Shape := ⟨4, ![4, 32, 128, 2048]⟩
abbrev S4x32x1x2048 : Shape := ⟨4, ![4, 32, 1, 2048]⟩

abbrev nBuf : Space → Nat
  | .hbm => 20
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .bf16⟩
  | .hbm, ⟨2, _⟩ => ⟨S4x4096x2048, .f32⟩
  | .hbm, ⟨3, _⟩ => ⟨S4x32x2048, .f32⟩
  | .hbm, ⟨4, _⟩ => ⟨S4x32x2048, .f32⟩
  | .hbm, ⟨5, _⟩ => ⟨S4x4096x2048, .f32⟩
  | .hbm, ⟨6, _⟩ => ⟨S4x32x2048, .f32⟩
  | .hbm, ⟨7, _⟩ => ⟨S4x32x2048, .f32⟩
  | .hbm, ⟨8, _⟩ => ⟨S_, .i32⟩
  | .hbm, ⟨9, _⟩ => ⟨S4x4096x2048, .fp8e4m3⟩
  | .hbm, ⟨10, _⟩ => ⟨S4x4096x2048, .fp8e4m3⟩
  | .hbm, ⟨11, _⟩ => ⟨S_, .f32⟩
  | .hbm, ⟨12, _⟩ => ⟨S1x1x1, .f32⟩
  | .hbm, ⟨13, _⟩ => ⟨S4x4096x2048, .f32⟩
  | .hbm, ⟨14, _⟩ => ⟨S4x4096x2048, .fp8e4m3⟩
  | .hbm, ⟨15, _⟩ => ⟨S4x32x2048, .f32⟩
  | .hbm, ⟨16, _⟩ => ⟨S4x32x2048, .f32⟩
  | .hbm, ⟨17, _⟩ => ⟨S4x4096x2048, .fp8e4m3⟩
  | .hbm, ⟨18, _⟩ => ⟨S4x32x2048, .f32⟩
  | .hbm, ⟨19, _⟩ => ⟨S4x32x2048, .f32⟩
  | .local _ .vmem, ⟨0, _⟩ => ⟨S4x4096x2048, .f32⟩
  | .local _ .vmem, ⟨1, _⟩ => ⟨S4x4096x2048, .bf16⟩
  | .local _ .vmem, ⟨2, _⟩ => ⟨S4x4096x2048, .fp8e4m3⟩
  | .local _ .vmem, ⟨3, _⟩ => ⟨S4x32x2048, .f32⟩
  | .local _ .vmem, ⟨4, _⟩ => ⟨S4x32x2048, .f32⟩
  | .local _ .vmem, ⟨5, _⟩ => ⟨S4x4096x2048, .fp8e4m3⟩
  | .local _ .vmem, ⟨6, _⟩ => ⟨S4x32x2048, .f32⟩
  | .local _ .vmem, ⟨7, _⟩ => ⟨S4x32x2048, .f32⟩
  | .local _ .vmem, ⟨8, _⟩ => ⟨S1x1x1, .f32⟩
  | .local _ .vmem, ⟨9, _⟩ => ⟨S4x4096x2048, .f32⟩
  | .local _ .vmem, ⟨10, _⟩ => ⟨S4x4096x2048, .fp8e4m3⟩
  | .local _ .vmem, ⟨11, _⟩ => ⟨S4x32x2048, .f32⟩
  | .local _ .vmem, ⟨12, _⟩ => ⟨S4x32x2048, .f32⟩
  | .local _ .vmem, ⟨13, _⟩ => ⟨S4x4096x2048, .fp8e4m3⟩
  | .local _ .vmem, ⟨14, _⟩ => ⟨S4x32x2048, .f32⟩
  | .local _ .vmem, ⟨15, _⟩ => ⟨S4x32x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F] [Named F]

def κ : String → Option EReal := fun
  | "beta1" => some ((9 / 10 : ℝ) : EReal)
  | "beta2" => some ((19 / 20 : ℝ) : EReal)
  | "eps" => some ((1 / 100000000 : ℝ) : EReal)
  | "log_range" => some ((Real.log 229376 : ℝ) : EReal)
  | "log_range_8" => some (((Real.log 229376) * (1 / 8) : ℝ) : EReal)
  | "tenth" => some ((1 / 10 : ℝ) : EReal)
  | "twentieth" => some ((1 / 20 : ℝ) : EReal)
  | _ => none

abbrev grid0 : Pipeline.Grid := .none

abbrev stage0_0 : Fin 1 → Memref sig .tc .vmem S4x4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x4096x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4096x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x4096x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x4096x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x32x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x32x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x4096x2048 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x32x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x32x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.KernelFrame.lean ====
/- The frame of `Kernel`: no access of the kernel leaves its buffer and the arguments end unchanged, whatever the
   floats are. Nothing is said here of what the outputs hold, so every loop invariant just holds the buffers the
   loop writes at some contents. -/
module

public import proofs.«01_k».proof.Proof.Gen.Kernel.Loops
public import proofs.«01_k».proof.Proof.Gen.Kernel.Frame
public import proofs.«01_k».proof.Proof.Gen.Kernel.Launch
public import proofs.«01_k».proof.Proof.Gen.Kernel.Points
public import Idealize.ShloMosaic.Lib.Pipeline.FrameBody
public import Idealize.ShloMosaic.Lib.Claim
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

set_option sl_exec.squeezeSlice true in
/-- One trip of the loop over the groups of a strip, the buffers it writes at any contents before and after. -/
theorem trip_k0_t2 (𝒱 : Variants) (c : Dev nD) (bd : Option 𝒱.V) (E : Set ℕ) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v25 : FVec F S1x128 .f32) (v28 : FVec F S1x128 .f32) (k0_t1 : Fin k0_t1_loop.trips) (v31 : BitVec 32) (v41 : FVec F S8x128 .f32) (X4 : BufTy.Contents (Elt F) arg4.view.ty) (X5 : BufTy.Contents (Elt F) arg5.view.ty) (X6 : BufTy.Contents (Elt F) arg6.view.ty) (X9 : BufTy.Contents (Elt F) arg9.view.ty) (X23 : BufTy.Contents (Elt F) arg23.view.ty) (k : Fin k0_t2_loop.trips) (f12 : BufTy.Contents (Elt F) arg12.view.ty) (f19 : BufTy.Contents (Elt F) arg19.view.ty) (f20 : BufTy.Contents (Elt F) arg20.view.ty) (f21 : BufTy.Contents (Elt F) arg21.view.ty) (f22 : BufTy.Contents (Elt F) arg22.view.ty) :
    (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg23.view.loc (c : Thread nD τ) ↦[arg23.view.set]{fullShare} X23) ∗ (arg12.view.loc (c : Thread nD τ) ↦[arg12.view.set]{fullShare} f12) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)) : sProp 𝕄G)
    ⊢ wp frame (wpE (defs₀ (F := F)) 𝒱 (c : Thread nD τ) bd) E (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 k PUnit.unit)
      (fun _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg23.view.loc (c : Thread nD τ) ↦[arg23.view.set]{fullShare} X23) ∗ (∃ f, (arg12.view.loc (c : Thread nD τ) ↦[arg12.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)))) := by
  have hk : k.val < 8 := Nat.lt_of_lt_of_le k.isLt k0_t2_abs.2.1
  unfold k0_t2_body
  iintro ⟨HR4, HR5, HR6, HR9, HR23, HW12, HW19, HW20, HW21, HW22⟩
  sl_exec
  sl_step
  sl_close

set_option warn.classDefReducibility false in
/-- The loop over the groups of a strip by its invariant: what it reads at its contents, what it writes at some contents. -/
@[sl_loop] def loopInv_k0_t2 (𝒱 : Variants) (c : Dev nD) (bd : Option 𝒱.V) (E : Set ℕ) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v25 : FVec F S1x128 .f32) (v28 : FVec F S1x128 .f32) (k0_t1 : Fin k0_t1_loop.trips) (v31 : BitVec 32) (v41 : FVec F S8x128 .f32) (X4 : BufTy.Contents (Elt F) arg4.view.ty) (X5 : BufTy.Contents (Elt F) arg5.view.ty) (X6 : BufTy.Contents (Elt F) arg6.view.ty) (X9 : BufTy.Contents (Elt F) arg9.view.ty) (X23 : BufTy.Contents (Elt F) arg23.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 where
  inv := fun _ _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg23.view.loc (c : Thread nD τ) ↦[arg23.view.set]{fullShare} X23) ∗ (∃ f, (arg12.view.loc (c : Thread nD τ) ↦[arg12.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)))
  step k acc := by
    iintro ⟨HR4, HR5, HR6, HR9, HR23, ⟨%f12, HW12⟩, ⟨%f19, HW19⟩, ⟨%f20, HW20⟩, ⟨%f21, HW21⟩, ⟨%f22, HW22⟩⟩
    iapply (trip_k0_t2 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k f12 f19 f20 f21 f22)
    isplitl [HR4]; · iexact HR4
    isplitl [HR5]; · iexact HR5
    isplitl [HR6]; · iexact HR6
    isplitl [HR9]; · iexact HR9
    isplitl [HR23]; · iexact HR23
    isplitl [HW12]; · iexact HW12
    isplitl [HW19]; · iexact HW19
    isplitl [HW20]; · iexact HW20
    isplitl [HW21]; · iexact HW21
    iexact HW22

set_option sl_exec.squeezeSlice true in
/-- One trip of the loop over the strips, the buffers it writes at any contents before and after. -/
theorem trip_k0_t1 (𝒱 : Variants) (c : Dev nD) (bd : Option 𝒱.V) (E : Set ℕ) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v0 : Elt F .f32) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (k : Fin k0_t1_loop.trips) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) :
    (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23)) : sProp 𝕄G)
    ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 k PUnit.unit)
      (fun _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)))) := by
  have hk : k.val < 4 := Nat.lt_of_lt_of_le k.isLt k0_t1_abs.2.1
  unfold k0_t1_body
  iintro ⟨HR4, HR5, HR6, HR7, HR8, HR9, HR10, HR11, HW12, HW13, HW14, HW15, HW16, HW17, HW18, HW19, HW20, HW21, HW22, HW23⟩
  sl_exec
  sl_step
  sl_close

set_option warn.classDefReducibility false in
/-- The loop over the strips by its invariant: what it reads at its contents, what it writes at some contents. -/
@[sl_loop] def loopInv_k0_t1 (𝒱 : Variants) (c : Dev nD) (bd : Option 𝒱.V) (E : Set ℕ) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v0 : Elt F .f32) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 where
  inv := fun _ _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)))
  step k acc := by
    iintro ⟨HR4, HR5, HR6, HR7, HR8, HR9, HR10, HR11, ⟨%f12, HW12⟩, ⟨%f13, HW13⟩, ⟨%f14, HW14⟩, ⟨%f15, HW15⟩, ⟨%f16, HW16⟩, ⟨%f17, HW17⟩, ⟨%f18, HW18⟩, ⟨%f19, HW19⟩, ⟨%f20, HW20⟩, ⟨%f21, HW21⟩, ⟨%f22, HW22⟩, ⟨%f23, HW23⟩⟩
    iapply (trip_k0_t1 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23)
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HW12]; · iexact HW12
    isplitl [HW13]; · iexact HW13
    isplitl [HW14]; · iexact HW14
    isplitl [HW15]; · iexact HW15
    isplitl [HW16]; · iexact HW16
    isplitl [HW17]; · iexact HW17
    isplitl [HW18]; · iexact HW18
    isplitl [HW19]; · iexact HW19
    isplitl [HW20]; · iexact HW20
    isplitl [HW21]; · iexact HW21
    isplitl [HW22]; · iexact HW22
    iexact HW23

/-! ## The body -/

/-- The body on any buffers: the inputs are owned before and after at the same contents, the outputs and the scratch
    buffers at some. -/
theorem kernel_run (c : Dev nD) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (Y3 : S1.Idx → Elt F .f32) (Y4 : S1x1024x512.Idx → Elt F .f32) (Y5 : S1x1024x512.Idx → Elt F .bf16) (Y6 : S1x1024x512.Idx → Elt F .fp8e4m3) (Y7 : S1x8x512.Idx → Elt F .f32) (Y8 : S1x8x512.Idx → Elt F .f32) (Y9 : S1x1024x512.Idx → Elt F .fp8e4m3) (Y10 : S1x8x512.Idx → Elt F .f32) (Y11 : S1x8x512.Idx → Elt F .f32) :
    (iprop(owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f))) : sProp 𝕄G)
    ⊢ wp frame (wpE (defs₀ (F := F)) Variants.none (c : Thread nD τ) none) Set.univ (cc0_coat_adamw (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
      (fun _ => iprop(owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)))) := by
  rw [cc0_coat_adamw_eq_skeleton]
  unfold cc0_coat_adamw_skel owns
  iintro ⟨⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, ⟨%g11, %e11, H11⟩, ⟨%d12, %g12, %e12, H12⟩, ⟨%d13, %g13, %e13, H13⟩, ⟨%d14, %g14, %e14, H14⟩, ⟨%d15, %g15, %e15, H15⟩, ⟨%d16, %g16, %e16, H16⟩, ⟨%d17, %g17, %e17, H17⟩, ⟨%d18, %g18, %e18, H18⟩, ⟨%f19, H19⟩, ⟨%f20, H20⟩, ⟨%f21, H21⟩, ⟨%f22, H22⟩, ⟨%f23, H23⟩⟩
  sl_exec
  sl_step
  isplitl [H3]
  · iexists g3; isplitr; · ipureintro; exact e3
    iexact H3
  isplitl [H4]
  · iexists g4; isplitr; · ipureintro; exact e4
    iexact H4
  isplitl [H5]
  · iexists g5; isplitr; · ipureintro; exact e5
    iexact H5
  isplitl [H6]
  · iexists g6; isplitr; · ipureintro; exact e6
    iexact H6
  isplitl [H7]
  · iexists g7; isplitr; · ipureintro; exact e7
    iexact H7
  isplitl [H8]
  · iexists g8; isplitr; · ipureintro; exact e8
    iexact H8
  isplitl [H9]
  · iexists g9; isplitr; · ipureintro; exact e9
    iexact H9
  isplitl [H10]
  · iexists g10; isplitr; · ipureintro; exact e10
    iexact H10
  isplitl [H11]
  · iexists g11; isplitr; · ipureintro; exact e11
    iexact H11
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [H18]
  · iexists _; iexists _; isplitr; swap; · iexact H18
    ipureintro; rfl
  isplitl [H19]
  · iexists _; iexact H19
  isplitl [H20]
  · iexists _; iexact H20
  isplitl [H21]
  · iexists _; iexact H21
  isplitl [H22]
  · iexists _; iexact H22
  iexists _; iexact H23

/-! ## The proof data and the body obligation -/

local notation "𝕄" => MT nD τ sig Unit (Elt F) ℕ (UR sig nD τ) ℕ

variable (m : (ℓ : Loc nD τ sig) → Buf (Elt F) ℓ) (ρ : Dev nD → PrngReg)

/-- The outputs, of which the frame says nothing. -/
def forgets : Fin 16 → Bool := fun w => decide (9 ≤ w.val)

/-- The proof data on a core: the arrays as the region finds them, each input block left as it was, the outputs
    unnamed, the scratch buffers at some contents between points. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
    | ⟨15, _⟩ => Pipeline.Dat.unnamed (cfg := cfg0) 15 t
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

/-- A scratch buffer held whole is its whole memref held. -/
theorem whole_eq (c : Dev nD) (b : Ref sig .tc) (f : Buf (Elt F) ((c : Thread nD τ).loc b)) :
    (((c : Thread nD τ).loc b ↦{fullShare} f) : sProp 𝕄)
      = ((Memref.whole b).view.loc (c : Thread nD τ) ↦[(Memref.whole b).view.set]{fullShare} f) := by
  simp only [Memref.view_whole, View.set_whole]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8]
  unfold Pipeline.ΦA
  rw [scopedRest0_eq]
  simp only [whole_eq]
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13, H14, H15⟩
  iapply (wp_wand_r Idealize.ShloMosaic.frame (wpE (defs₀ (F := F)) Variants.none (c : Thread nD τ) none) Set.univ)
  isplitl [H0 H1 H2 H3 H4 H5 H6 H7 H8 H9 H10 H11 H12 H13 H14 H15 S0 S1 S2 S3 S4]
  · iapply (kernel_run c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [S0]; · iexact S0
    isplitl [S1]; · iexact S1
    isplitl [S2]; · iexact S2
    isplitl [S3]; · iexact S3
    iexact S4
  · iintro %_ ⟨H0, H1, H2, H3, H4, H5, H6, H7, H8, H9, H10, H11, H12, H13, H14, H15, S0, S1, S2, S3, S4⟩
    isplitl [S0 S1 S2 S3 S4 Hr]
    · isplitl [S0 S1 S2 S3 S4]
      · isplitl [S0]; · iexact S0
        isplitl [S1]; · iexact S1
        isplitl [S2]; · iexact S2
        isplitl [S3]; · iexact S3
        iexact S4
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) :
    Pipeline.BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- The launch: every execution of @main terminates, each array ends at contents its write-backs allow, every other
    buffer as the region found it, and every semaphore counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input array after the run is as the region found it. -/
theorem arr_in {r : PUnit × MemSt nD τ sig (Elt F)}
    (h : Pipeline.RDat.FramePost (cfgs 0) (fun c => (dats m 0 c).toRForget forgets) (V m) r) (c : Dev nD) (w : Fin 16)
    (hw : ((cfgs 0).win w).isOut = false) : r.2.mem (((cfgs 0).spec w).arr.view.loc (c.tc : Thread nD τ)) = (dats m 0 c).A w := by
  have := (h c).1 w
  rw [Pipeline.RDat.ArrAt_in _ _ hw] at this
  exact this

/-- The frame: every argument array ends as it was launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(arr_in m h.1 c 1 rfl).trans ((A_eq m c 1).trans (V_main_arg0 m c)),
      (arr_in m h.1 c 2 rfl).trans ((A_eq m c 2).trans (V_main_arg1 m c)),
      ((h.1 c).2 main_arg2 (Pipeline.mem_restRefs_of main_arg2 (by decide) (by decide))).trans (V_main_arg2 m c),
      (arr_in m h.1 c 4 rfl).trans ((A_eq m c 4).trans (V_main_arg3 m c)),
      (arr_in m h.1 c 5 rfl).trans ((A_eq m c 5).trans (V_main_arg4 m c)),
      ((h.1 c).2 main_arg5 (Pipeline.mem_restRefs_of main_arg5 (by decide) (by decide))).trans (V_main_arg5 m c),
      (arr_in m h.1 c 7 rfl).trans ((A_eq m c 7).trans (V_main_arg6 m c)),
      (arr_in m h.1 c 8 rfl).trans ((A_eq m c 8).trans (V_main_arg7 m c)),
      ((h.1 c).2 main_arg8 (Pipeline.mem_restRefs_of main_arg8 (by decide) (by decide))).trans (V_main_arg8 m c)⟩, h.2⟩) (run_main m ρ)

end Cert.Proof.Kernel

end
-- ==== Proof.KernelIdealFrame.lean ====
/- The frame of `KernelIdeal`: no access of the kernel leaves its buffer and the arguments end unchanged, whatever the
   floats are. Nothing is said here of what the outputs hold, so every loop invariant just holds the buffers the
   loop writes at some contents. -/
module

public import proofs.«01_k».proof.Proof.Gen.KernelIdeal.Loops
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.Claim
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option sl_exec.squeezeSlice true in
/-- One trip of the loop over the groups of a strip, the buffers it writes at any contents before and after. -/
theorem trip_k0_t2 (𝒱 : Variants) (c : Dev nD) (bd : Option 𝒱.V) (E : Set ℕ) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v25 : FVec F S1x128 .f32) (v28 : FVec F S1x128 .f32) (k0_t1 : Fin k0_t1_loop.trips) (v31 : BitVec 32) (v41 : FVec F S8x128 .f32) (X4 : BufTy.Contents (Elt F) arg4.view.ty) (X5 : BufTy.Contents (Elt F) arg5.view.ty) (X6 : BufTy.Contents (Elt F) arg6.view.ty) (X9 : BufTy.Contents (Elt F) arg9.view.ty) (X23 : BufTy.Contents (Elt F) arg23.view.ty) (k : Fin k0_t2_loop.trips) (f12 : BufTy.Contents (Elt F) arg12.view.ty) (f19 : BufTy.Contents (Elt F) arg19.view.ty) (f20 : BufTy.Contents (Elt F) arg20.view.ty) (f21 : BufTy.Contents (Elt F) arg21.view.ty) (f22 : BufTy.Contents (Elt F) arg22.view.ty) :
    (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg23.view.loc (c : Thread nD τ) ↦[arg23.view.set]{fullShare} X23) ∗ (arg12.view.loc (c : Thread nD τ) ↦[arg12.view.set]{fullShare} f12) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)) : sProp 𝕄G)
    ⊢ wp frame (wpE (defs₀ (F := F)) 𝒱 (c : Thread nD τ) bd) E (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 k PUnit.unit)
      (fun _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg23.view.loc (c : Thread nD τ) ↦[arg23.view.set]{fullShare} X23) ∗ (∃ f, (arg12.view.loc (c : Thread nD τ) ↦[arg12.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)))) := by
  have hk : k.val < 8 := Nat.lt_of_lt_of_le k.isLt k0_t2_abs.2.1
  unfold k0_t2_body
  iintro ⟨HR4, HR5, HR6, HR9, HR23, HW12, HW19, HW20, HW21, HW22⟩
  sl_exec
  sl_step
  sl_close

set_option warn.classDefReducibility false in
/-- The loop over the groups of a strip by its invariant: what it reads at its contents, what it writes at some contents. -/
@[sl_loop] def loopInv_k0_t2 (𝒱 : Variants) (c : Dev nD) (bd : Option 𝒱.V) (E : Set ℕ) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v25 : FVec F S1x128 .f32) (v28 : FVec F S1x128 .f32) (k0_t1 : Fin k0_t1_loop.trips) (v31 : BitVec 32) (v41 : FVec F S8x128 .f32) (X4 : BufTy.Contents (Elt F) arg4.view.ty) (X5 : BufTy.Contents (Elt F) arg5.view.ty) (X6 : BufTy.Contents (Elt F) arg6.view.ty) (X9 : BufTy.Contents (Elt F) arg9.view.ty) (X23 : BufTy.Contents (Elt F) arg23.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 where
  inv := fun _ _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg23.view.loc (c : Thread nD τ) ↦[arg23.view.set]{fullShare} X23) ∗ (∃ f, (arg12.view.loc (c : Thread nD τ) ↦[arg12.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)))
  step k acc := by
    iintro ⟨HR4, HR5, HR6, HR9, HR23, ⟨%f12, HW12⟩, ⟨%f19, HW19⟩, ⟨%f20, HW20⟩, ⟨%f21, HW21⟩, ⟨%f22, HW22⟩⟩
    iapply (trip_k0_t2 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k f12 f19 f20 f21 f22)
    isplitl [HR4]; · iexact HR4
    isplitl [HR5]; · iexact HR5
    isplitl [HR6]; · iexact HR6
    isplitl [HR9]; · iexact HR9
    isplitl [HR23]; · iexact HR23
    isplitl [HW12]; · iexact HW12
    isplitl [HW19]; · iexact HW19
    isplitl [HW20]; · iexact HW20
    isplitl [HW21]; · iexact HW21
    iexact HW22

set_option sl_exec.squeezeSlice true in
/-- One trip of the loop over the strips, the buffers it writes at any contents before and after. -/
theorem trip_k0_t1 (𝒱 : Variants) (c : Dev nD) (bd : Option 𝒱.V) (E : Set ℕ) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v0 : Elt F .f32) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (k : Fin k0_t1_loop.trips) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) :
    (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23)) : sProp 𝕄G)
    ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 k PUnit.unit)
      (fun _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)))) := by
  have hk : k.val < 4 := Nat.lt_of_lt_of_le k.isLt k0_t1_abs.2.1
  unfold k0_t1_body
  iintro ⟨HR4, HR5, HR6, HR7, HR8, HR9, HR10, HR11, HW12, HW13, HW14, HW15, HW16, HW17, HW18, HW19, HW20, HW21, HW22, HW23⟩
  sl_exec
  sl_step
  sl_close

set_option warn.classDefReducibility false in
/-- The loop over the strips by its invariant: what it reads at its contents, what it writes at some contents. -/
@[sl_loop] def loopInv_k0_t1 (𝒱 : Variants) (c : Dev nD) (bd : Option 𝒱.V) (E : Set ℕ) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v0 : Elt F .f32) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 where
  inv := fun _ _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)))
  step k acc := by
    iintro ⟨HR4, HR5, HR6, HR7, HR8, HR9, HR10, HR11, ⟨%f12, HW12⟩, ⟨%f13, HW13⟩, ⟨%f14, HW14⟩, ⟨%f15, HW15⟩, ⟨%f16, HW16⟩, ⟨%f17, HW17⟩, ⟨%f18, HW18⟩, ⟨%f19, HW19⟩, ⟨%f20, HW20⟩, ⟨%f21, HW21⟩, ⟨%f22, HW22⟩, ⟨%f23, HW23⟩⟩
    iapply (trip_k0_t1 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23)
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HW12]; · iexact HW12
    isplitl [HW13]; · iexact HW13
    isplitl [HW14]; · iexact HW14
    isplitl [HW15]; · iexact HW15
    isplitl [HW16]; · iexact HW16
    isplitl [HW17]; · iexact HW17
    isplitl [HW18]; · iexact HW18
    isplitl [HW19]; · iexact HW19
    isplitl [HW20]; · iexact HW20
    isplitl [HW21]; · iexact HW21
    isplitl [HW22]; · iexact HW22
    iexact HW23

/-! ## The body -/

/-- The body on any buffers: the inputs are owned before and after at the same contents, the outputs and the scratch
    buffers at some. -/
theorem kernel_run (c : Dev nD) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (Y3 : S1.Idx → Elt F .f32) (Y4 : S1x1024x512.Idx → Elt F .f32) (Y5 : S1x1024x512.Idx → Elt F .bf16) (Y6 : S1x1024x512.Idx → Elt F .fp8e4m3) (Y7 : S1x8x512.Idx → Elt F .f32) (Y8 : S1x8x512.Idx → Elt F .f32) (Y9 : S1x1024x512.Idx → Elt F .fp8e4m3) (Y10 : S1x8x512.Idx → Elt F .f32) (Y11 : S1x8x512.Idx → Elt F .f32) :
    (iprop(owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f))) : sProp 𝕄G)
    ⊢ wp frame (wpE (defs₀ (F := F)) Variants.none (c : Thread nD τ) none) Set.univ (cc0_coat_adamw (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
      (fun _ => iprop(owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)))) := by
  rw [cc0_coat_adamw_eq_skeleton]
  unfold cc0_coat_adamw_skel owns
  iintro ⟨⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, ⟨%g11, %e11, H11⟩, ⟨%d12, %g12, %e12, H12⟩, ⟨%d13, %g13, %e13, H13⟩, ⟨%d14, %g14, %e14, H14⟩, ⟨%d15, %g15, %e15, H15⟩, ⟨%d16, %g16, %e16, H16⟩, ⟨%d17, %g17, %e17, H17⟩, ⟨%d18, %g18, %e18, H18⟩, ⟨%f19, H19⟩, ⟨%f20, H20⟩, ⟨%f21, H21⟩, ⟨%f22, H22⟩, ⟨%f23, H23⟩⟩
  sl_exec
  sl_step
  isplitl [H3]
  · iexists g3; isplitr; · ipureintro; exact e3
    iexact H3
  isplitl [H4]
  · iexists g4; isplitr; · ipureintro; exact e4
    iexact H4
  isplitl [H5]
  · iexists g5; isplitr; · ipureintro; exact e5
    iexact H5
  isplitl [H6]
  · iexists g6; isplitr; · ipureintro; exact e6
    iexact H6
  isplitl [H7]
  · iexists g7; isplitr; · ipureintro; exact e7
    iexact H7
  isplitl [H8]
  · iexists g8; isplitr; · ipureintro; exact e8
    iexact H8
  isplitl [H9]
  · iexists g9; isplitr; · ipureintro; exact e9
    iexact H9
  isplitl [H10]
  · iexists g10; isplitr; · ipureintro; exact e10
    iexact H10
  isplitl [H11]
  · iexists g11; isplitr; · ipureintro; exact e11
    iexact H11
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [H18]
  · iexists _; iexists _; isplitr; swap; · iexact H18
    ipureintro; rfl
  isplitl [H19]
  · iexists _; iexact H19
  isplitl [H20]
  · iexists _; iexact H20
  isplitl [H21]
  · iexists _; iexact H21
  isplitl [H22]
  · iexists _; iexact H22
  iexists _; iexact H23

/-! ## The proof data and the body obligation -/

local notation "𝕄" => MT nD τ sig Unit (Elt F) ℕ (UR sig nD τ) ℕ

variable (m : (ℓ : Loc nD τ sig) → Buf (Elt F) ℓ) (ρ : Dev nD → PrngReg)

/-- The outputs, of which the frame says nothing. -/
def forgets : Fin 16 → Bool := fun w => decide (9 ≤ w.val)

/-- The proof data on a core: the arrays as the region finds them, each input block left as it was, the outputs
    unnamed, the scratch buffers at some contents between points. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
    | ⟨15, _⟩ => Pipeline.Dat.unnamed (cfg := cfg0) 15 t
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

/-- A scratch buffer held whole is its whole memref held. -/
theorem whole_eq (c : Dev nD) (b : Ref sig .tc) (f : Buf (Elt F) ((c : Thread nD τ).loc b)) :
    (((c : Thread nD τ).loc b ↦{fullShare} f) : sProp 𝕄)
      = ((Memref.whole b).view.loc (c : Thread nD τ) ↦[(Memref.whole b).view.set]{fullShare} f) := by
  simp only [Memref.view_whole, View.set_whole]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8]
  unfold Pipeline.ΦA
  rw [scopedRest0_eq]
  simp only [whole_eq]
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13, H14, H15⟩
  iapply (wp_wand_r Idealize.ShloMosaic.frame (wpE (defs₀ (F := F)) Variants.none (c : Thread nD τ) none) Set.univ)
  isplitl [H0 H1 H2 H3 H4 H5 H6 H7 H8 H9 H10 H11 H12 H13 H14 H15 S0 S1 S2 S3 S4]
  · iapply (kernel_run c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [S0]; · iexact S0
    isplitl [S1]; · iexact S1
    isplitl [S2]; · iexact S2
    isplitl [S3]; · iexact S3
    iexact S4
  · iintro %_ ⟨H0, H1, H2, H3, H4, H5, H6, H7, H8, H9, H10, H11, H12, H13, H14, H15, S0, S1, S2, S3, S4⟩
    isplitl [S0 S1 S2 S3 S4 Hr]
    · isplitl [S0 S1 S2 S3 S4]
      · isplitl [S0]; · iexact S0
        isplitl [S1]; · iexact S1
        isplitl [S2]; · iexact S2
        isplitl [S3]; · iexact S3
        iexact S4
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) :
    Pipeline.BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- The launch: every execution of @main terminates, each array ends at contents its write-backs allow, every other
    buffer as the region found it, and every semaphore counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input array after the run is as the region found it. -/
theorem arr_in {r : PUnit × MemSt nD τ sig (Elt F)}
    (h : Pipeline.RDat.FramePost (cfgs 0) (fun c => (dats m 0 c).toRForget forgets) (V m) r) (c : Dev nD) (w : Fin 16)
    (hw : ((cfgs 0).win w).isOut = false) : r.2.mem (((cfgs 0).spec w).arr.view.loc (c.tc : Thread nD τ)) = (dats m 0 c).A w := by
  have := (h c).1 w
  rw [Pipeline.RDat.ArrAt_in _ _ hw] at this
  exact this

/-- The frame: every argument array ends as it was launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(arr_in m h.1 c 1 rfl).trans ((A_eq m c 1).trans (V_main_arg0 m c)),
      (arr_in m h.1 c 2 rfl).trans ((A_eq m c 2).trans (V_main_arg1 m c)),
      ((h.1 c).2 main_arg2 (Pipeline.mem_restRefs_of main_arg2 (by decide) (by decide))).trans (V_main_arg2 m c),
      (arr_in m h.1 c 4 rfl).trans ((A_eq m c 4).trans (V_main_arg3 m c)),
      (arr_in m h.1 c 5 rfl).trans ((A_eq m c 5).trans (V_main_arg4 m c)),
      ((h.1 c).2 main_arg5 (Pipeline.mem_restRefs_of main_arg5 (by decide) (by decide))).trans (V_main_arg5 m c),
      (arr_in m h.1 c 7 rfl).trans ((A_eq m c 7).trans (V_main_arg6 m c)),
      (arr_in m h.1 c 8 rfl).trans ((A_eq m c 8).trans (V_main_arg7 m c)),
      ((h.1 c).2 main_arg8 (Pipeline.mem_restRefs_of main_arg8 (by decide) (by decide))).trans (V_main_arg8 m c)⟩, h.2⟩) (run_main m ρ)

end Cert.Proof.KernelIdeal

end
-- ==== Proof.Claims.lean ====
/- The claims that say nothing of the results' values: the frames of the kernel, of its idealization and of the
   reference, and that the idealization only renames constants and rewrites the sign reading. -/
module

public import proofs.«01_k».proof.Defs
public import proofs.«01_k».proof.Proof.KernelFrame
public import proofs.«01_k».proof.Proof.KernelIdealFrame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_in_range

@[expose] public section

noncomputable section

namespace Cert.Proof

open Idealize.ShloMosaic Idealize.SL.Sem

theorem frame_kernel : Cert.quiescent_Kernel := fun m ρ _ => Cert.Proof.Kernel.frame m ρ
theorem frame_kernelIdeal : Cert.quiescent_KernelIdeal := fun m ρ _ => Cert.Proof.KernelIdeal.frame m ρ
theorem frame_referenceIdeal : Cert.quiescent_ReferenceIdeal := fun m ρ _ => Cert.ReferenceIdeal.Gen.frame m ρ

/-- Each named constant is the table's real, and reading a float's sign is what the rewrite says. -/
theorem preserves : Cert.preserves_Kernel_KernelIdeal :=
  ⟨IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.sign_bit.maskStatement _ _,
   IdealRules.named_const.statement _ _ _ _ _ rfl, IdealRules.named_const.statement _ _ _ _ _ rfl,
   IdealRules.named_const.statement _ _ _ _ _ rfl, IdealRules.named_const.statement _ _ _ _ _ rfl⟩

end Cert.Proof

end
-- ==== Proof.ValueGroups.lean ====
/- What one trip of each loop of the kernel leaves in the buffers it writes, and the loops by it. -/
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option sl_exec.squeezeSlice true in
/-- One trip of the loop over the groups of a strip: the pieces it writes are the run's own finds. -/
@[irreducible] def trip_k0_t2 (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v25 : FVec F S1x128 .f32) (v28 : FVec F S1x128 .f32) (k0_t1 : Fin k0_t1_loop.trips) (v31 : BitVec 32) (v41 : FVec F S8x128 .f32) (X4 : BufTy.Contents (Elt F) arg4.view.ty) (X5 : BufTy.Contents (Elt F) arg5.view.ty) (X6 : BufTy.Contents (Elt F) arg6.view.ty) (X9 : BufTy.Contents (Elt F) arg9.view.ty) (X23 : BufTy.Contents (Elt F) arg23.view.ty) (k : Fin k0_t2_loop.trips) :
    Σ' (L12 : List (View.Piece (Elt F) S1x1024x512 .f32)), Σ' (L19 : List (View.Piece (Elt F) S1024x128 .f32)), Σ' (L20 : List (View.Piece (Elt F) S1024x128 .f32)), Σ' (L21 : List (View.Piece (Elt F) S1024x128 .f32)), { L22 : List (View.Piece (Elt F) S4x72x128 .f32) // ∀ (E : Set ℕ) (f12 : BufTy.Contents (Elt F) arg12.view.ty) (f19 : BufTy.Contents (Elt F) arg19.view.ty) (f20 : BufTy.Contents (Elt F) arg20.view.ty) (f21 : BufTy.Contents (Elt F) arg21.view.ty) (f22 : BufTy.Contents (Elt F) arg22.view.ty),
      (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg23.view.loc (c : Thread nD τ) ↦[arg23.view.set]{fullShare} X23) ∗ (arg12.view.loc (c : Thread nD τ) ↦[arg12.view.set]{fullShare} f12) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)) : sProp 𝕄G)
      ⊢ wp frame (wpE (defs₀ (F := F)) 𝒱 (c : Thread nD τ) bd) E (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 k PUnit.unit)
        (fun _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg23.view.loc (c : Thread nD τ) ↦[arg23.view.set]{fullShare} X23) ∗ (arg12.view.loc (c : Thread nD τ) ↦[arg12.view.set]{fullShare} (arg12.view.writes (Elt F) f12 L12)) ∗ (arg19.view.loc (c : Thread nD τ) ↦[arg19.view.set]{fullShare} (arg19.view.writes (Elt F) f19 L19)) ∗ (arg20.view.loc (c : Thread nD τ) ↦[arg20.view.set]{fullShare} (arg20.view.writes (Elt F) f20 L20)) ∗ (arg21.view.loc (c : Thread nD τ) ↦[arg21.view.set]{fullShare} (arg21.view.writes (Elt F) f21 L21)) ∗ (arg22.view.loc (c : Thread nD τ) ↦[arg22.view.set]{fullShare} (arg22.view.writes (Elt F) f22 L22)))) } := by
  have hk : k.val < 8 := Nat.lt_of_lt_of_le k.isLt k0_t2_abs.2.1
  refine ⟨?_, ?_, ?_, ?_, ?_, fun E f12 f19 f20 f21 f22 => ?run⟩
  case run =>
    unfold k0_t2_body
    iintro ⟨HR4, HR5, HR6, HR9, HR23, HW12, HW19, HW20, HW21, HW22⟩
    sl_exec
    sl_step
    sl_close

/-- The pieces one trip writes, per buffer. -/
def tripL_k0_t2 (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v25 : FVec F S1x128 .f32) (v28 : FVec F S1x128 .f32) (k0_t1 : Fin k0_t1_loop.trips) (v31 : BitVec 32) (v41 : FVec F S8x128 .f32) (X4 : BufTy.Contents (Elt F) arg4.view.ty) (X5 : BufTy.Contents (Elt F) arg5.view.ty) (X6 : BufTy.Contents (Elt F) arg6.view.ty) (X9 : BufTy.Contents (Elt F) arg9.view.ty) (X23 : BufTy.Contents (Elt F) arg23.view.ty) (k : Fin k0_t2_loop.trips) : List (View.Piece (Elt F) S1x1024x512 .f32) × List (View.Piece (Elt F) S1024x128 .f32) × List (View.Piece (Elt F) S1024x128 .f32) × List (View.Piece (Elt F) S1024x128 .f32) × List (View.Piece (Elt F) S4x72x128 .f32) :=
  ((trip_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).1, (trip_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.1, (trip_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.2.1, (trip_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.2.2.1, (trip_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.2.2.2.1)

/-- The pieces of the trips before `k`, last first. -/
def pb_k0_t2 (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v25 : FVec F S1x128 .f32) (v28 : FVec F S1x128 .f32) (k0_t1 : Fin k0_t1_loop.trips) (v31 : BitVec 32) (v41 : FVec F S8x128 .f32) (X4 : BufTy.Contents (Elt F) arg4.view.ty) (X5 : BufTy.Contents (Elt F) arg5.view.ty) (X6 : BufTy.Contents (Elt F) arg6.view.ty) (X9 : BufTy.Contents (Elt F) arg9.view.ty) (X23 : BufTy.Contents (Elt F) arg23.view.ty) : ℕ → List (View.Piece (Elt F) S1x1024x512 .f32) × List (View.Piece (Elt F) S1024x128 .f32) × List (View.Piece (Elt F) S1024x128 .f32) × List (View.Piece (Elt F) S1024x128 .f32) × List (View.Piece (Elt F) S4x72x128 .f32)
  | 0 => ([], [], [], [], [])
  | k + 1 => if h : k < k0_t2_loop.trips then
      ((tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 ⟨k, h⟩).1 ++ (pb_k0_t2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).1, (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 ⟨k, h⟩).2.1 ++ (pb_k0_t2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 ⟨k, h⟩).2.2.1 ++ (pb_k0_t2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 ⟨k, h⟩).2.2.2.1 ++ (pb_k0_t2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.2.2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 ⟨k, h⟩).2.2.2.2 ++ (pb_k0_t2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.2.2.2)
    else pb_k0_t2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k

theorem pb_k0_t2_succ (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v25 : FVec F S1x128 .f32) (v28 : FVec F S1x128 .f32) (k0_t1 : Fin k0_t1_loop.trips) (v31 : BitVec 32) (v41 : FVec F S8x128 .f32) (X4 : BufTy.Contents (Elt F) arg4.view.ty) (X5 : BufTy.Contents (Elt F) arg5.view.ty) (X6 : BufTy.Contents (Elt F) arg6.view.ty) (X9 : BufTy.Contents (Elt F) arg9.view.ty) (X23 : BufTy.Contents (Elt F) arg23.view.ty) (k : Fin k0_t2_loop.trips) :
    pb_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 (k.val + 1)
      = ((tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).1 ++ (pb_k0_t2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k.val).1, (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.1 ++ (pb_k0_t2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k.val).2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.2.1 ++ (pb_k0_t2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k.val).2.2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.2.2.1 ++ (pb_k0_t2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k.val).2.2.2.1, (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.2.2.2 ++ (pb_k0_t2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k.val).2.2.2.2) := by
  rw [pb_k0_t2.eq_2]; exact dif_pos k.isLt

/-- The loop over the groups of a strip: what it reads at its contents, what it writes at the pieces of the trips done. -/
@[sl_loop] def loopInv_k0_t2 (𝒱 : Variants) (c : Dev nD) (bd : Option 𝒱.V) (E : Set ℕ) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v25 : FVec F S1x128 .f32) (v28 : FVec F S1x128 .f32) (k0_t1 : Fin k0_t1_loop.trips) (v31 : BitVec 32) (v41 : FVec F S8x128 .f32) (X4 : BufTy.Contents (Elt F) arg4.view.ty) (X5 : BufTy.Contents (Elt F) arg5.view.ty) (X6 : BufTy.Contents (Elt F) arg6.view.ty) (X9 : BufTy.Contents (Elt F) arg9.view.ty) (X23 : BufTy.Contents (Elt F) arg23.view.ty) (G12 : BufTy.Contents (Elt F) arg12.view.ty) (G19 : BufTy.Contents (Elt F) arg19.view.ty) (G20 : BufTy.Contents (Elt F) arg20.view.ty) (G21 : BufTy.Contents (Elt F) arg21.view.ty) (G22 : BufTy.Contents (Elt F) arg22.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 where
  inv := fun k _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg23.view.loc (c : Thread nD τ) ↦[arg23.view.set]{fullShare} X23) ∗ (∃ f, (arg12.view.loc (c : Thread nD τ) ↦[arg12.view.set]{fullShare} f) ∗ ⌜f = arg12.view.writes (Elt F) G12 (pb_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).1⌝) ∗ (∃ f, (arg19.view.loc (c : Thread nD τ) ↦[arg19.view.set]{fullShare} f) ∗ ⌜f = arg19.view.writes (Elt F) G19 (pb_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.1⌝) ∗ (∃ f, (arg20.view.loc (c : Thread nD τ) ↦[arg20.view.set]{fullShare} f) ∗ ⌜f = arg20.view.writes (Elt F) G20 (pb_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.2.1⌝) ∗ (∃ f, (arg21.view.loc (c : Thread nD τ) ↦[arg21.view.set]{fullShare} f) ∗ ⌜f = arg21.view.writes (Elt F) G21 (pb_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.2.2.1⌝) ∗ (∃ f, (arg22.view.loc (c : Thread nD τ) ↦[arg22.view.set]{fullShare} f) ∗ ⌜f = arg22.view.writes (Elt F) G22 (pb_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.2.2.2⌝))
  step k acc := by
    iintro ⟨HR4, HR5, HR6, HR9, HR23, ⟨%f12, HW12, %h12⟩, ⟨%f19, HW19, %h19⟩, ⟨%f20, HW20, %h20⟩, ⟨%f21, HW21, %h21⟩, ⟨%f22, HW22, %h22⟩⟩
    iapply (wp_wand_r Idealize.ShloMosaic.frame (wpE (defs₀ (F := F)) 𝒱 (c : Thread nD τ) bd) E)
    isplitl [HR4 HR5 HR6 HR9 HR23 HW12 HW19 HW20 HW21 HW22]
    · iapply ((trip_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 k0_t1 v31 v41 X4 X5 X6 X9 X23 k).2.2.2.2.2 E f12 f19 f20 f21 f22)
      isplitl [HR4]; · iexact HR4
      isplitl [HR5]; · iexact HR5
      isplitl [HR6]; · iexact HR6
      isplitl [HR9]; · iexact HR9
      isplitl [HR23]; · iexact HR23
      isplitl [HW12]; · iexact HW12
      isplitl [HW19]; · iexact HW19
      isplitl [HW20]; · iexact HW20
      isplitl [HW21]; · iexact HW21
      iexact HW22
    · iintro %_ ⟨HR4, HR5, HR6, HR9, HR23, HW12, HW19, HW20, HW21, HW22⟩
      isplitl [HR4]; · iexact HR4
      isplitl [HR5]; · iexact HR5
      isplitl [HR6]; · iexact HR6
      isplitl [HR9]; · iexact HR9
      isplitl [HR23]; · iexact HR23
      rw [pb_k0_t2_succ]
      isplitl [HW12]
      · iexists _; isplitl [HW12]; · iexact HW12
        ipureintro; rw [h12, ← View.writes_append]; rfl
      isplitl [HW19]
      · iexists _; isplitl [HW19]; · iexact HW19
        ipureintro; rw [h19, ← View.writes_append]; rfl
      isplitl [HW20]
      · iexists _; isplitl [HW20]; · iexact HW20
        ipureintro; rw [h20, ← View.writes_append]; rfl
      isplitl [HW21]
      · iexists _; isplitl [HW21]; · iexact HW21
        ipureintro; rw [h21, ← View.writes_append]; rfl
      iexists _; isplitl [HW22]; · iexact HW22
      ipureintro; rw [h22, ← View.writes_append]; rfl

end Cert.Proof.KernelValue

end
-- ==== Proof.ValueStrips.lean ====
/- What one trip of each loop of the kernel leaves in the buffers it writes, and the loops by it. -/
module

public import proofs.«01_k».proof.Proof.ValueGroups
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The contents of the buffers the kernel writes. -/
structure Bufs (F : FTy → Type) (arg12 : Memref sig .tc .vmem S1x1024x512 .f32) (arg13 : Memref sig .tc .vmem S1x1024x512 .fp8e4m3) (arg14 : Memref sig .tc .vmem S1x8x512 .f32) (arg15 : Memref sig .tc .vmem S1x8x512 .f32) (arg16 : Memref sig .tc .vmem S1x1024x512 .fp8e4m3) (arg17 : Memref sig .tc .vmem S1x8x512 .f32) (arg18 : Memref sig .tc .vmem S1x8x512 .f32) (arg19 : Memref sig .tc .vmem S1024x128 .f32) (arg20 : Memref sig .tc .vmem S1024x128 .f32) (arg21 : Memref sig .tc .vmem S1024x128 .f32) (arg22 : Memref sig .tc .vmem S4x72x128 .f32) (arg23 : Memref sig .tc .vmem S4x8x128 .f32) where
  f12 : BufTy.Contents (Elt F) arg12.view.ty
  f13 : BufTy.Contents (Elt F) arg13.view.ty
  f14 : BufTy.Contents (Elt F) arg14.view.ty
  f15 : BufTy.Contents (Elt F) arg15.view.ty
  f16 : BufTy.Contents (Elt F) arg16.view.ty
  f17 : BufTy.Contents (Elt F) arg17.view.ty
  f18 : BufTy.Contents (Elt F) arg18.view.ty
  f19 : BufTy.Contents (Elt F) arg19.view.ty
  f20 : BufTy.Contents (Elt F) arg20.view.ty
  f21 : BufTy.Contents (Elt F) arg21.view.ty
  f22 : BufTy.Contents (Elt F) arg22.view.ty
  f23 : BufTy.Contents (Elt F) arg23.view.ty

set_option sl_exec.squeezeSlice true in
/-- One trip of the loop over the strips: what the buffers hold after it, given what they held. -/
@[irreducible] def trip_k0_t1 (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v0 : Elt F .f32) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (k : Fin k0_t1_loop.trips) (S : Bufs F arg12 arg13 arg14 arg15 arg16 arg17 arg18 arg19 arg20 arg21 arg22 arg23) :
    { S' : Bufs F arg12 arg13 arg14 arg15 arg16 arg17 arg18 arg19 arg20 arg21 arg22 arg23 // ∀ (E : Set ℕ),
      (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} S.f12) ∗ (arg13.view.loc (c : Thread nD τ) ↦[arg13.view.set]{fullShare} S.f13) ∗ (arg14.view.loc (c : Thread nD τ) ↦[arg14.view.set]{fullShare} S.f14) ∗ (arg15.view.loc (c : Thread nD τ) ↦[arg15.view.set]{fullShare} S.f15) ∗ (arg16.view.loc (c : Thread nD τ) ↦[arg16.view.set]{fullShare} S.f16) ∗ (arg17.view.loc (c : Thread nD τ) ↦[arg17.view.set]{fullShare} S.f17) ∗ (arg18.view.loc (c : Thread nD τ) ↦[arg18.view.set]{fullShare} S.f18) ∗ (arg19.view.loc (c : Thread nD τ) ↦[arg19.view.set]{fullShare} S.f19) ∗ (arg20.view.loc (c : Thread nD τ) ↦[arg20.view.set]{fullShare} S.f20) ∗ (arg21.view.loc (c : Thread nD τ) ↦[arg21.view.set]{fullShare} S.f21) ∗ (arg22.view.loc (c : Thread nD τ) ↦[arg22.view.set]{fullShare} S.f22) ∗ (arg23.view.loc (c : Thread nD τ) ↦[arg23.view.set]{fullShare} S.f23)) : sProp 𝕄G)
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 k PUnit.unit)
        (fun _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} S'.f12) ∗ (arg13.view.loc (c : Thread nD τ) ↦[arg13.view.set]{fullShare} S'.f13) ∗ (arg14.view.loc (c : Thread nD τ) ↦[arg14.view.set]{fullShare} S'.f14) ∗ (arg15.view.loc (c : Thread nD τ) ↦[arg15.view.set]{fullShare} S'.f15) ∗ (arg16.view.loc (c : Thread nD τ) ↦[arg16.view.set]{fullShare} S'.f16) ∗ (arg17.view.loc (c : Thread nD τ) ↦[arg17.view.set]{fullShare} S'.f17) ∗ (arg18.view.loc (c : Thread nD τ) ↦[arg18.view.set]{fullShare} S'.f18) ∗ (arg19.view.loc (c : Thread nD τ) ↦[arg19.view.set]{fullShare} S'.f19) ∗ (arg20.view.loc (c : Thread nD τ) ↦[arg20.view.set]{fullShare} S'.f20) ∗ (arg21.view.loc (c : Thread nD τ) ↦[arg21.view.set]{fullShare} S'.f21) ∗ (arg22.view.loc (c : Thread nD τ) ↦[arg22.view.set]{fullShare} S'.f22) ∗ (arg23.view.loc (c : Thread nD τ) ↦[arg23.view.set]{fullShare} S'.f23))) } := by
  have hk : k.val < 4 := Nat.lt_of_lt_of_le k.isLt k0_t1_abs.2.1
  obtain ⟨f12, f13, f14, f15, f16, f17, f18, f19, f20, f21, f22, f23⟩ := S
  refine ⟨⟨?_, ?_, ?_, ?_, ?_, ?_, ?_, ?_, ?_, ?_, ?_, ?_⟩, fun E => ?run⟩
  case run =>
    unfold k0_t1_body
    iintro ⟨HR4, HR5, HR6, HR7, HR8, HR9, HR10, HR11, HW12, HW13, HW14, HW15, HW16, HW17, HW18, HW19, HW20, HW21, HW22, HW23⟩
    sl_exec
    sl_step
    sl_close

/-- The contents after the trips before `k`. -/
def st_k0_t1 (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v0 : Elt F .f32) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (S : Bufs F arg12 arg13 arg14 arg15 arg16 arg17 arg18 arg19 arg20 arg21 arg22 arg23) : ℕ → Bufs F arg12 arg13 arg14 arg15 arg16 arg17 arg18 arg19 arg20 arg21 arg22 arg23
  | 0 => S
  | k + 1 => if h : k < k0_t1_loop.trips then (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨k, h⟩ (st_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 S k)).1
    else st_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 S k

theorem st_k0_t1_succ (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v0 : Elt F .f32) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (S : Bufs F arg12 arg13 arg14 arg15 arg16 arg17 arg18 arg19 arg20 arg21 arg22 arg23) (k : Fin k0_t1_loop.trips) :
    st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 S (k.val + 1) = (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 S k.val)).1 := by
  rw [st_k0_t1.eq_2]; exact dif_pos k.isLt

/-- The loop over the strips: what it reads at its contents, what it writes at what the trips done leave. -/
@[sl_loop] def loopInv_k0_t1 (𝒱 : Variants) (c : Dev nD) (bd : Option 𝒱.V) (E : Set ℕ) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v0 : Elt F .f32) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) (G22 : BufTy.Contents (Elt F) arg22.view.ty) (G23 : BufTy.Contents (Elt F) arg23.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 where
  inv := fun k _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (∃ f, (arg12.view.loc (c : Thread nD τ) ↦[arg12.view.set]{fullShare} f) ∗ ⌜f = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨G12, G13, G14, G15, G16, G17, G18, G19, G20, G21, G22, G23⟩ k).f12⌝) ∗ (∃ f, (arg13.view.loc (c : Thread nD τ) ↦[arg13.view.set]{fullShare} f) ∗ ⌜f = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨G12, G13, G14, G15, G16, G17, G18, G19, G20, G21, G22, G23⟩ k).f13⌝) ∗ (∃ f, (arg14.view.loc (c : Thread nD τ) ↦[arg14.view.set]{fullShare} f) ∗ ⌜f = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨G12, G13, G14, G15, G16, G17, G18, G19, G20, G21, G22, G23⟩ k).f14⌝) ∗ (∃ f, (arg15.view.loc (c : Thread nD τ) ↦[arg15.view.set]{fullShare} f) ∗ ⌜f = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨G12, G13, G14, G15, G16, G17, G18, G19, G20, G21, G22, G23⟩ k).f15⌝) ∗ (∃ f, (arg16.view.loc (c : Thread nD τ) ↦[arg16.view.set]{fullShare} f) ∗ ⌜f = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨G12, G13, G14, G15, G16, G17, G18, G19, G20, G21, G22, G23⟩ k).f16⌝) ∗ (∃ f, (arg17.view.loc (c : Thread nD τ) ↦[arg17.view.set]{fullShare} f) ∗ ⌜f = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨G12, G13, G14, G15, G16, G17, G18, G19, G20, G21, G22, G23⟩ k).f17⌝) ∗ (∃ f, (arg18.view.loc (c : Thread nD τ) ↦[arg18.view.set]{fullShare} f) ∗ ⌜f = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨G12, G13, G14, G15, G16, G17, G18, G19, G20, G21, G22, G23⟩ k).f18⌝) ∗ (∃ f, (arg19.view.loc (c : Thread nD τ) ↦[arg19.view.set]{fullShare} f) ∗ ⌜f = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨G12, G13, G14, G15, G16, G17, G18, G19, G20, G21, G22, G23⟩ k).f19⌝) ∗ (∃ f, (arg20.view.loc (c : Thread nD τ) ↦[arg20.view.set]{fullShare} f) ∗ ⌜f = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨G12, G13, G14, G15, G16, G17, G18, G19, G20, G21, G22, G23⟩ k).f20⌝) ∗ (∃ f, (arg21.view.loc (c : Thread nD τ) ↦[arg21.view.set]{fullShare} f) ∗ ⌜f = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨G12, G13, G14, G15, G16, G17, G18, G19, G20, G21, G22, G23⟩ k).f21⌝) ∗ (∃ f, (arg22.view.loc (c : Thread nD τ) ↦[arg22.view.set]{fullShare} f) ∗ ⌜f = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨G12, G13, G14, G15, G16, G17, G18, G19, G20, G21, G22, G23⟩ k).f22⌝) ∗ (∃ f, (arg23.view.loc (c : Thread nD τ) ↦[arg23.view.set]{fullShare} f) ∗ ⌜f = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨G12, G13, G14, G15, G16, G17, G18, G19, G20, G21, G22, G23⟩ k).f23⌝))
  step k acc := by
    iintro ⟨HR4, HR5, HR6, HR7, HR8, HR9, HR10, HR11, ⟨%f12, HW12, %h12⟩, ⟨%f13, HW13, %h13⟩, ⟨%f14, HW14, %h14⟩, ⟨%f15, HW15, %h15⟩, ⟨%f16, HW16, %h16⟩, ⟨%f17, HW17, %h17⟩, ⟨%f18, HW18, %h18⟩, ⟨%f19, HW19, %h19⟩, ⟨%f20, HW20, %h20⟩, ⟨%f21, HW21, %h21⟩, ⟨%f22, HW22, %h22⟩, ⟨%f23, HW23, %h23⟩⟩
    subst h12 h13 h14 h15 h16 h17 h18 h19 h20 h21 h22 h23
    iapply (wp_wand_r Idealize.ShloMosaic.frame (wpE (defs₀ (F := F)) 𝒱 (c : Thread nD τ) bd) E)
    isplitl [HR4 HR5 HR6 HR7 HR8 HR9 HR10 HR11 HW12 HW13 HW14 HW15 HW16 HW17 HW18 HW19 HW20 HW21 HW22 HW23]
    · iapply ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨G12, G13, G14, G15, G16, G17, G18, G19, G20, G21, G22, G23⟩ k.val)).2 E)
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HW12]; · iexact HW12
      isplitl [HW13]; · iexact HW13
      isplitl [HW14]; · iexact HW14
      isplitl [HW15]; · iexact HW15
      isplitl [HW16]; · iexact HW16
      isplitl [HW17]; · iexact HW17
      isplitl [HW18]; · iexact HW18
      isplitl [HW19]; · iexact HW19
      isplitl [HW20]; · iexact HW20
      isplitl [HW21]; · iexact HW21
      isplitl [HW22]; · iexact HW22
      iexact HW23
    · iintro %_ ⟨HR4, HR5, HR6, HR7, HR8, HR9, HR10, HR11, HW12, HW13, HW14, HW15, HW16, HW17, HW18, HW19, HW20, HW21, HW22, HW23⟩
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      rw [st_k0_t1_succ]
      isplitl [HW12]
      · iexists _; isplitl [HW12]; · iexact HW12
        ipureintro; rfl
      isplitl [HW13]
      · iexists _; isplitl [HW13]; · iexact HW13
        ipureintro; rfl
      isplitl [HW14]
      · iexists _; isplitl [HW14]; · iexact HW14
        ipureintro; rfl
      isplitl [HW15]
      · iexists _; isplitl [HW15]; · iexact HW15
        ipureintro; rfl
      isplitl [HW16]
      · iexists _; isplitl [HW16]; · iexact HW16
        ipureintro; rfl
      isplitl [HW17]
      · iexists _; isplitl [HW17]; · iexact HW17
        ipureintro; rfl
      isplitl [HW18]
      · iexists _; isplitl [HW18]; · iexact HW18
        ipureintro; rfl
      isplitl [HW19]
      · iexists _; isplitl [HW19]; · iexact HW19
        ipureintro; rfl
      isplitl [HW20]
      · iexists _; isplitl [HW20]; · iexact HW20
        ipureintro; rfl
      isplitl [HW21]
      · iexists _; isplitl [HW21]; · iexact HW21
        ipureintro; rfl
      isplitl [HW22]
      · iexists _; isplitl [HW22]; · iexact HW22
        ipureintro; rfl
      iexists _; isplitl [HW23]; · iexact HW23
      ipureintro; rfl

end Cert.Proof.KernelValue

end
-- ==== Proof.ValueFill.lean ====
/- What a list of writes leaves, when all its pieces agree with one function. -/
module

public import Idealize.ShloMosaic.Lib.Pointwise
public import Idealize.ShloMosaic.Lib.Exec

@[expose] public section

namespace Cert.Proof.KernelValue

open Idealize.ShloMosaic

variable {sig : RefSig} {κ : Kind} {sp : Space} {s : Shape} {e : EltTy} {Val : EltTy → Type}

/-- The pieces of `L` all agree with `G`, and cover the places `D`. -/
structure Fills (G : s.Idx → Val e) (D : s.Idx → Prop) (L : List (View.Piece Val s e)) : Prop where
  agree : ∀ p ∈ L, ∀ x : p.1.shape.Idx, p.2 x = G (p.1.emb x)
  cover : ∀ y, D y → ∃ p ∈ L, y ∈ p.1.set

namespace Fills

variable {G : s.Idx → Val e} {D D' : s.Idx → Prop} {L L' : List (View.Piece Val s e)}

/-- A covered place reads `G`. -/
theorem read (h : Fills G D L) (v : View sig κ sp s e) (f : v.ty.Contents Val) (y : s.Idx) (hy : D y) :
    v.read Val (v.writes Val f L) y = G y :=
  View.read_writes_apply_of_pieces v f G L h.agree y (h.cover y hy)

/-- A place that read `G` before reads `G` after. -/
theorem keep (h : Fills G D L) (v : View sig κ sp s e) (f : v.ty.Contents Val) (y : s.Idx) (hy : v.read Val f y = G y) :
    v.read Val (v.writes Val f L) y = G y := by
  by_cases hc : ∃ p ∈ L, y ∈ p.1.set
  · exact View.read_writes_apply_of_pieces v f G L h.agree y hc
  · rw [View.read_writes_apply_of_forall_not_mem v f y L fun p hp hm => hc ⟨p, hp, hm⟩, hy]

theorem nil : Fills G (fun _ => False) [] := ⟨fun _ h => absurd h List.not_mem_nil, fun _ h => h.elim⟩

theorem mono (h : Fills G D L) (hD : ∀ y, D' y → D y) : Fills G D' L := ⟨h.agree, fun y hy => h.cover y (hD y hy)⟩

theorem append (h : Fills G D L) (h' : Fills G D' L') : Fills G (fun y => D y ∨ D' y) (L ++ L') :=
  ⟨fun p hp => (List.mem_append.mp hp).elim (h.agree p) (h'.agree p), fun y hy => hy.elim
    (fun hy => let ⟨p, hp, hm⟩ := h.cover y hy; ⟨p, List.mem_append.mpr (.inl hp), hm⟩)
    (fun hy => let ⟨p, hp, hm⟩ := h'.cover y hy; ⟨p, List.mem_append.mpr (.inr hp), hm⟩)⟩

theorem cons (r : Rect s) (w : r.shape.Idx → Val e) (hw : ∀ x, w x = G (r.emb x)) (h : Fills G D L) :
    Fills G (fun y => y ∈ r.set ∨ D y) (⟨r, w⟩ :: L) :=
  ⟨fun p hp => by
      rcases List.mem_cons.mp hp with rfl | hp
      · exact hw
      · exact h.agree p hp,
    fun y hy => hy.elim (fun hy => ⟨_, List.mem_cons_self, hy⟩)
      (fun hy => let ⟨p, hp, hm⟩ := h.cover y hy; ⟨p, List.mem_cons_of_mem _ hp, hm⟩)⟩

/-- One more piece, a unit-stride rectangle given by its offsets in closed form. -/
theorem unit {off off' size : Fin s.rank → ℕ} (inb : ∀ a, off a + size a ≤ s.size a)
    (w : (Rect.unit off size inb).shape.Idx → Val e) (heq : off = off')
    (hw : ∀ (x : (Rect.unit off size inb).shape.Idx) (y : s.Idx), (∀ a, (y a).val = off' a + (x a).val) → w x = G y)
    (h : Fills G D L) :
    Fills G (fun y => (∀ a, off' a ≤ (y a).val ∧ (y a).val < off' a + size a) ∨ D y) (⟨Rect.unit off size inb, w⟩ :: L) := by
  subst heq
  refine (cons (Rect.unit off size inb) w (fun x => hw x _ fun a => ?_) h).mono fun y hy => hy.imp_left fun hy => ?_
  · show off a + 1 * (x a).val = off a + (x a).val
    rw [Nat.one_mul]
  · rw [Rect.mem_set_unit]
    exact hy

end Fills

/-- A load at a unit-stride rectangle reads the place its offsets and the index add up to. -/
theorem readAt_unit_at (v : View sig κ sp s e) (f : v.ty.Contents Val) {off off' size : Fin s.rank → ℕ}
    (inb : ∀ a, off a + size a ≤ s.size a) (x : (Rect.unit off size inb).shape.Idx) (y : s.Idx) (heq : off = off')
    (hy : ∀ a, (y a).val = off' a + (x a).val) :
    v.readAt Val (Rect.unit off size inb).toLoadRect f x = v.read Val f y := by
  subst heq
  exact congrArg (v.read Val f) (funext fun a => Fin.ext (by
    show off a + 1 * (x a).val = (y a).val
    rw [hy a, Nat.one_mul]))

end Cert.Proof.KernelValue
-- ==== Proof.ValueSpec.lean ====
/- What the kernel computes at one place of a block, on extended reals. -/
module

public import proofs.«01_k».proof.Proof.ValueStrips
public import proofs.«01_k».proof.Proof.ValueFill

@[expose] public section

set_option maxRecDepth 16384
set_option maxHeartbeats 4000000

noncomputable section

namespace Cert.Proof.KernelValue

open Cert.KernelIdeal Cert.KernelIdeal.Gen
open Idealize.ShloMosaic Idealize.ShloMosaic.TcCoe Idealize.ShloMosaic.Tactic
open Idealize.ShloMosaic.Pointwise

/-- The base-2 logarithm, as the kernel takes it. -/
def lg2 (x : EReal) : EReal := Ideal.div (Ideal.log x) (Named.named (F := Ideal) (φ := .f32) κ "ln2" 1060205080#32)

/-- `p` with the sign of `q`. -/
def sgnOf (p q : EReal) : EReal :=
  if q < 0 then 0 - FloatOps.absf (F := Ideal) (φ := .f32) p else FloatOps.absf (F := Ideal) (φ := .f32) p

/-- A code `q` of its group's `1 / k` and offset, dequantised. -/
def deq (rk off q : EReal) : EReal :=
  sgnOf (FloatOps.exp2 (F := Ideal) (φ := .f32) (lg2 (FloatOps.absf (F := Ideal) (φ := .f32) q) * rk + off)) q

/-- Ten times the new first moment. -/
def mNew (rk off q g : EReal) : EReal := deq rk off q + g

/-- Twenty times the new second moment. -/
def vNew (rk off q g : EReal) : EReal := deq rk off q + g * g

/-- The weight update of `m` (ten times the first moment), `v` (twenty times the second) and the weight. -/
def updOf (dof dep m v w : EReal) : EReal :=
  m * Ideal.div 1 (FloatOps.exp2 (F := Ideal) (φ := .f32) (Ideal.ofBits .f32 1056964608#32 * lg2 v + dof) + dep)
    + Named.named (F := Ideal) (φ := .f32) κ "tenth" 1036831949#32 * w

/-- The group of a row of a block. -/
def grp (r : Fin 1024) : Fin 8 := ⟨r.val / 128, by omega⟩

/-- Row `32 c + j` of group `k`. -/
def rowOf (k : Fin 8) (c : Fin 4) (j : Fin 32) : Fin 1024 := ⟨128 * k.val + 32 * c.val + j.val, by omega⟩

/-- Lane `l` of strip `s`. -/
def laneOf (s : Fin 4) (l : Fin 128) : Fin 512 := ⟨128 * s.val + l.val, by omega⟩

theorem grp_rowOf (k : Fin 8) (c : Fin 4) (j : Fin 32) : grp (rowOf k c j) = k :=
  Fin.ext (by show (128 * k.val + 32 * c.val + j.val) / 128 = k.val; omega)

/-- The strip a trip of the outer loop works on. -/
def strip (s : Fin k0_t1_loop.trips) : Fin 4 := ⟨s.val, Nat.lt_of_lt_of_le s.isLt k0_t1_abs.2.1⟩

/-- The group a trip of the update loop works on. -/
def group2 (k : Fin k0_t2_loop.trips) : Fin 8 := ⟨k.val, Nat.lt_of_lt_of_le k.isLt k0_t2_abs.2.1⟩

/-- The group a trip of the quantise loop works on. -/
def group3 (k : Fin k0_t3_loop.trips) : Fin 8 := ⟨k.val, Nat.lt_of_lt_of_le k.isLt k0_t3_abs.2.1⟩

/-- What a coefficient holds per group and lane. -/
abbrev Coef := Fin 8 → Fin 512 → EReal

/-- What holds per row and lane. -/
abbrev Tab := Fin 1024 → Fin 512 → EReal

/-- Ten times the new first moment, per row and lane. -/
def mTab (k0 k1 : Coef) (q g : Tab) : Tab := fun r l => mNew (k0 (grp r) l) (k1 (grp r) l) (q r l) (g r l)

/-- Twenty times the new second moment, per row and lane. -/
def vTab (k2 k3 : Coef) (q g : Tab) : Tab := fun r l => vNew (k2 (grp r) l) (k3 (grp r) l) (q r l) (g r l)

/-- The array of a block, as a table. -/
def tab (x : S1x1024x512.Idx → EReal) : Tab := fun r l => x (ix3 0 r l)

/-- A group's statistics of one lane, as the kernel folds them: over four rows of a tile each, over four chunks. -/
def fold4 (op : EReal → EReal → EReal) (f : Fin 4 → EReal) : EReal := op (op (f 0) (f 1)) (op (f 2) (f 3))

def acc4 (op : EReal → EReal → EReal) (f : Fin 4 → EReal) : EReal := op (op (op (f 0) (f 1)) (f 2)) (f 3)

/-- Row `8 i + t` of a chunk. -/
def inChunk (i : Fin 4) (t : Fin 8) : Fin 32 := ⟨8 * i.val + t.val, by omega⟩

/-- The statistic of tile row `t` of group `k`. -/
def tileStat (op : EReal → EReal → EReal) (a : Tab) (k : Fin 8) (t : Fin 8) (l : Fin 512) : EReal :=
  acc4 op fun c => fold4 op fun i => a (rowOf k c (inChunk i t)) l

/-- The absolute values of a table. -/
def absTab (a : Tab) : Tab := fun r l => FloatOps.absf (F := Ideal) (φ := .f32) (a r l)

/-- The positive entries of a table, the others at infinity. -/
def posTab (a : Tab) : Tab := fun r l => if 0 < a r l then a r l else Ideal.ofBits .f32 2139095040#32

/-- What slab `i` holds for tile row `t` of group `k`. -/
def slabStat (m v : Tab) (i : Fin 4) : Fin 8 → Fin 8 → Fin 512 → EReal :=
  match i with
  | 0 => tileStat max (absTab m)
  | 1 => tileStat min (posTab (absTab m))
  | 2 => tileStat max v
  | 3 => tileStat min (posTab v)

end Cert.Proof.KernelValue

end
-- ==== Proof.ValueChunk.lean ====
/- One trip of the update loop, at a place of its chunk of rows. -/
module

public import proofs.«01_k».proof.Proof.ValueSpec

@[expose] public section

set_option maxRecDepth 16384
set_option maxHeartbeats 4000000

noncomputable section

namespace Cert.Proof.KernelValue

open Cert.KernelIdeal Cert.KernelIdeal.Gen
open Idealize.ShloMosaic Idealize.ShloMosaic.TcCoe Idealize.ShloMosaic.Tactic
open Idealize.ShloMosaic.Pointwise

variable (arg4 : Memref sig .tc .vmem S1x1024x512 .f32) (arg5 : Memref sig .tc .vmem S1x1024x512 .bf16)
  (arg6 arg9 : Memref sig .tc .vmem S1x1024x512 .fp8e4m3) (arg23 : Memref sig .tc .vmem S4x8x128 .f32)
  (s : Fin k0_t1_loop.trips) (k : Fin k0_t2_loop.trips) (v25 v28 : FVec Ideal S1x128 .f32)
  (X4 : BufTy.Contents (Elt Ideal) arg4.view.ty) (X5 : BufTy.Contents (Elt Ideal) arg5.view.ty)
  (X6 : BufTy.Contents (Elt Ideal) arg6.view.ty) (X9 : BufTy.Contents (Elt Ideal) arg9.view.ty)
  (X23 : BufTy.Contents (Elt Ideal) arg23.view.ty)

/-- A load of a chunk of a block's rows, in the lanes of a strip. -/
theorem read_chunk {e : EltTy} (m : Memref sig .tc .vmem S1x1024x512 e) (X : BufTy.Contents (Elt Ideal) m.view.ty) (c : Fin 4)
    {off : Fin 3 → ℕ} (inb : ∀ a, off a + S1x32x128.size a ≤ S1x1024x512.size a)
    (hoff : off = ![0, 128 * k.val + 32 * c.val, 128 * s.val]) (j : Fin 32) (l : Fin 128) :
    m.view.readAt (Elt Ideal) (Rect.unit (s := S1x1024x512) off S1x32x128.size inb).toLoadRect X (ix3 0 j l)
      = m.view.read (Elt Ideal) X (ix3 0 (rowOf (group2 k) c j) (laneOf (strip s) l)) :=
  readAt_unit_at m.view X inb _ _ hoff fun a => by
    fin_cases a
    · rfl
    · rfl
    · rfl

/-- A load of a coefficient's row. -/
theorem read_coef (i : Fin 4) {off : Fin 3 → ℕ} (inb : ∀ a, off a + S1x1x128.size a ≤ S4x8x128.size a)
    (hoff : off = ![i.val, k.val, 0]) (l : Fin 128) :
    arg23.view.readAt (Elt Ideal) (Rect.unit (s := S4x8x128) off S1x1x128.size inb).toLoadRect X23 (ix3 0 0 l)
      = arg23.view.read (Elt Ideal) X23 (ix3 i (group2 k) l) :=
  readAt_unit_at arg23.view X23 inb _ _ hoff fun a => by
    fin_cases a
    · rfl
    · rfl
    · exact (Nat.zero_add _).symm

variable {k0 k1 k2 k3 : Coef}
  (h0 : ∀ r l, arg23.view.read (Elt Ideal) X23 (ix3 0 r l) = k0 r (laneOf (strip s) l))
  (h1 : ∀ r l, arg23.view.read (Elt Ideal) X23 (ix3 1 r l) = k1 r (laneOf (strip s) l))
  (h2 : ∀ r l, arg23.view.read (Elt Ideal) X23 (ix3 2 r l) = k2 r (laneOf (strip s) l))
  (h3 : ∀ r l, arg23.view.read (Elt Ideal) X23 (ix3 3 r l) = k3 r (laneOf (strip s) l))

theorem read_chunk0 {e : EltTy} (m : Memref sig .tc .vmem S1x1024x512 e) (X : BufTy.Contents (Elt Ideal) m.view.ty)
    (inb : ∀ a, k0_off6 s k 0#32 a + (![1, 32, 128] : Fin 3 → ℕ) a ≤ S1x1024x512.size a) (j : Fin 32) (l : Fin 128) :
    m.view.readAt (Elt Ideal) (Rect.unit (s := S1x1024x512) (k0_off6 s k 0#32) ![1, 32, 128] inb).toLoadRect X (ix3 0 j l)
      = m.view.read (Elt Ideal) X (ix3 0 (rowOf (group2 k) 0 j) (laneOf (strip s) l)) :=
  read_chunk s k m X 0 inb (k0_off6_eq s k 0) j l

theorem read_coef0 (inb : ∀ a, k0_off2 k a + (![1, 1, 128] : Fin 3 → ℕ) a ≤ S4x8x128.size a) (l : Fin 128) :
    arg23.view.readAt (Elt Ideal) (Rect.unit (s := S4x8x128) (k0_off2 k) ![1, 1, 128] inb).toLoadRect X23 (ix3 0 0 l)
      = arg23.view.read (Elt Ideal) X23 (ix3 0 (group2 k) l) :=
  read_coef arg23 k X23 0 inb (k0_off2_eq k) l

theorem read_chunk1 {e : EltTy} (m : Memref sig .tc .vmem S1x1024x512 e) (X : BufTy.Contents (Elt Ideal) m.view.ty)
    (inb : ∀ a, k0_off6 s k 32#32 a + (![1, 32, 128] : Fin 3 → ℕ) a ≤ S1x1024x512.size a) (j : Fin 32) (l : Fin 128) :
    m.view.readAt (Elt Ideal) (Rect.unit (s := S1x1024x512) (k0_off6 s k 32#32) ![1, 32, 128] inb).toLoadRect X (ix3 0 j l)
      = m.view.read (Elt Ideal) X (ix3 0 (rowOf (group2 k) 1 j) (laneOf (strip s) l)) :=
  read_chunk s k m X 1 inb (k0_off6_eq s k 1) j l

theorem read_coef1 (inb : ∀ a, k0_off3 k a + (![1, 1, 128] : Fin 3 → ℕ) a ≤ S4x8x128.size a) (l : Fin 128) :
    arg23.view.readAt (Elt Ideal) (Rect.unit (s := S4x8x128) (k0_off3 k) ![1, 1, 128] inb).toLoadRect X23 (ix3 0 0 l)
      = arg23.view.read (Elt Ideal) X23 (ix3 1 (group2 k) l) :=
  read_coef arg23 k X23 1 inb (k0_off3_eq k) l

theorem read_chunk2 {e : EltTy} (m : Memref sig .tc .vmem S1x1024x512 e) (X : BufTy.Contents (Elt Ideal) m.view.ty)
    (inb : ∀ a, k0_off6 s k 64#32 a + (![1, 32, 128] : Fin 3 → ℕ) a ≤ S1x1024x512.size a) (j : Fin 32) (l : Fin 128) :
    m.view.readAt (Elt Ideal) (Rect.unit (s := S1x1024x512) (k0_off6 s k 64#32) ![1, 32, 128] inb).toLoadRect X (ix3 0 j l)
      = m.view.read (Elt Ideal) X (ix3 0 (rowOf (group2 k) 2 j) (laneOf (strip s) l)) :=
  read_chunk s k m X 2 inb (k0_off6_eq s k 2) j l

theorem read_coef2 (inb : ∀ a, k0_off4 k a + (![1, 1, 128] : Fin 3 → ℕ) a ≤ S4x8x128.size a) (l : Fin 128) :
    arg23.view.readAt (Elt Ideal) (Rect.unit (s := S4x8x128) (k0_off4 k) ![1, 1, 128] inb).toLoadRect X23 (ix3 0 0 l)
      = arg23.view.read (Elt Ideal) X23 (ix3 2 (group2 k) l) :=
  read_coef arg23 k X23 2 inb (k0_off4_eq k) l

theorem read_chunk3 {e : EltTy} (m : Memref sig .tc .vmem S1x1024x512 e) (X : BufTy.Contents (Elt Ideal) m.view.ty)
    (inb : ∀ a, k0_off6 s k 96#32 a + (![1, 32, 128] : Fin 3 → ℕ) a ≤ S1x1024x512.size a) (j : Fin 32) (l : Fin 128) :
    m.view.readAt (Elt Ideal) (Rect.unit (s := S1x1024x512) (k0_off6 s k 96#32) ![1, 32, 128] inb).toLoadRect X (ix3 0 j l)
      = m.view.read (Elt Ideal) X (ix3 0 (rowOf (group2 k) 3 j) (laneOf (strip s) l)) :=
  read_chunk s k m X 3 inb (k0_off6_eq s k 3) j l

theorem read_coef3 (inb : ∀ a, k0_off5 k a + (![1, 1, 128] : Fin 3 → ℕ) a ≤ S4x8x128.size a) (l : Fin 128) :
    arg23.view.readAt (Elt Ideal) (Rect.unit (s := S4x8x128) (k0_off5 k) ![1, 1, 128] inb).toLoadRect X23 (ix3 0 0 l)
      = arg23.view.read (Elt Ideal) X23 (ix3 3 (group2 k) l) :=
  read_coef arg23 k X23 3 inb (k0_off5_eq k) l

include h0 h1 in
theorem m_chunk0 (j : Fin 32) (l : Fin 128) : trip_k0_t2.sl.r_5 arg5 arg6 arg23 s X5 X6 X23 k (ix2 j l) = (mTab k0 k1 (tab (arg6.view.read (Elt Ideal) X6)) (tab (arg5.view.read (Elt Ideal) X5))) (rowOf (group2 k) 0 j) (laneOf (strip s) l) := by
  unfold trip_k0_t2.sl.r_5
  unfold_payloads
  pointwise []
  unfold mTab mNew
  simp only [grp_rowOf, ← h0, ← h1]
  simp only [read_chunk0, read_coef0, read_coef1, read_coef2, read_coef3]
  simp only [deq, sgnOf, lg2, tab] <;> rfl

include h2 h3 in
theorem v_chunk0 (j : Fin 32) (l : Fin 128) : trip_k0_t2.sl.r_6 arg5 arg9 arg23 s X5 X9 X23 k (ix2 j l) = (vTab k2 k3 (tab (arg9.view.read (Elt Ideal) X9)) (tab (arg5.view.read (Elt Ideal) X5))) (rowOf (group2 k) 0 j) (laneOf (strip s) l) := by
  unfold trip_k0_t2.sl.r_6 trip_k0_t2.sl.r_4 trip_k0_t2.sl.r_3 trip_k0_t2.sl.r_2
  unfold_payloads
  pointwise []
  unfold vTab vNew
  simp only [grp_rowOf, ← h2, ← h3]
  simp only [read_chunk0, read_coef0, read_coef1, read_coef2, read_coef3]
  simp only [deq, sgnOf, lg2, tab] <;> rfl

include h2 h3 in
theorem lv_chunk0 (j : Fin 32) (l : Fin 128) : trip_k0_t2.sl.r_7 arg5 arg9 arg23 s X5 X9 X23 k (ix2 j l) = lg2 ((vTab k2 k3 (tab (arg9.view.read (Elt Ideal) X9)) (tab (arg5.view.read (Elt Ideal) X5))) (rowOf (group2 k) 0 j) (laneOf (strip s) l)) := by
  unfold trip_k0_t2.sl.r_7 trip_k0_t2.sl.r_4 trip_k0_t2.sl.r_3 trip_k0_t2.sl.r_2
  unfold_payloads
  pointwise []
  unfold vTab vNew
  simp only [grp_rowOf, ← h2, ← h3]
  simp only [read_chunk0, read_coef0, read_coef1, read_coef2, read_coef3]
  simp only [deq, sgnOf, lg2, tab] <;> rfl

include h0 h1 in
theorem m_chunk1 (j : Fin 32) (l : Fin 128) : trip_k0_t2.sl.r_17 arg5 arg6 arg23 s X5 X6 X23 k (ix2 j l) = (mTab k0 k1 (tab (arg6.view.read (Elt Ideal) X6)) (tab (arg5.view.read (Elt Ideal) X5))) (rowOf (group2 k) 1 j) (laneOf (strip s) l) := by
  unfold trip_k0_t2.sl.r_17 trip_k0_t2.sl.r_1 trip_k0_t2.sl.r
  unfold_payloads
  pointwise []
  unfold mTab mNew
  simp only [grp_rowOf, ← h0, ← h1]
  simp only [read_chunk1, read_coef0, read_coef1, read_coef2, read_coef3]
  simp only [deq, sgnOf, lg2, tab] <;> rfl

include h2 h3 in
theorem v_chunk1 (j : Fin 32) (l : Fin 128) : trip_k0_t2.sl.r_20 arg5 arg9 arg23 s X5 X9 X23 k (ix2 j l) = (vTab k2 k3 (tab (arg9.view.read (Elt Ideal) X9)) (tab (arg5.view.read (Elt Ideal) X5))) (rowOf (group2 k) 1 j) (laneOf (strip s) l) := by
  unfold trip_k0_t2.sl.r_20 trip_k0_t2.sl.r_19 trip_k0_t2.sl.r_3 trip_k0_t2.sl.r_2 trip_k0_t2.sl.r_18 trip_k0_t2.sl.r_16
  unfold_payloads
  pointwise []
  unfold vTab vNew
  simp only [grp_rowOf, ← h2, ← h3]
  simp only [read_chunk1, read_coef0, read_coef1, read_coef2, read_coef3]
  simp only [deq, sgnOf, lg2, tab] <;> rfl

include h2 h3 in
theorem lv_chunk1 (j : Fin 32) (l : Fin 128) : trip_k0_t2.sl.r_21 arg5 arg9 arg23 s X5 X9 X23 k (ix2 j l) = lg2 ((vTab k2 k3 (tab (arg9.view.read (Elt Ideal) X9)) (tab (arg5.view.read (Elt Ideal) X5))) (rowOf (group2 k) 1 j) (laneOf (strip s) l)) := by
  unfold trip_k0_t2.sl.r_21 trip_k0_t2.sl.r_19 trip_k0_t2.sl.r_3 trip_k0_t2.sl.r_2 trip_k0_t2.sl.r_18 trip_k0_t2.sl.r_16
  unfold_payloads
  pointwise []
  unfold vTab vNew
  simp only [grp_rowOf, ← h2, ← h3]
  simp only [read_chunk1, read_coef0, read_coef1, read_coef2, read_coef3]
  simp only [deq, sgnOf, lg2, tab] <;> rfl

include h0 h1 in
theorem m_chunk2 (j : Fin 32) (l : Fin 128) : trip_k0_t2.sl.r_23 arg5 arg6 arg23 s X5 X6 X23 k (ix2 j l) = (mTab k0 k1 (tab (arg6.view.read (Elt Ideal) X6)) (tab (arg5.view.read (Elt Ideal) X5))) (rowOf (group2 k) 2 j) (laneOf (strip s) l) := by
  unfold trip_k0_t2.sl.r_23 trip_k0_t2.sl.v575 trip_k0_t2.sl.v574 trip_k0_t2.sl.v573 trip_k0_t2.sl.v572 trip_k0_t2.sl.r_1 trip_k0_t2.sl.r
  unfold_payloads
  pointwise []
  unfold mTab mNew
  simp only [grp_rowOf, ← h0, ← h1]
  simp only [read_chunk2, read_coef0, read_coef1, read_coef2, read_coef3]
  simp only [deq, sgnOf, lg2, tab] <;> rfl

include h2 h3 in
theorem v_chunk2 (j : Fin 32) (l : Fin 128) : trip_k0_t2.sl.r_24 arg5 arg9 arg23 s X5 X9 X23 k (ix2 j l) = (vTab k2 k3 (tab (arg9.view.read (Elt Ideal) X9)) (tab (arg5.view.read (Elt Ideal) X5))) (rowOf (group2 k) 2 j) (laneOf (strip s) l) := by
  unfold trip_k0_t2.sl.r_24 trip_k0_t2.sl.r_3 trip_k0_t2.sl.r_2
  unfold_payloads
  pointwise []
  unfold vTab vNew
  simp only [grp_rowOf, ← h2, ← h3]
  simp only [read_chunk2, read_coef0, read_coef1, read_coef2, read_coef3]
  simp only [deq, sgnOf, lg2, tab] <;> rfl

include h2 h3 in
theorem lv_chunk2 (j : Fin 32) (l : Fin 128) : trip_k0_t2.sl.r_25 arg5 arg9 arg23 s X5 X9 X23 k (ix2 j l) = lg2 ((vTab k2 k3 (tab (arg9.view.read (Elt Ideal) X9)) (tab (arg5.view.read (Elt Ideal) X5))) (rowOf (group2 k) 2 j) (laneOf (strip s) l)) := by
  unfold trip_k0_t2.sl.r_25 trip_k0_t2.sl.r_3 trip_k0_t2.sl.r_2
  unfold_payloads
  pointwise []
  unfold vTab vNew
  simp only [grp_rowOf, ← h2, ← h3]
  simp only [read_chunk2, read_coef0, read_coef1, read_coef2, read_coef3]
  simp only [deq, sgnOf, lg2, tab] <;> rfl

include h0 h1 in
theorem m_chunk3 (j : Fin 32) (l : Fin 128) : trip_k0_t2.sl.r_36 arg5 arg6 arg23 s X5 X6 X23 k (ix2 j l) = (mTab k0 k1 (tab (arg6.view.read (Elt Ideal) X6)) (tab (arg5.view.read (Elt Ideal) X5))) (rowOf (group2 k) 3 j) (laneOf (strip s) l) := by
  unfold trip_k0_t2.sl.r_36 trip_k0_t2.sl.r_35 trip_k0_t2.sl.r_34 trip_k0_t2.sl.r_1 trip_k0_t2.sl.r trip_k0_t2.sl.r_33
  unfold_payloads
  pointwise []
  unfold mTab mNew
  simp only [grp_rowOf, ← h0, ← h1]
  simp only [read_chunk3, read_coef0, read_coef1, read_coef2, read_coef3]
  simp only [deq, sgnOf, lg2, tab] <;> rfl

include h2 h3 in
theorem v_chunk3 (j : Fin 32) (l : Fin 128) : trip_k0_t2.sl.r_37 arg5 arg9 arg23 s X5 X9 X23 k (ix2 j l) = (vTab k2 k3 (tab (arg9.view.read (Elt Ideal) X9)) (tab (arg5.view.read (Elt Ideal) X5))) (rowOf (group2 k) 3 j) (laneOf (strip s) l) := by
  unfold trip_k0_t2.sl.r_37 trip_k0_t2.sl.r_35 trip_k0_t2.sl.r_3 trip_k0_t2.sl.r_2
  unfold_payloads
  pointwise []
  unfold vTab vNew
  simp only [grp_rowOf, ← h2, ← h3]
  simp only [read_chunk3, read_coef0, read_coef1, read_coef2, read_coef3]
  simp only [deq, sgnOf, lg2, tab] <;> rfl

include h2 h3 in
theorem lv_chunk3 (j : Fin 32) (l : Fin 128) : trip_k0_t2.sl.r_38 arg5 arg9 arg23 s X5 X9 X23 k (ix2 j l) = lg2 ((vTab k2 k3 (tab (arg9.view.read (Elt Ideal) X9)) (tab (arg5.view.read (Elt Ideal) X5))) (rowOf (group2 k) 3 j) (laneOf (strip s) l)) := by
  unfold trip_k0_t2.sl.r_38 trip_k0_t2.sl.r_35 trip_k0_t2.sl.r_3 trip_k0_t2.sl.r_2
  unfold_payloads
  pointwise []
  unfold vTab vNew
  simp only [grp_rowOf, ← h2, ← h3]
  simp only [read_chunk3, read_coef0, read_coef1, read_coef2, read_coef3]
  simp only [deq, sgnOf, lg2, tab] <;> rfl

include h0 h1 h2 h3 in
theorem u_chunk0 (j : Fin 32) (l : Fin 128) : k0_pay17 v25 v28 (trip_k0_t2.sl.r_2 arg23 X23 k) (trip_k0_t2.sl.r_3 arg23 X23 k) (trip_k0_t2.sl.r_4 arg5 s X5 k) (trip_k0_t2.sl.r_5 arg5 arg6 arg23 s X5 X6 X23 k) (arg9.view.readAt (Elt Ideal) (Rect.unit (s := S1x1024x512) (k0_off6 s k 0#32) S1x32x128.size (k0_off6_inb s k 0)).toLoadRect X9) (arg4.view.readAt (Elt Ideal) (Rect.unit (s := S1x1024x512) (k0_off6 s k 0#32) S1x32x128.size (k0_off6_inb s k 0)).toLoadRect X4) (ix3 0 j l)
    = updOf (v25 (ix2 0 l)) (v28 (ix2 0 l)) ((mTab k0 k1 (tab (arg6.view.read (Elt Ideal) X6)) (tab (arg5.view.read (Elt Ideal) X5))) (rowOf (group2 k) 0 j) (laneOf (strip s) l)) ((vTab k2 k3 (tab (arg9.view.read (Elt Ideal) X9)) (tab (arg5.view.read (Elt Ideal) X5))) (rowOf (group2 k) 0 j) (laneOf (strip s) l)) ((tab (arg4.view.read (Elt Ideal) X4)) (rowOf (group2 k) 0 j) (laneOf (strip s) l)) := by
  unfold trip_k0_t2.sl.r_5 trip_k0_t2.sl.r_4 trip_k0_t2.sl.r_3 trip_k0_t2.sl.r_2
  unfold_payloads
  pointwise []
  unfold updOf mTab mNew vTab vNew
  simp only [grp_rowOf, ← h0, ← h1, ← h2, ← h3]
  simp only [read_chunk0, read_coef0, read_coef1, read_coef2, read_coef3]
  simp only [deq, sgnOf, lg2, tab] <;> rfl

include h0 h1 h2 h3 in
theorem u_chunk1 (j : Fin 32) (l : Fin 128) : k0_pay36 v25 v28 (trip_k0_t2.sl.r_16 arg5 s X5 k) (trip_k0_t2.sl.r_17 arg5 arg6 arg23 s X5 X6 X23 k) (trip_k0_t2.sl.r_18 arg9 s X9 k) (trip_k0_t2.sl.r_19 arg9 arg23 s X9 X23 k) (arg4.view.readAt (Elt Ideal) (Rect.unit (s := S1x1024x512) (k0_off6 s k 32#32) S1x32x128.size (k0_off6_inb s k 1)).toLoadRect X4) (ix3 0 j l)
    = updOf (v25 (ix2 0 l)) (v28 (ix2 0 l)) ((mTab k0 k1 (tab (arg6.view.read (Elt Ideal) X6)) (tab (arg5.view.read (Elt Ideal) X5))) (rowOf (group2 k) 1 j) (laneOf (strip s) l)) ((vTab k2 k3 (tab (arg9.view.read (Elt Ideal) X9)) (tab (arg5.view.read (Elt Ideal) X5))) (rowOf (group2 k) 1 j) (laneOf (strip s) l)) ((tab (arg4.view.read (Elt Ideal) X4)) (rowOf (group2 k) 1 j) (laneOf (strip s) l)) := by
  unfold trip_k0_t2.sl.r_19 trip_k0_t2.sl.r_3 trip_k0_t2.sl.r_2 trip_k0_t2.sl.r_18 trip_k0_t2.sl.r_17 trip_k0_t2.sl.r_1 trip_k0_t2.sl.r trip_k0_t2.sl.r_16
  unfold_payloads
  pointwise []
  unfold updOf mTab mNew vTab vNew
  simp only [grp_rowOf, ← h0, ← h1, ← h2, ← h3]
  simp only [read_chunk1, read_coef0, read_coef1, read_coef2, read_coef3]
  simp only [deq, sgnOf, lg2, tab] <;> rfl

include h0 h1 h2 h3 in
theorem u_chunk2 (j : Fin 32) (l : Fin 128) : k0_pay51 v25 v28 (trip_k0_t2.sl.r_23 arg5 arg6 arg23 s X5 X6 X23 k) (trip_k0_t2.sl.r_25 arg5 arg9 arg23 s X5 X9 X23 k) (trip_k0_t2.sl.cst_304) (arg4.view.readAt (Elt Ideal) (Rect.unit (s := S1x1024x512) (k0_off6 s k 64#32) S1x32x128.size (k0_off6_inb s k 2)).toLoadRect X4) (ix3 0 j l)
    = updOf (v25 (ix2 0 l)) (v28 (ix2 0 l)) ((mTab k0 k1 (tab (arg6.view.read (Elt Ideal) X6)) (tab (arg5.view.read (Elt Ideal) X5))) (rowOf (group2 k) 2 j) (laneOf (strip s) l)) ((vTab k2 k3 (tab (arg9.view.read (Elt Ideal) X9)) (tab (arg5.view.read (Elt Ideal) X5))) (rowOf (group2 k) 2 j) (laneOf (strip s) l)) ((tab (arg4.view.read (Elt Ideal) X4)) (rowOf (group2 k) 2 j) (laneOf (strip s) l)) := by
  unfold trip_k0_t2.sl.cst_304 trip_k0_t2.sl.r_25 trip_k0_t2.sl.r_3 trip_k0_t2.sl.r_2 trip_k0_t2.sl.r_23 trip_k0_t2.sl.v575 trip_k0_t2.sl.v574 trip_k0_t2.sl.v573 trip_k0_t2.sl.v572 trip_k0_t2.sl.r_1 trip_k0_t2.sl.r
  unfold_payloads
  pointwise []
  unfold updOf mTab mNew vTab vNew
  simp only [grp_rowOf, ← h0, ← h1, ← h2, ← h3]
  simp only [read_chunk2, read_coef0, read_coef1, read_coef2, read_coef3]
  simp only [deq, sgnOf, lg2, tab] <;> rfl

include h0 h1 h2 h3 in
theorem u_chunk3 (j : Fin 32) (l : Fin 128) : k0_pay71 (trip_k0_t2.sl.r_39 arg5 arg6 arg9 arg23 v25 v28 s X5 X6 X9 X23 k) (trip_k0_t2.sl.r_40 arg4 s X4 k) (trip_k0_t2.sl.cst_331)  (ix3 0 j l)
    = updOf (v25 (ix2 0 l)) (v28 (ix2 0 l)) ((mTab k0 k1 (tab (arg6.view.read (Elt Ideal) X6)) (tab (arg5.view.read (Elt Ideal) X5))) (rowOf (group2 k) 3 j) (laneOf (strip s) l)) ((vTab k2 k3 (tab (arg9.view.read (Elt Ideal) X9)) (tab (arg5.view.read (Elt Ideal) X5))) (rowOf (group2 k) 3 j) (laneOf (strip s) l)) ((tab (arg4.view.read (Elt Ideal) X4)) (rowOf (group2 k) 3 j) (laneOf (strip s) l)) := by
  unfold trip_k0_t2.sl.cst_331 trip_k0_t2.sl.r_40 trip_k0_t2.sl.r_39 trip_k0_t2.sl.r_35 trip_k0_t2.sl.r_34 trip_k0_t2.sl.r_1 trip_k0_t2.sl.r trip_k0_t2.sl.r_33 trip_k0_t2.sl.r_3 trip_k0_t2.sl.r_2
  unfold_payloads
  pointwise []
  unfold updOf mTab mNew vTab vNew
  simp only [grp_rowOf, ← h0, ← h1, ← h2, ← h3]
  simp only [read_chunk3, read_coef0, read_coef1, read_coef2, read_coef3]
  simp only [deq, sgnOf, lg2, tab] <;> rfl

include h0 h1 in
theorem slab0 (V : Tab) (t : Fin 8) (l : Fin 128) : trip_k0_t2.sl.v849 arg5 arg6 arg23 s X5 X6 X23 k (ix2 t l)
    = slabStat (mTab k0 k1 (tab (arg6.view.read (Elt Ideal) X6)) (tab (arg5.view.read (Elt Ideal) X5))) V 0 (group2 k) t (laneOf (strip s) l) := by
  have F0 := m_chunk0 arg5 arg6 arg23 s k X5 X6 X23 h0 h1
  have F1 := m_chunk1 arg5 arg6 arg23 s k X5 X6 X23 h0 h1
  have F2 := m_chunk2 arg5 arg6 arg23 s k X5 X6 X23 h0 h1
  have F3 := m_chunk3 arg5 arg6 arg23 s k X5 X6 X23 h0 h1
  unfold trip_k0_t2.sl.v849 trip_k0_t2.sl.v840 trip_k0_t2.sl.r_41 trip_k0_t2.sl.r_29 trip_k0_t2.sl.r_27 trip_k0_t2.sl.v562 trip_k0_t2.sl.v532 trip_k0_t2.sl.v531 trip_k0_t2.sl.v529 trip_k0_t2.sl.v528 trip_k0_t2.sl.v530 trip_k0_t2.sl.v527 trip_k0_t2.sl.v526 trip_k0_t2.sl.r_22 trip_k0_t2.sl.r_9 trip_k0_t2.sl.r_8
  generalize hf0 : trip_k0_t2.sl.r_5 arg5 arg6 arg23 s X5 X6 X23 k = f0 at F0
  generalize hf1 : trip_k0_t2.sl.r_17 arg5 arg6 arg23 s X5 X6 X23 k = f1 at F1
  generalize hf2 : trip_k0_t2.sl.r_23 arg5 arg6 arg23 s X5 X6 X23 k = f2 at F2
  generalize hf3 : trip_k0_t2.sl.r_36 arg5 arg6 arg23 s X5 X6 X23 k = f3 at F3
  unfold_payloads
  pointwise []
  unfold slabStat tileStat acc4 fold4 absTab
  have e0 : inChunk 0 t = ⟨t.val, by omega⟩ := Fin.ext (by show 8 * 0 + t.val = t.val; omega)
  simp only [← F0, ← F1, ← F2, ← F3, e0]
  rfl

include h0 h1 in
theorem slab1 (V : Tab) (t : Fin 8) (l : Fin 128) : trip_k0_t2.sl.v855 arg5 arg6 arg23 s X5 X6 X23 k (ix2 t l)
    = slabStat (mTab k0 k1 (tab (arg6.view.read (Elt Ideal) X6)) (tab (arg5.view.read (Elt Ideal) X5))) V 1 (group2 k) t (laneOf (strip s) l) := by
  have F0 := m_chunk0 arg5 arg6 arg23 s k X5 X6 X23 h0 h1
  have F1 := m_chunk1 arg5 arg6 arg23 s k X5 X6 X23 h0 h1
  have F2 := m_chunk2 arg5 arg6 arg23 s k X5 X6 X23 h0 h1
  have F3 := m_chunk3 arg5 arg6 arg23 s k X5 X6 X23 h0 h1
  unfold trip_k0_t2.sl.v855 trip_k0_t2.sl.v841 trip_k0_t2.sl.r_42 trip_k0_t2.sl.r_30 trip_k0_t2.sl.r_28 trip_k0_t2.sl.r_26 trip_k0_t2.sl.v563 trip_k0_t2.sl.v543 trip_k0_t2.sl.v542 trip_k0_t2.sl.v540 trip_k0_t2.sl.v539 trip_k0_t2.sl.v541 trip_k0_t2.sl.v538 trip_k0_t2.sl.v537 trip_k0_t2.sl.v536 trip_k0_t2.sl.v535 trip_k0_t2.sl.cst_288 trip_k0_t2.sl.v534 trip_k0_t2.sl.v533 trip_k0_t2.sl.cst_287 trip_k0_t2.sl.r_22 trip_k0_t2.sl.r_10 trip_k0_t2.sl.r_8
  generalize hf0 : trip_k0_t2.sl.r_5 arg5 arg6 arg23 s X5 X6 X23 k = f0 at F0
  generalize hf1 : trip_k0_t2.sl.r_17 arg5 arg6 arg23 s X5 X6 X23 k = f1 at F1
  generalize hf2 : trip_k0_t2.sl.r_23 arg5 arg6 arg23 s X5 X6 X23 k = f2 at F2
  generalize hf3 : trip_k0_t2.sl.r_36 arg5 arg6 arg23 s X5 X6 X23 k = f3 at F3
  unfold_payloads
  pointwise []
  unfold slabStat tileStat acc4 fold4 posTab absTab
  have e0 : inChunk 0 t = ⟨t.val, by omega⟩ := Fin.ext (by show 8 * 0 + t.val = t.val; omega)
  simp only [← F0, ← F1, ← F2, ← F3, e0]
  rfl

include h2 h3 in
theorem slab2 (M : Tab) (t : Fin 8) (l : Fin 128) : trip_k0_t2.sl.v861 arg5 arg9 arg23 s X5 X9 X23 k (ix2 t l)
    = slabStat M (vTab k2 k3 (tab (arg9.view.read (Elt Ideal) X9)) (tab (arg5.view.read (Elt Ideal) X5))) 2 (group2 k) t (laneOf (strip s) l) := by
  have F0 := v_chunk0 arg5 arg9 arg23 s k X5 X9 X23 h2 h3
  have F1 := v_chunk1 arg5 arg9 arg23 s k X5 X9 X23 h2 h3
  have F2 := v_chunk2 arg5 arg9 arg23 s k X5 X9 X23 h2 h3
  have F3 := v_chunk3 arg5 arg9 arg23 s k X5 X9 X23 h2 h3
  unfold trip_k0_t2.sl.v861 trip_k0_t2.sl.v842 trip_k0_t2.sl.r_43 trip_k0_t2.sl.r_31 trip_k0_t2.sl.v564 trip_k0_t2.sl.v550 trip_k0_t2.sl.v549 trip_k0_t2.sl.v547 trip_k0_t2.sl.v546 trip_k0_t2.sl.v548 trip_k0_t2.sl.v545 trip_k0_t2.sl.v544 trip_k0_t2.sl.r_11
  generalize hf0 : trip_k0_t2.sl.r_6 arg5 arg9 arg23 s X5 X9 X23 k = f0 at F0
  generalize hf1 : trip_k0_t2.sl.r_20 arg5 arg9 arg23 s X5 X9 X23 k = f1 at F1
  generalize hf2 : trip_k0_t2.sl.r_24 arg5 arg9 arg23 s X5 X9 X23 k = f2 at F2
  generalize hf3 : trip_k0_t2.sl.r_37 arg5 arg9 arg23 s X5 X9 X23 k = f3 at F3
  unfold_payloads
  pointwise []
  unfold slabStat tileStat acc4 fold4
  have e0 : inChunk 0 t = ⟨t.val, by omega⟩ := Fin.ext (by show 8 * 0 + t.val = t.val; omega)
  simp only [← F0, ← F1, ← F2, ← F3, e0]
  rfl

include h2 h3 in
theorem slab3 (M : Tab) (t : Fin 8) (l : Fin 128) : trip_k0_t2.sl.v867 arg5 arg9 arg23 s X5 X9 X23 k (ix2 t l)
    = slabStat M (vTab k2 k3 (tab (arg9.view.read (Elt Ideal) X9)) (tab (arg5.view.read (Elt Ideal) X5))) 3 (group2 k) t (laneOf (strip s) l) := by
  have F0 := v_chunk0 arg5 arg9 arg23 s k X5 X9 X23 h2 h3
  have F1 := v_chunk1 arg5 arg9 arg23 s k X5 X9 X23 h2 h3
  have F2 := v_chunk2 arg5 arg9 arg23 s k X5 X9 X23 h2 h3
  have F3 := v_chunk3 arg5 arg9 arg23 s k X5 X9 X23 h2 h3
  unfold trip_k0_t2.sl.v867 trip_k0_t2.sl.v843 trip_k0_t2.sl.v839 trip_k0_t2.sl.v838 trip_k0_t2.sl.v836 trip_k0_t2.sl.v835 trip_k0_t2.sl.v837 trip_k0_t2.sl.v834 trip_k0_t2.sl.v833 trip_k0_t2.sl.v832 trip_k0_t2.sl.v830 trip_k0_t2.sl.r_32 trip_k0_t2.sl.v565 trip_k0_t2.sl.v561 trip_k0_t2.sl.v560 trip_k0_t2.sl.v558 trip_k0_t2.sl.v557 trip_k0_t2.sl.v559 trip_k0_t2.sl.v556 trip_k0_t2.sl.v555 trip_k0_t2.sl.v554 trip_k0_t2.sl.v535 trip_k0_t2.sl.cst_288 trip_k0_t2.sl.v552 trip_k0_t2.sl.v533 trip_k0_t2.sl.cst_287 trip_k0_t2.sl.r_15 trip_k0_t2.sl.r_14 trip_k0_t2.sl.r_13 trip_k0_t2.sl.r_12
  generalize hf0 : trip_k0_t2.sl.r_6 arg5 arg9 arg23 s X5 X9 X23 k = f0 at F0
  generalize hf1 : trip_k0_t2.sl.r_20 arg5 arg9 arg23 s X5 X9 X23 k = f1 at F1
  generalize hf2 : trip_k0_t2.sl.r_24 arg5 arg9 arg23 s X5 X9 X23 k = f2 at F2
  generalize hf3 : trip_k0_t2.sl.r_37 arg5 arg9 arg23 s X5 X9 X23 k = f3 at F3
  unfold_payloads
  pointwise []
  unfold slabStat tileStat acc4 fold4 posTab
  have e0 : inChunk 0 t = ⟨t.val, by omega⟩ := Fin.ext (by show 8 * 0 + t.val = t.val; omega)
  simp only [← F0, ← F1, ← F2, ← F3, e0]
  rfl

end Cert.Proof.KernelValue

end
-- ==== Proof.ValueFills2.lean ====
/- What the update loop leaves in the buffers it writes. -/
module

public import proofs.«01_k».proof.Proof.ValueChunk

@[expose] public section

set_option maxRecDepth 16384
set_option maxHeartbeats 4000000

noncomputable section

namespace Cert.Proof.KernelValue

open Cert.KernelIdeal Cert.KernelIdeal.Gen
open Idealize.ShloMosaic Idealize.ShloMosaic.TcCoe Idealize.ShloMosaic.Tactic
open Idealize.ShloMosaic.Pointwise

/-- A piece of a chunk of a block's rows, in the lanes of a strip, holds the table's values there. -/
theorem piece3 (s : Fin k0_t1_loop.trips) (k : Fin 8) (c : Fin 4) (U : Tab) (w : S1x32x128.Idx → EReal)
    (h : ∀ j l, w (ix3 0 j l) = U (rowOf k c j) (laneOf (strip s) l)) (x : S1x32x128.Idx) (y : S1x1024x512.Idx)
    (hy : ∀ a, (y a).val = (![0, 128 * k.val + 32 * c.val, 128 * s.val] : Fin 3 → ℕ) a + (x a).val) : w x = U (y 1) (y 2) := by
  have h1 : y 1 = rowOf k c (x 1) := Fin.ext (hy 1)
  have h2 : y 2 = laneOf (strip s) (x 2) := Fin.ext (hy 2)
  have hx : x = ix3 0 (x 1) (x 2) := funext fun a => by
    fin_cases a
    · exact Subsingleton.elim (α := Fin 1) _ _
    · rfl
    · rfl
  exact (congrArg w hx).trans ((h (x 1) (x 2)).trans (congrArg₂ U h1.symm h2.symm))

/-- A piece of a chunk of a scratch buffer's rows. -/
theorem piece2 (k : Fin 8) (c : Fin 4) (U : Fin 1024 → Fin 128 → EReal) (w : S32x128.Idx → EReal)
    (h : ∀ j l, w (ix2 j l) = U (rowOf k c j) l) (x : S32x128.Idx) (y : S1024x128.Idx)
    (hy : ∀ a, (y a).val = (![128 * k.val + 32 * c.val, 0] : Fin 2 → ℕ) a + (x a).val) : w x = U (y 0) (y 1) := by
  have h1 : y 0 = rowOf k c (x 0) := Fin.ext (hy 0)
  have h2 : y 1 = x 1 := Fin.ext ((hy 1).trans (Nat.zero_add _))
  have hx : x = ix2 (x 0) (x 1) := funext fun a => by
    fin_cases a <;> rfl
  exact (congrArg w hx).trans ((h (x 0) (x 1)).trans (congrArg₂ U h1.symm h2.symm))

/-- Eight rows of a slab, nine apart. -/
abbrev slabRect (off : Fin 2 → ℕ) (inb : ∀ a : Fin 2, (![8, 128] : Fin 2 → ℕ) a = 0 ∨ off a + (![9, 1] : Fin 2 → ℕ) a * ((![8, 128] : Fin 2 → ℕ) a - 1) < S72x128.size a)
    (sp : ∀ a : Fin 2, 0 < (![9, 1] : Fin 2 → ℕ) a) : Rect S72x128 :=
  { off := off, size := ![8, 128], stride := ![9, 1], inb := inb, stride_pos := sp }

/-- A strided piece of one slab: rows `g`, `g + 9`, …, one per tile row. -/
theorem Fills.slab {G : S4x72x128.Idx → Elt Ideal .f32} {D : S4x72x128.Idx → Prop} {L : List (View.Piece (Elt Ideal) S4x72x128 .f32)}
    (i : Fin 4) (g : ℕ) {off : Fin 2 → ℕ} (hoff : off = ![g, 0]) {inb0 : ∀ a, (![i.val, 0, 0] : Fin 3 → ℕ) a + (![1, 72, 128] : Fin 3 → ℕ) a ≤ S4x72x128.size a}
    {inb : ∀ a : Fin 2, (![8, 128] : Fin 2 → ℕ) a = 0 ∨ off a + (![9, 1] : Fin 2 → ℕ) a * ((![8, 128] : Fin 2 → ℕ) a - 1) < S72x128.size a} {sp : ∀ a : Fin 2, 0 < (![9, 1] : Fin 2 → ℕ) a}
    {h0 hs hst hR} (w : (slabRect off inb sp).shape.Idx → Elt Ideal .f32)
    (hw : ∀ (t : Fin 8) (l : Fin 128) (y : S4x72x128.Idx), (y 0).val = i.val → (y 1).val = g + 9 * t.val → (y 2).val = l.val → w (ix2 t l) = G y)
    (h : Fills G D L) :
    Fills G (fun y => ((y 0).val = i.val ∧ g ≤ (y 1).val ∧ (y 1).val % 9 = g % 9) ∨ D y)
      (⟨(Rect.unit (s := S4x72x128) ![i.val, 0, 0] ![1, 72, 128] inb0).within
        (Rect.consLift (n := 2) (d := S72x128.size) (slabRect off inb sp) ![1, 72, 128] h0 hs) hst,
        Rect.payAlong hR w⟩ :: L) := by
  subst hoff
  refine (Fills.cons _ _ (fun x => ?_) h).mono fun y hy => hy.imp_left fun hy => ?_
  · refine (Rect.payAlong_consLift (slabRect ![g, 0] inb sp) ![1, 72, 128] h0 hs w hR x (ix2 (x 1) (x 2)) (fun a => by fin_cases a <;> rfl)).trans ?_
    have hx0 : (x 0).val < 1 := (x 0).isLt
    refine hw (x 1) (x 2) _ ?_ ?_ ?_
    · show i.val + 0 + 1 * (x 0).val = i.val
      omega
    · show 0 + g + 9 * (x 1).val = g + 9 * (x 1).val
      omega
    · show 0 + 0 + 1 * (x 2).val = (x 2).val
      omega
  · refine (LoadRect.mem_set _).mpr ?_
    obtain ⟨hy0, hy1, hy2⟩ := hy
    have b1 : (y 1).val < 72 := (y 1).isLt
    have b2 : (y 2).val < 128 := (y 2).isLt
    have q : (y 1).val = 9 * ((y 1).val / 9) + (y 1).val % 9 := (Nat.div_add_mod _ 9).symm
    intro a
    fin_cases a
    · refine ⟨0, ?_, ?_⟩
      · show 0 < 1
        omega
      · show (y 0).val = i.val + 0 + 1 * 0
        omega
    · refine ⟨((y 1).val - g) / 9, ?_, ?_⟩
      · show ((y 1).val - g) / 9 < 8
        omega
      · show (y 1).val = 0 + g + 9 * (((y 1).val - g) / 9)
        omega
    · refine ⟨(y 2).val, ?_, ?_⟩
      · show (y 2).val < 128
        omega
      · show (y 2).val = 0 + 0 + 1 * (y 2).val
        omega

theorem box3 (a b : ℕ) (y : S1x1024x512.Idx) (h0 : (y 0).val < 1) (h1 : a ≤ (y 1).val) (h2 : (y 1).val < a + 32)
    (h3 : b ≤ (y 2).val) (h4 : (y 2).val < b + 128) :
    ∀ d : Fin 3, (![0, a, b] : Fin 3 → ℕ) d ≤ (y d).val ∧ (y d).val < (![0, a, b] : Fin 3 → ℕ) d + (![1, 32, 128] : Fin 3 → ℕ) d := by
  intro d
  fin_cases d
  · exact ⟨Nat.zero_le _, by show (y 0).val < 0 + 1; omega⟩
  · exact ⟨h1, h2⟩
  · exact ⟨h3, h4⟩

theorem box2 (a : ℕ) (y : S1024x128.Idx) (h1 : a ≤ (y 0).val) (h2 : (y 0).val < a + 32) :
    ∀ d : Fin 2, (![a, 0] : Fin 2 → ℕ) d ≤ (y d).val ∧ (y d).val < (![a, 0] : Fin 2 → ℕ) d + (![32, 128] : Fin 2 → ℕ) d := by
  intro d
  have b : (y 1).val < 128 := (y 1).isLt
  fin_cases d
  · exact ⟨h1, h2⟩
  · exact ⟨Nat.zero_le _, by show (y 1).val < 0 + 128; omega⟩

/-- The weight update, per row and lane. -/
def uTab (dof dep : EReal) (m v w : Tab) : Tab := fun r l => updOf dof dep (m r l) (v r l) (w r l)

/-- What the slabs hold: row `k + 9 t` of slab `i` is the statistic of tile row `t` of group `k`. -/
def slabTab (m v : Tab) (s : Fin 4) (y : S4x72x128.Idx) : EReal :=
  slabStat m v (y 0) ⟨(y 1).val % 9 % 8, Nat.mod_lt _ (by omega)⟩ ⟨(y 1).val / 9 % 8, Nat.mod_lt _ (by omega)⟩ (laneOf s (y 2))

/-- What `n` trips of the update loop have written. -/
structure Wrote2 (dof dep : EReal) (m v w : Tab) (s : Fin 4) (n : ℕ)
    (L : List (View.Piece (Elt Ideal) S1x1024x512 .f32) × List (View.Piece (Elt Ideal) S1024x128 .f32) × List (View.Piece (Elt Ideal) S1024x128 .f32)
      × List (View.Piece (Elt Ideal) S1024x128 .f32) × List (View.Piece (Elt Ideal) S4x72x128 .f32)) : Prop where
  upd : Fills (fun y => uTab dof dep m v w (y 1) (y 2)) (fun y => (y 1).val < 128 * n ∧ 128 * s.val ≤ (y 2).val ∧ (y 2).val < 128 * s.val + 128) L.1
  mom : Fills (fun y => m (y 0) (laneOf s (y 1))) (fun y => (y 0).val < 128 * n) L.2.1
  lm : Fills (fun y => lg2 (absTab m (y 0) (laneOf s (y 1)))) (fun y => (y 0).val < 128 * n) L.2.2.1
  lv : Fills (fun y => lg2 (v (y 0) (laneOf s (y 1)))) (fun y => (y 0).val < 128 * n) L.2.2.2.1
  slabs : Fills (Val := Elt Ideal) (e := .f32) (slabTab m v s) (fun y => (y 1).val % 9 < n) L.2.2.2.2

theorem st19_0 (arg5 : Memref sig .tc .vmem S1x1024x512 .bf16) (arg6 : Memref sig .tc .vmem S1x1024x512 .fp8e4m3) (arg23 : Memref sig .tc .vmem S4x8x128 .f32) (s : Fin k0_t1_loop.trips) (k : Fin k0_t2_loop.trips) (X5 : BufTy.Contents (Elt Ideal) arg5.view.ty) (X6 : BufTy.Contents (Elt Ideal) arg6.view.ty) (X23 : BufTy.Contents (Elt Ideal) arg23.view.ty) {k0 k1 : Coef} (h0 : ∀ r l, arg23.view.read (Elt Ideal) X23 (ix3 0 r l) = k0 r (laneOf (strip s) l))
  (h1 : ∀ r l, arg23.view.read (Elt Ideal) X23 (ix3 1 r l) = k1 r (laneOf (strip s) l)) (j : Fin 32) (l : Fin 128) : k0_pay19 (trip_k0_t2.sl.r_5 arg5 arg6 arg23 s X5 X6 X23 k) (ix2 j l) = (mTab k0 k1 (tab (arg6.view.read (Elt Ideal) X6)) (tab (arg5.view.read (Elt Ideal) X5))) (rowOf (group2 k) 0 j) (laneOf (strip s) l) := by
  have F := m_chunk0 arg5 arg6 arg23 s k X5 X6 X23 h0 h1 j l
  generalize trip_k0_t2.sl.r_5 arg5 arg6 arg23 s X5 X6 X23 k = f at F ⊢
  rw [← F]
  unfold_payloads
  pointwise []

theorem st20_0 (arg5 : Memref sig .tc .vmem S1x1024x512 .bf16) (arg6 : Memref sig .tc .vmem S1x1024x512 .fp8e4m3) (arg23 : Memref sig .tc .vmem S4x8x128 .f32) (s : Fin k0_t1_loop.trips) (k : Fin k0_t2_loop.trips) (X5 : BufTy.Contents (Elt Ideal) arg5.view.ty) (X6 : BufTy.Contents (Elt Ideal) arg6.view.ty) (X23 : BufTy.Contents (Elt Ideal) arg23.view.ty) {k0 k1 : Coef} (h0 : ∀ r l, arg23.view.read (Elt Ideal) X23 (ix3 0 r l) = k0 r (laneOf (strip s) l))
  (h1 : ∀ r l, arg23.view.read (Elt Ideal) X23 (ix3 1 r l) = k1 r (laneOf (strip s) l)) (j : Fin 32) (l : Fin 128) : k0_pay20 (trip_k0_t2.sl.r_8 arg5 arg6 arg23 s X5 X6 X23 k) (ix2 j l) = lg2 (absTab (mTab k0 k1 (tab (arg6.view.read (Elt Ideal) X6)) (tab (arg5.view.read (Elt Ideal) X5))) (rowOf (group2 k) 0 j) (laneOf (strip s) l)) := by
  have F := m_chunk0 arg5 arg6 arg23 s k X5 X6 X23 h0 h1 j l
  unfold trip_k0_t2.sl.r_8
  generalize trip_k0_t2.sl.r_5 arg5 arg6 arg23 s X5 X6 X23 k = f at F ⊢
  unfold absTab lg2
  rw [← F]
  unfold_payloads
  pointwise []

theorem st21_0 (arg5 : Memref sig .tc .vmem S1x1024x512 .bf16) (arg9 : Memref sig .tc .vmem S1x1024x512 .fp8e4m3) (arg23 : Memref sig .tc .vmem S4x8x128 .f32) (s : Fin k0_t1_loop.trips) (k : Fin k0_t2_loop.trips) (X5 : BufTy.Contents (Elt Ideal) arg5.view.ty) (X9 : BufTy.Contents (Elt Ideal) arg9.view.ty) (X23 : BufTy.Contents (Elt Ideal) arg23.view.ty) {k2 k3 : Coef} (h2 : ∀ r l, arg23.view.read (Elt Ideal) X23 (ix3 2 r l) = k2 r (laneOf (strip s) l))
  (h3 : ∀ r l, arg23.view.read (Elt Ideal) X23 (ix3 3 r l) = k3 r (laneOf (strip s) l)) (j : Fin 32) (l : Fin 128) : k0_pay21 (trip_k0_t2.sl.r_7 arg5 arg9 arg23 s X5 X9 X23 k) (ix2 j l) = lg2 ((vTab k2 k3 (tab (arg9.view.read (Elt Ideal) X9)) (tab (arg5.view.read (Elt Ideal) X5))) (rowOf (group2 k) 0 j) (laneOf (strip s) l)) := by
  have F := lv_chunk0 arg5 arg9 arg23 s k X5 X9 X23 h2 h3 j l

  generalize trip_k0_t2.sl.r_7 arg5 arg9 arg23 s X5 X9 X23 k = f at F ⊢
  rw [← F]
  unfold_payloads
  pointwise []

theorem st19_1 (arg5 : Memref sig .tc .vmem S1x1024x512 .bf16) (arg6 : Memref sig .tc .vmem S1x1024x512 .fp8e4m3) (arg23 : Memref sig .tc .vmem S4x8x128 .f32) (s : Fin k0_t1_loop.trips) (k : Fin k0_t2_loop.trips) (X5 : BufTy.Contents (Elt Ideal) arg5.view.ty) (X6 : BufTy.Contents (Elt Ideal) arg6.view.ty) (X23 : BufTy.Contents (Elt Ideal) arg23.view.ty) {k0 k1 : Coef} (h0 : ∀ r l, arg23.view.read (Elt Ideal) X23 (ix3 0 r l) = k0 r (laneOf (strip s) l))
  (h1 : ∀ r l, arg23.view.read (Elt Ideal) X23 (ix3 1 r l) = k1 r (laneOf (strip s) l)) (j : Fin 32) (l : Fin 128) : k0_pay38 (trip_k0_t2.sl.r_17 arg5 arg6 arg23 s X5 X6 X23 k) (ix2 j l) = (mTab k0 k1 (tab (arg6.view.read (Elt Ideal) X6)) (tab (arg5.view.read (Elt Ideal) X5))) (rowOf (group2 k) 1 j) (laneOf (strip s) l) := by
  have F := m_chunk1 arg5 arg6 arg23 s k X5 X6 X23 h0 h1 j l
  generalize trip_k0_t2.sl.r_17 arg5 arg6 arg23 s X5 X6 X23 k = f at F ⊢
  rw [← F]
  unfold_payloads
  pointwise []

theorem st20_1 (arg5 : Memref sig .tc .vmem S1x1024x512 .bf16) (arg6 : Memref sig .tc .vmem S1x1024x512 .fp8e4m3) (arg23 : Memref sig .tc .vmem S4x8x128 .f32) (s : Fin k0_t1_loop.trips) (k : Fin k0_t2_loop.trips) (X5 : BufTy.Contents (Elt Ideal) arg5.view.ty) (X6 : BufTy.Contents (Elt Ideal) arg6.view.ty) (X23 : BufTy.Contents (Elt Ideal) arg23.view.ty) {k0 k1 : Coef} (h0 : ∀ r l, arg23.view.read (Elt Ideal) X23 (ix3 0 r l) = k0 r (laneOf (strip s) l))
  (h1 : ∀ r l, arg23.view.read (Elt Ideal) X23 (ix3 1 r l) = k1 r (laneOf (strip s) l)) (j : Fin 32) (l : Fin 128) : k0_pay39 (trip_k0_t2.sl.r_17 arg5 arg6 arg23 s X5 X6 X23 k) (ix2 j l) = lg2 (absTab (mTab k0 k1 (tab (arg6.view.read (Elt Ideal) X6)) (tab (arg5.view.read (Elt Ideal) X5))) (rowOf (group2 k) 1 j) (laneOf (strip s) l)) := by
  have F := m_chunk1 arg5 arg6 arg23 s k X5 X6 X23 h0 h1 j l

  generalize trip_k0_t2.sl.r_17 arg5 arg6 arg23 s X5 X6 X23 k = f at F ⊢
  unfold absTab lg2
  rw [← F]
  unfold_payloads
  pointwise []

theorem st21_1 (arg5 : Memref sig .tc .vmem S1x1024x512 .bf16) (arg9 : Memref sig .tc .vmem S1x1024x512 .fp8e4m3) (arg23 : Memref sig .tc .vmem S4x8x128 .f32) (s : Fin k0_t1_loop.trips) (k : Fin k0_t2_loop.trips) (X5 : BufTy.Contents (Elt Ideal) arg5.view.ty) (X9 : BufTy.Contents (Elt Ideal) arg9.view.ty) (X23 : BufTy.Contents (Elt Ideal) arg23.view.ty) {k2 k3 : Coef} (h2 : ∀ r l, arg23.view.read (Elt Ideal) X23 (ix3 2 r l) = k2 r (laneOf (strip s) l))
  (h3 : ∀ r l, arg23.view.read (Elt Ideal) X23 (ix3 3 r l) = k3 r (laneOf (strip s) l)) (j : Fin 32) (l : Fin 128) : trip_k0_t2.sl.v525 arg5 arg9 arg23 s X5 X9 X23 k (ix2 j l) = lg2 ((vTab k2 k3 (tab (arg9.view.read (Elt Ideal) X9)) (tab (arg5.view.read (Elt Ideal) X5))) (rowOf (group2 k) 1 j) (laneOf (strip s) l)) := by
  have F := lv_chunk1 arg5 arg9 arg23 s k X5 X9 X23 h2 h3 j l
  unfold trip_k0_t2.sl.v525
  generalize trip_k0_t2.sl.r_21 arg5 arg9 arg23 s X5 X9 X23 k = f at F ⊢
  rw [← F]
  unfold_payloads
  pointwise []

theorem st19_2 (arg5 : Memref sig .tc .vmem S1x1024x512 .bf16) (arg6 : Memref sig .tc .vmem S1x1024x512 .fp8e4m3) (arg23 : Memref sig .tc .vmem S4x8x128 .f32) (s : Fin k0_t1_loop.trips) (k : Fin k0_t2_loop.trips) (X5 : BufTy.Contents (Elt Ideal) arg5.view.ty) (X6 : BufTy.Contents (Elt Ideal) arg6.view.ty) (X23 : BufTy.Contents (Elt Ideal) arg23.view.ty) {k0 k1 : Coef} (h0 : ∀ r l, arg23.view.read (Elt Ideal) X23 (ix3 0 r l) = k0 r (laneOf (strip s) l))
  (h1 : ∀ r l, arg23.view.read (Elt Ideal) X23 (ix3 1 r l) = k1 r (laneOf (strip s) l)) (j : Fin 32) (l : Fin 128) : k0_pay53 (trip_k0_t2.sl.r_23 arg5 arg6 arg23 s X5 X6 X23 k) (ix2 j l) = (mTab k0 k1 (tab (arg6.view.read (Elt Ideal) X6)) (tab (arg5.view.read (Elt Ideal) X5))) (rowOf (group2 k) 2 j) (laneOf (strip s) l) := by
  have F := m_chunk2 arg5 arg6 arg23 s k X5 X6 X23 h0 h1 j l
  generalize trip_k0_t2.sl.r_23 arg5 arg6 arg23 s X5 X6 X23 k = f at F ⊢
  rw [← F]
  unfold_payloads
  pointwise []

theorem st20_2 (arg5 : Memref sig .tc .vmem S1x1024x512 .bf16) (arg6 : Memref sig .tc .vmem S1x1024x512 .fp8e4m3) (arg23 : Memref sig .tc .vmem S4x8x128 .f32) (s : Fin k0_t1_loop.trips) (k : Fin k0_t2_loop.trips) (X5 : BufTy.Contents (Elt Ideal) arg5.view.ty) (X6 : BufTy.Contents (Elt Ideal) arg6.view.ty) (X23 : BufTy.Contents (Elt Ideal) arg23.view.ty) {k0 k1 : Coef} (h0 : ∀ r l, arg23.view.read (Elt Ideal) X23 (ix3 0 r l) = k0 r (laneOf (strip s) l))
  (h1 : ∀ r l, arg23.view.read (Elt Ideal) X23 (ix3 1 r l) = k1 r (laneOf (strip s) l)) (j : Fin 32) (l : Fin 128) : k0_pay54 (trip_k0_t2.sl.r_23 arg5 arg6 arg23 s X5 X6 X23 k) (ix2 j l) = lg2 (absTab (mTab k0 k1 (tab (arg6.view.read (Elt Ideal) X6)) (tab (arg5.view.read (Elt Ideal) X5))) (rowOf (group2 k) 2 j) (laneOf (strip s) l)) := by
  have F := m_chunk2 arg5 arg6 arg23 s k X5 X6 X23 h0 h1 j l

  generalize trip_k0_t2.sl.r_23 arg5 arg6 arg23 s X5 X6 X23 k = f at F ⊢
  unfold absTab lg2
  rw [← F]
  unfold_payloads
  pointwise []

theorem st21_2 (arg5 : Memref sig .tc .vmem S1x1024x512 .bf16) (arg9 : Memref sig .tc .vmem S1x1024x512 .fp8e4m3) (arg23 : Memref sig .tc .vmem S4x8x128 .f32) (s : Fin k0_t1_loop.trips) (k : Fin k0_t2_loop.trips) (X5 : BufTy.Contents (Elt Ideal) arg5.view.ty) (X9 : BufTy.Contents (Elt Ideal) arg9.view.ty) (X23 : BufTy.Contents (Elt Ideal) arg23.view.ty) {k2 k3 : Coef} (h2 : ∀ r l, arg23.view.read (Elt Ideal) X23 (ix3 2 r l) = k2 r (laneOf (strip s) l))
  (h3 : ∀ r l, arg23.view.read (Elt Ideal) X23 (ix3 3 r l) = k3 r (laneOf (strip s) l)) (j : Fin 32) (l : Fin 128) : k0_pay55 (trip_k0_t2.sl.r_25 arg5 arg9 arg23 s X5 X9 X23 k) (ix2 j l) = lg2 ((vTab k2 k3 (tab (arg9.view.read (Elt Ideal) X9)) (tab (arg5.view.read (Elt Ideal) X5))) (rowOf (group2 k) 2 j) (laneOf (strip s) l)) := by
  have F := lv_chunk2 arg5 arg9 arg23 s k X5 X9 X23 h2 h3 j l

  generalize trip_k0_t2.sl.r_25 arg5 arg9 arg23 s X5 X9 X23 k = f at F ⊢
  rw [← F]
  unfold_payloads
  pointwise []

theorem st19_3 (arg5 : Memref sig .tc .vmem S1x1024x512 .bf16) (arg6 : Memref sig .tc .vmem S1x1024x512 .fp8e4m3) (arg23 : Memref sig .tc .vmem S4x8x128 .f32) (s : Fin k0_t1_loop.trips) (k : Fin k0_t2_loop.trips) (X5 : BufTy.Contents (Elt Ideal) arg5.view.ty) (X6 : BufTy.Contents (Elt Ideal) arg6.view.ty) (X23 : BufTy.Contents (Elt Ideal) arg23.view.ty) {k0 k1 : Coef} (h0 : ∀ r l, arg23.view.read (Elt Ideal) X23 (ix3 0 r l) = k0 r (laneOf (strip s) l))
  (h1 : ∀ r l, arg23.view.read (Elt Ideal) X23 (ix3 1 r l) = k1 r (laneOf (strip s) l)) (j : Fin 32) (l : Fin 128) : k0_pay73 (trip_k0_t2.sl.r_36 arg5 arg6 arg23 s X5 X6 X23 k) (ix2 j l) = (mTab k0 k1 (tab (arg6.view.read (Elt Ideal) X6)) (tab (arg5.view.read (Elt Ideal) X5))) (rowOf (group2 k) 3 j) (laneOf (strip s) l) := by
  have F := m_chunk3 arg5 arg6 arg23 s k X5 X6 X23 h0 h1 j l
  generalize trip_k0_t2.sl.r_36 arg5 arg6 arg23 s X5 X6 X23 k = f at F ⊢
  rw [← F]
  unfold_payloads
  pointwise []

theorem st20_3 (arg5 : Memref sig .tc .vmem S1x1024x512 .bf16) (arg6 : Memref sig .tc .vmem S1x1024x512 .fp8e4m3) (arg23 : Memref sig .tc .vmem S4x8x128 .f32) (s : Fin k0_t1_loop.trips) (k : Fin k0_t2_loop.trips) (X5 : BufTy.Contents (Elt Ideal) arg5.view.ty) (X6 : BufTy.Contents (Elt Ideal) arg6.view.ty) (X23 : BufTy.Contents (Elt Ideal) arg23.view.ty) {k0 k1 : Coef} (h0 : ∀ r l, arg23.view.read (Elt Ideal) X23 (ix3 0 r l) = k0 r (laneOf (strip s) l))
  (h1 : ∀ r l, arg23.view.read (Elt Ideal) X23 (ix3 1 r l) = k1 r (laneOf (strip s) l)) (j : Fin 32) (l : Fin 128) : k0_pay74 (trip_k0_t2.sl.r_36 arg5 arg6 arg23 s X5 X6 X23 k) (ix2 j l) = lg2 (absTab (mTab k0 k1 (tab (arg6.view.read (Elt Ideal) X6)) (tab (arg5.view.read (Elt Ideal) X5))) (rowOf (group2 k) 3 j) (laneOf (strip s) l)) := by
  have F := m_chunk3 arg5 arg6 arg23 s k X5 X6 X23 h0 h1 j l

  generalize trip_k0_t2.sl.r_36 arg5 arg6 arg23 s X5 X6 X23 k = f at F ⊢
  unfold absTab lg2
  rw [← F]
  unfold_payloads
  pointwise []

theorem st21_3 (arg5 : Memref sig .tc .vmem S1x1024x512 .bf16) (arg9 : Memref sig .tc .vmem S1x1024x512 .fp8e4m3) (arg23 : Memref sig .tc .vmem S4x8x128 .f32) (s : Fin k0_t1_loop.trips) (k : Fin k0_t2_loop.trips) (X5 : BufTy.Contents (Elt Ideal) arg5.view.ty) (X9 : BufTy.Contents (Elt Ideal) arg9.view.ty) (X23 : BufTy.Contents (Elt Ideal) arg23.view.ty) {k2 k3 : Coef} (h2 : ∀ r l, arg23.view.read (Elt Ideal) X23 (ix3 2 r l) = k2 r (laneOf (strip s) l))
  (h3 : ∀ r l, arg23.view.read (Elt Ideal) X23 (ix3 3 r l) = k3 r (laneOf (strip s) l)) (j : Fin 32) (l : Fin 128) : k0_pay75 (trip_k0_t2.sl.r_38 arg5 arg9 arg23 s X5 X9 X23 k) (ix2 j l) = lg2 ((vTab k2 k3 (tab (arg9.view.read (Elt Ideal) X9)) (tab (arg5.view.read (Elt Ideal) X5))) (rowOf (group2 k) 3 j) (laneOf (strip s) l)) := by
  have F := lv_chunk3 arg5 arg9 arg23 s k X5 X9 X23 h2 h3 j l

  generalize trip_k0_t2.sl.r_38 arg5 arg9 arg23 s X5 X9 X23 k = f at F ⊢
  rw [← F]
  unfold_payloads
  pointwise []

theorem slabAt (m v : Tab) (s : Fin k0_t1_loop.trips) (k : Fin k0_t2_loop.trips) (q : Fin 4) (t : Fin 8) (l : Fin 128) (y : S4x72x128.Idx)
    (y0 : (y 0).val = q.val) (y1 : (y 1).val = k.val + 9 * t.val) (y2 : (y 2).val = l.val) :
    slabStat m v q (group2 k) t (laneOf (strip s) l) = slabTab m v (strip s) y := by
  have hk : k.val < 8 := Nat.lt_of_lt_of_le k.isLt k0_t2_abs.2.1
  have e0 : y 0 = q := Fin.ext y0
  have e2 : y 2 = l := Fin.ext y2
  have ek : (⟨(y 1).val % 9 % 8, Nat.mod_lt _ (by omega)⟩ : Fin 8) = group2 k := Fin.ext (by show (y 1).val % 9 % 8 = k.val; omega)
  have et : (⟨(y 1).val / 9 % 8, Nat.mod_lt _ (by omega)⟩ : Fin 8) = t := Fin.ext (by show (y 1).val / 9 % 8 = t.val; have := t.isLt; omega)
  unfold slabTab
  rw [ek, et, e0, e2]

set_option maxHeartbeats 16000000 in
/-- One trip more. -/
theorem wrote2_step (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v25 v28 : FVec Ideal S1x128 .f32) (s : Fin k0_t1_loop.trips) (v31 : BitVec 32) (v41 : FVec Ideal S8x128 .f32) (X4 : BufTy.Contents (Elt Ideal) arg4.view.ty) (X5 : BufTy.Contents (Elt Ideal) arg5.view.ty) (X6 : BufTy.Contents (Elt Ideal) arg6.view.ty) (X9 : BufTy.Contents (Elt Ideal) arg9.view.ty) (X23 : BufTy.Contents (Elt Ideal) arg23.view.ty) (dof dep : EReal) (h25 : ∀ l, v25 (ix2 0 l) = dof) (h28 : ∀ l, v28 (ix2 0 l) = dep) (k0 k1 k2 k3 : Coef)
  (h0 : ∀ r l, arg23.view.read (Elt Ideal) X23 (ix3 0 r l) = k0 r (laneOf (strip s) l))
  (h1 : ∀ r l, arg23.view.read (Elt Ideal) X23 (ix3 1 r l) = k1 r (laneOf (strip s) l))
  (h2 : ∀ r l, arg23.view.read (Elt Ideal) X23 (ix3 2 r l) = k2 r (laneOf (strip s) l))
  (h3 : ∀ r l, arg23.view.read (Elt Ideal) X23 (ix3 3 r l) = k3 r (laneOf (strip s) l)) (k : Fin k0_t2_loop.trips)
    (h : Wrote2 dof dep (mTab k0 k1 (tab (arg6.view.read (Elt Ideal) X6)) (tab (arg5.view.read (Elt Ideal) X5))) (vTab k2 k3 (tab (arg9.view.read (Elt Ideal) X9)) (tab (arg5.view.read (Elt Ideal) X5))) (tab (arg4.view.read (Elt Ideal) X4)) (strip s) k.val (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 s v31 v41 X4 X5 X6 X9 X23 k.val)) :
    Wrote2 dof dep (mTab k0 k1 (tab (arg6.view.read (Elt Ideal) X6)) (tab (arg5.view.read (Elt Ideal) X5))) (vTab k2 k3 (tab (arg9.view.read (Elt Ideal) X9)) (tab (arg5.view.read (Elt Ideal) X5))) (tab (arg4.view.read (Elt Ideal) X4)) (strip s) (k.val + 1) (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 s v31 v41 X4 X5 X6 X9 X23 (k.val + 1)) := by
  have hk : k.val < 8 := Nat.lt_of_lt_of_le k.isLt k0_t2_abs.2.1
  rw [pb_k0_t2_succ]
  unfold tripL_k0_t2 trip_k0_t2
  dsimp only
  refine ⟨?_, ?_, ?_, ?_, ?_⟩
  · refine Fills.mono (Fills.append (Fills.unit _ _ (k0_off6_eq s k 3) (piece3 s (group2 k) 3 (uTab dof dep (mTab k0 k1 (tab (arg6.view.read (Elt Ideal) X6)) (tab (arg5.view.read (Elt Ideal) X5))) (vTab k2 k3 (tab (arg9.view.read (Elt Ideal) X9)) (tab (arg5.view.read (Elt Ideal) X5))) (tab (arg4.view.read (Elt Ideal) X4))) _ fun j l => by rw [u_chunk3 arg4 arg5 arg6 arg9 arg23 s k v25 v28 X4 X5 X6 X9 X23 h0 h1 h2 h3, h25, h28]; rfl) (Fills.unit _ _ (k0_off6_eq s k 2) (piece3 s (group2 k) 2 (uTab dof dep (mTab k0 k1 (tab (arg6.view.read (Elt Ideal) X6)) (tab (arg5.view.read (Elt Ideal) X5))) (vTab k2 k3 (tab (arg9.view.read (Elt Ideal) X9)) (tab (arg5.view.read (Elt Ideal) X5))) (tab (arg4.view.read (Elt Ideal) X4))) _ fun j l => by rw [u_chunk2 arg4 arg5 arg6 arg9 arg23 s k v25 v28 X4 X5 X6 X9 X23 h0 h1 h2 h3, h25, h28]; rfl) (Fills.unit _ _ (k0_off6_eq s k 1) (piece3 s (group2 k) 1 (uTab dof dep (mTab k0 k1 (tab (arg6.view.read (Elt Ideal) X6)) (tab (arg5.view.read (Elt Ideal) X5))) (vTab k2 k3 (tab (arg9.view.read (Elt Ideal) X9)) (tab (arg5.view.read (Elt Ideal) X5))) (tab (arg4.view.read (Elt Ideal) X4))) _ fun j l => by rw [u_chunk1 arg4 arg5 arg6 arg9 arg23 s k v25 v28 X4 X5 X6 X9 X23 h0 h1 h2 h3, h25, h28]; rfl) (Fills.unit _ _ (k0_off6_eq s k 0) (piece3 s (group2 k) 0 (uTab dof dep (mTab k0 k1 (tab (arg6.view.read (Elt Ideal) X6)) (tab (arg5.view.read (Elt Ideal) X5))) (vTab k2 k3 (tab (arg9.view.read (Elt Ideal) X9)) (tab (arg5.view.read (Elt Ideal) X5))) (tab (arg4.view.read (Elt Ideal) X4))) _ fun j l => by rw [u_chunk0 arg4 arg5 arg6 arg9 arg23 s k v25 v28 X4 X5 X6 X9 X23 h0 h1 h2 h3, h25, h28]; rfl) Fills.nil)))) h.upd) ?_
    rintro y ⟨hy1, hy2, hy3⟩
    have b0 : (y 0).val < 1 := (y 0).isLt
    by_cases hb : (y 1).val < 128 * k.val
    · exact .inr ⟨hb, hy2, hy3⟩
    · left
      have q : (128 * k.val + 96 ≤ (y 1).val) ∨ (128 * k.val + 64 ≤ (y 1).val ∧ (y 1).val < 128 * k.val + 96) ∨ (128 * k.val + 32 ≤ (y 1).val ∧ (y 1).val < 128 * k.val + 64) ∨ ((y 1).val < 128 * k.val + 32) := by omega
      rcases q with q | q | q | q
      · exact .inl (box3 _ _ y (by omega) (by show 128 * k.val + 32 * 3 ≤ _; omega) (by show _ < 128 * k.val + 32 * 3 + 32; omega) hy2 hy3)
      · exact .inr (.inl (box3 _ _ y (by omega) (by show 128 * k.val + 32 * 2 ≤ _; omega) (by show _ < 128 * k.val + 32 * 2 + 32; omega) hy2 hy3))
      · exact .inr (.inr (.inl (box3 _ _ y (by omega) (by show 128 * k.val + 32 * 1 ≤ _; omega) (by show _ < 128 * k.val + 32 * 1 + 32; omega) hy2 hy3)))
      · exact .inr (.inr (.inr (.inl (box3 _ _ y (by omega) (by show 128 * k.val + 32 * 0 ≤ _; omega) (by show _ < 128 * k.val + 32 * 0 + 32; omega) hy2 hy3))))
  · refine Fills.mono (Fills.append (Fills.unit _ _ (k0_off7_eq k 3) (piece2 (group2 k) 3 (fun r l => (mTab k0 k1 (tab (arg6.view.read (Elt Ideal) X6)) (tab (arg5.view.read (Elt Ideal) X5))) r (laneOf (strip s) l)) _ fun j l => st19_3 arg5 arg6 arg23 s k X5 X6 X23 h0 h1 j l) (Fills.unit _ _ (k0_off7_eq k 2) (piece2 (group2 k) 2 (fun r l => (mTab k0 k1 (tab (arg6.view.read (Elt Ideal) X6)) (tab (arg5.view.read (Elt Ideal) X5))) r (laneOf (strip s) l)) _ fun j l => st19_2 arg5 arg6 arg23 s k X5 X6 X23 h0 h1 j l) (Fills.unit _ _ (k0_off7_eq k 1) (piece2 (group2 k) 1 (fun r l => (mTab k0 k1 (tab (arg6.view.read (Elt Ideal) X6)) (tab (arg5.view.read (Elt Ideal) X5))) r (laneOf (strip s) l)) _ fun j l => st19_1 arg5 arg6 arg23 s k X5 X6 X23 h0 h1 j l) (Fills.unit _ _ (k0_off7_eq k 0) (piece2 (group2 k) 0 (fun r l => (mTab k0 k1 (tab (arg6.view.read (Elt Ideal) X6)) (tab (arg5.view.read (Elt Ideal) X5))) r (laneOf (strip s) l)) _ fun j l => st19_0 arg5 arg6 arg23 s k X5 X6 X23 h0 h1 j l) Fills.nil)))) h.mom) ?_
    intro y hy
    by_cases hb : (y 0).val < 128 * k.val
    · exact .inr hb
    · left
      have q : (128 * k.val + 96 ≤ (y 0).val) ∨ (128 * k.val + 64 ≤ (y 0).val ∧ (y 0).val < 128 * k.val + 96) ∨ (128 * k.val + 32 ≤ (y 0).val ∧ (y 0).val < 128 * k.val + 64) ∨ ((y 0).val < 128 * k.val + 32) := by omega
      rcases q with q | q | q | q
      · exact .inl (box2 _ y (by show 128 * k.val + 32 * 3 ≤ _; omega) (by show _ < 128 * k.val + 32 * 3 + 32; omega))
      · exact .inr (.inl (box2 _ y (by show 128 * k.val + 32 * 2 ≤ _; omega) (by show _ < 128 * k.val + 32 * 2 + 32; omega)))
      · exact .inr (.inr (.inl (box2 _ y (by show 128 * k.val + 32 * 1 ≤ _; omega) (by show _ < 128 * k.val + 32 * 1 + 32; omega))))
      · exact .inr (.inr (.inr (.inl (box2 _ y (by show 128 * k.val + 32 * 0 ≤ _; omega) (by show _ < 128 * k.val + 32 * 0 + 32; omega)))))
  · refine Fills.mono (Fills.append (Fills.unit _ _ (k0_off7_eq k 3) (piece2 (group2 k) 3 (fun r l => lg2 (absTab (mTab k0 k1 (tab (arg6.view.read (Elt Ideal) X6)) (tab (arg5.view.read (Elt Ideal) X5))) r (laneOf (strip s) l))) _ fun j l => st20_3 arg5 arg6 arg23 s k X5 X6 X23 h0 h1 j l) (Fills.unit _ _ (k0_off7_eq k 2) (piece2 (group2 k) 2 (fun r l => lg2 (absTab (mTab k0 k1 (tab (arg6.view.read (Elt Ideal) X6)) (tab (arg5.view.read (Elt Ideal) X5))) r (laneOf (strip s) l))) _ fun j l => st20_2 arg5 arg6 arg23 s k X5 X6 X23 h0 h1 j l) (Fills.unit _ _ (k0_off7_eq k 1) (piece2 (group2 k) 1 (fun r l => lg2 (absTab (mTab k0 k1 (tab (arg6.view.read (Elt Ideal) X6)) (tab (arg5.view.read (Elt Ideal) X5))) r (laneOf (strip s) l))) _ fun j l => st20_1 arg5 arg6 arg23 s k X5 X6 X23 h0 h1 j l) (Fills.unit _ _ (k0_off7_eq k 0) (piece2 (group2 k) 0 (fun r l => lg2 (absTab (mTab k0 k1 (tab (arg6.view.read (Elt Ideal) X6)) (tab (arg5.view.read (Elt Ideal) X5))) r (laneOf (strip s) l))) _ fun j l => st20_0 arg5 arg6 arg23 s k X5 X6 X23 h0 h1 j l) Fills.nil)))) h.lm) ?_
    intro y hy
    by_cases hb : (y 0).val < 128 * k.val
    · exact .inr hb
    · left
      have q : (128 * k.val + 96 ≤ (y 0).val) ∨ (128 * k.val + 64 ≤ (y 0).val ∧ (y 0).val < 128 * k.val + 96) ∨ (128 * k.val + 32 ≤ (y 0).val ∧ (y 0).val < 128 * k.val + 64) ∨ ((y 0).val < 128 * k.val + 32) := by omega
      rcases q with q | q | q | q
      · exact .inl (box2 _ y (by show 128 * k.val + 32 * 3 ≤ _; omega) (by show _ < 128 * k.val + 32 * 3 + 32; omega))
      · exact .inr (.inl (box2 _ y (by show 128 * k.val + 32 * 2 ≤ _; omega) (by show _ < 128 * k.val + 32 * 2 + 32; omega)))
      · exact .inr (.inr (.inl (box2 _ y (by show 128 * k.val + 32 * 1 ≤ _; omega) (by show _ < 128 * k.val + 32 * 1 + 32; omega))))
      · exact .inr (.inr (.inr (.inl (box2 _ y (by show 128 * k.val + 32 * 0 ≤ _; omega) (by show _ < 128 * k.val + 32 * 0 + 32; omega)))))
  · refine Fills.mono (Fills.append (Fills.unit _ _ (k0_off7_eq k 3) (piece2 (group2 k) 3 (fun r l => lg2 ((vTab k2 k3 (tab (arg9.view.read (Elt Ideal) X9)) (tab (arg5.view.read (Elt Ideal) X5))) r (laneOf (strip s) l))) _ fun j l => st21_3 arg5 arg9 arg23 s k X5 X9 X23 h2 h3 j l) (Fills.unit _ _ (k0_off7_eq k 2) (piece2 (group2 k) 2 (fun r l => lg2 ((vTab k2 k3 (tab (arg9.view.read (Elt Ideal) X9)) (tab (arg5.view.read (Elt Ideal) X5))) r (laneOf (strip s) l))) _ fun j l => st21_2 arg5 arg9 arg23 s k X5 X9 X23 h2 h3 j l) (Fills.unit _ _ (k0_off7_eq k 1) (piece2 (group2 k) 1 (fun r l => lg2 ((vTab k2 k3 (tab (arg9.view.read (Elt Ideal) X9)) (tab (arg5.view.read (Elt Ideal) X5))) r (laneOf (strip s) l))) _ fun j l => st21_1 arg5 arg9 arg23 s k X5 X9 X23 h2 h3 j l) (Fills.unit _ _ (k0_off7_eq k 0) (piece2 (group2 k) 0 (fun r l => lg2 ((vTab k2 k3 (tab (arg9.view.read (Elt Ideal) X9)) (tab (arg5.view.read (Elt Ideal) X5))) r (laneOf (strip s) l))) _ fun j l => st21_0 arg5 arg9 arg23 s k X5 X9 X23 h2 h3 j l) Fills.nil)))) h.lv) ?_
    intro y hy
    by_cases hb : (y 0).val < 128 * k.val
    · exact .inr hb
    · left
      have q : (128 * k.val + 96 ≤ (y 0).val) ∨ (128 * k.val + 64 ≤ (y 0).val ∧ (y 0).val < 128 * k.val + 96) ∨ (128 * k.val + 32 ≤ (y 0).val ∧ (y 0).val < 128 * k.val + 64) ∨ ((y 0).val < 128 * k.val + 32) := by omega
      rcases q with q | q | q | q
      · exact .inl (box2 _ y (by show 128 * k.val + 32 * 3 ≤ _; omega) (by show _ < 128 * k.val + 32 * 3 + 32; omega))
      · exact .inr (.inl (box2 _ y (by show 128 * k.val + 32 * 2 ≤ _; omega) (by show _ < 128 * k.val + 32 * 2 + 32; omega)))
      · exact .inr (.inr (.inl (box2 _ y (by show 128 * k.val + 32 * 1 ≤ _; omega) (by show _ < 128 * k.val + 32 * 1 + 32; omega))))
      · exact .inr (.inr (.inr (.inl (box2 _ y (by show 128 * k.val + 32 * 0 ≤ _; omega) (by show _ < 128 * k.val + 32 * 0 + 32; omega)))))
  · refine Fills.mono (Fills.append (D := fun y => ((y 0).val = 3 ∧ k.val ≤ (y 1).val ∧ (y 1).val % 9 = k.val % 9) ∨ ((y 0).val = 2 ∧ k.val ≤ (y 1).val ∧ (y 1).val % 9 = k.val % 9)
        ∨ ((y 0).val = 1 ∧ k.val ≤ (y 1).val ∧ (y 1).val % 9 = k.val % 9) ∨ ((y 0).val = 0 ∧ k.val ≤ (y 1).val ∧ (y 1).val % 9 = k.val % 9) ∨ False) ?_ h.slabs) ?_
    · unfold trip_k0_t2.sl.HW22_3 trip_k0_t2.sl.HW22_2 trip_k0_t2.sl.HW22_1
      exact (Fills.slab 3 k.val (k0_off8_eq k) _ (fun t l y y0 y1 y2 => (slab3 arg5 arg9 arg23 s k X5 X9 X23 h2 h3 (mTab k0 k1 (tab (arg6.view.read (Elt Ideal) X6)) (tab (arg5.view.read (Elt Ideal) X5))) t l).trans (slabAt _ _ s k 3 t l y y0 y1 y2)) (Fills.slab 2 k.val (k0_off8_eq k) _ (fun t l y y0 y1 y2 => (slab2 arg5 arg9 arg23 s k X5 X9 X23 h2 h3 (mTab k0 k1 (tab (arg6.view.read (Elt Ideal) X6)) (tab (arg5.view.read (Elt Ideal) X5))) t l).trans (slabAt _ _ s k 2 t l y y0 y1 y2)) (Fills.slab 1 k.val (k0_off8_eq k) _ (fun t l y y0 y1 y2 => (slab1 arg5 arg6 arg23 s k X5 X6 X23 h0 h1 (vTab k2 k3 (tab (arg9.view.read (Elt Ideal) X9)) (tab (arg5.view.read (Elt Ideal) X5))) t l).trans (slabAt _ _ s k 1 t l y y0 y1 y2)) (Fills.slab 0 k.val (k0_off8_eq k) _ (fun t l y y0 y1 y2 => (slab0 arg5 arg6 arg23 s k X5 X6 X23 h0 h1 (vTab k2 k3 (tab (arg9.view.read (Elt Ideal) X9)) (tab (arg5.view.read (Elt Ideal) X5))) t l).trans (slabAt _ _ s k 0 t l y y0 y1 y2)) Fills.nil))))
    intro y hy
    have b0 : (y 0).val < 4 := (y 0).isLt
    change (y 1).val % 9 < k.val + 1 at hy
    by_cases hb : (y 1).val % 9 < k.val
    · exact .inr hb
    · left
      have e : k.val ≤ (y 1).val ∧ (y 1).val % 9 = k.val % 9 := by omega
      have q : (y 0).val = 3 ∨ (y 0).val = 2 ∨ (y 0).val = 1 ∨ (y 0).val = 0 := by omega
      rcases q with q | q | q | q
      · exact .inl ⟨q, e⟩
      · exact .inr (.inl ⟨q, e⟩)
      · exact .inr (.inr (.inl ⟨q, e⟩))
      · exact .inr (.inr (.inr (.inl ⟨q, e⟩)))

/-- What the update loop has written after `n` trips. -/
theorem wrote2 (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v25 v28 : FVec Ideal S1x128 .f32) (s : Fin k0_t1_loop.trips) (v31 : BitVec 32) (v41 : FVec Ideal S8x128 .f32) (X4 : BufTy.Contents (Elt Ideal) arg4.view.ty) (X5 : BufTy.Contents (Elt Ideal) arg5.view.ty) (X6 : BufTy.Contents (Elt Ideal) arg6.view.ty) (X9 : BufTy.Contents (Elt Ideal) arg9.view.ty) (X23 : BufTy.Contents (Elt Ideal) arg23.view.ty) (dof dep : EReal) (h25 : ∀ l, v25 (ix2 0 l) = dof) (h28 : ∀ l, v28 (ix2 0 l) = dep) (k0 k1 k2 k3 : Coef)
  (h0 : ∀ r l, arg23.view.read (Elt Ideal) X23 (ix3 0 r l) = k0 r (laneOf (strip s) l))
  (h1 : ∀ r l, arg23.view.read (Elt Ideal) X23 (ix3 1 r l) = k1 r (laneOf (strip s) l))
  (h2 : ∀ r l, arg23.view.read (Elt Ideal) X23 (ix3 2 r l) = k2 r (laneOf (strip s) l))
  (h3 : ∀ r l, arg23.view.read (Elt Ideal) X23 (ix3 3 r l) = k3 r (laneOf (strip s) l)) (n : ℕ) (hn : n ≤ k0_t2_loop.trips) :
    Wrote2 dof dep (mTab k0 k1 (tab (arg6.view.read (Elt Ideal) X6)) (tab (arg5.view.read (Elt Ideal) X5))) (vTab k2 k3 (tab (arg9.view.read (Elt Ideal) X9)) (tab (arg5.view.read (Elt Ideal) X5))) (tab (arg4.view.read (Elt Ideal) X4)) (strip s) n (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 s v31 v41 X4 X5 X6 X9 X23 n) := by
  induction n with
  | zero =>
    rw [pb_k0_t2.eq_1]
    exact ⟨Fills.nil.mono fun y hy => absurd hy.1 (by omega), Fills.nil.mono fun y (hy : (y 0).val < 128 * 0) => by omega, Fills.nil.mono fun y (hy : (y 0).val < 128 * 0) => by omega,
      Fills.nil.mono fun y (hy : (y 0).val < 128 * 0) => by omega, Fills.nil.mono fun y (hy : (y 1).val % 9 < 0) => by omega⟩
  | succ n ih =>
    exact wrote2_step 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v25 v28 s v31 v41 X4 X5 X6 X9 X23 dof dep h25 h28 k0 k1 k2 k3 h0 h1 h2 h3 ⟨n, hn⟩ (ih (Nat.le_of_lt hn))

end Cert.Proof.KernelValue

end
-- ==== Proof.ValueFills3.lean ====
/- What the quantise loop leaves in the buffers it writes. -/
module

public import proofs.«01_k».proof.Proof.ValueFills2

@[expose] public section

set_option maxRecDepth 16384
set_option maxHeartbeats 4000000

noncomputable section

namespace Cert.Proof.KernelValue

open Cert.KernelIdeal Cert.KernelIdeal.Gen
open Idealize.ShloMosaic Idealize.ShloMosaic.TcCoe Idealize.ShloMosaic.Tactic
open Idealize.ShloMosaic.Pointwise

/-- A first-moment code: the clipped power, with the moment's sign. -/
def mCode (k off m : EReal) : EReal :=
  sgnOf (min (FloatOps.exp2 (F := Ideal) (φ := .f32) (lg2 (FloatOps.absf (F := Ideal) (φ := .f32) m) * k + off)) (Ideal.ofBits .f32 1138753536#32)) m

/-- A second-moment code. -/
def vCode (k off v : EReal) : EReal :=
  min (FloatOps.exp2 (F := Ideal) (φ := .f32) (lg2 v * k + off)) (Ideal.ofBits .f32 1138753536#32)

/-- The first-moment codes of a table. -/
def mCodeTab (q0 q1 : Coef) (m : Tab) : Tab := fun r l => mCode (q0 (grp r) l) (q1 (grp r) l) (m r l)

/-- The second-moment codes of a table. -/
def vCodeTab (q2 q3 : Coef) (v : Tab) : Tab := fun r l => vCode (q2 (grp r) l) (q3 (grp r) l) (v r l)

section

variable (arg19 arg20 arg21 : Memref sig .tc .vmem S1024x128 .f32) (arg23 : Memref sig .tc .vmem S4x8x128 .f32)
  (s : Fin k0_t1_loop.trips) (k : Fin k0_t3_loop.trips)
  (X19 : BufTy.Contents (Elt Ideal) arg19.view.ty) (X20 : BufTy.Contents (Elt Ideal) arg20.view.ty)
  (X21 : BufTy.Contents (Elt Ideal) arg21.view.ty) (X23 : BufTy.Contents (Elt Ideal) arg23.view.ty)

/-- A load of a chunk of a scratch buffer's rows. -/
theorem read_rows (m : Memref sig .tc .vmem S1024x128 .f32) (X : BufTy.Contents (Elt Ideal) m.view.ty) (c : Fin 4)
    {off : Fin 2 → ℕ} (inb : ∀ a, off a + S32x128.size a ≤ S1024x128.size a) (hoff : off = ![128 * k.val + 32 * c.val, 0]) (j : Fin 32) (l : Fin 128) :
    m.view.readAt (Elt Ideal) (Rect.unit (s := S1024x128) off S32x128.size inb).toLoadRect X (ix2 j l)
      = m.view.read (Elt Ideal) X (ix2 (rowOf (group3 k) c j) l) :=
  readAt_unit_at m.view X inb _ _ hoff fun a => by
    fin_cases a
    · rfl
    · exact (Nat.zero_add _).symm

/-- A load of a coefficient's row. -/
theorem read_coef' (i : Fin 4) {off : Fin 3 → ℕ} (inb : ∀ a, off a + S1x1x128.size a ≤ S4x8x128.size a)
    (hoff : off = ![i.val, k.val, 0]) (l : Fin 128) :
    arg23.view.readAt (Elt Ideal) (Rect.unit (s := S4x8x128) off S1x1x128.size inb).toLoadRect X23 (ix3 0 0 l)
      = arg23.view.read (Elt Ideal) X23 (ix3 i (group3 k) l) :=
  readAt_unit_at arg23.view X23 inb _ _ hoff fun a => by
    fin_cases a
    · rfl
    · rfl
    · exact (Nat.zero_add _).symm

theorem read_rows0 (m : Memref sig .tc .vmem S1024x128 .f32) (X : BufTy.Contents (Elt Ideal) m.view.ty)
    (inb : ∀ a, k0_off13 k 0#32 a + (![32, 128] : Fin 2 → ℕ) a ≤ S1024x128.size a) (j : Fin 32) (l : Fin 128) :
    m.view.readAt (Elt Ideal) (Rect.unit (s := S1024x128) (k0_off13 k 0#32) ![32, 128] inb).toLoadRect X (ix2 j l)
      = m.view.read (Elt Ideal) X (ix2 (rowOf (group3 k) 0 j) l) :=
  read_rows k m X 0 inb (k0_off13_eq k 0) j l

theorem read_coef'0 (inb : ∀ a, k0_off9 k a + (![1, 1, 128] : Fin 3 → ℕ) a ≤ S4x8x128.size a) (l : Fin 128) :
    arg23.view.readAt (Elt Ideal) (Rect.unit (s := S4x8x128) (k0_off9 k) ![1, 1, 128] inb).toLoadRect X23 (ix3 0 0 l)
      = arg23.view.read (Elt Ideal) X23 (ix3 0 (group3 k) l) :=
  read_coef' arg23 k X23 0 inb (k0_off9_eq k) l

theorem read_rows1 (m : Memref sig .tc .vmem S1024x128 .f32) (X : BufTy.Contents (Elt Ideal) m.view.ty)
    (inb : ∀ a, k0_off13 k 32#32 a + (![32, 128] : Fin 2 → ℕ) a ≤ S1024x128.size a) (j : Fin 32) (l : Fin 128) :
    m.view.readAt (Elt Ideal) (Rect.unit (s := S1024x128) (k0_off13 k 32#32) ![32, 128] inb).toLoadRect X (ix2 j l)
      = m.view.read (Elt Ideal) X (ix2 (rowOf (group3 k) 1 j) l) :=
  read_rows k m X 1 inb (k0_off13_eq k 1) j l

theorem read_coef'1 (inb : ∀ a, k0_off10 k a + (![1, 1, 128] : Fin 3 → ℕ) a ≤ S4x8x128.size a) (l : Fin 128) :
    arg23.view.readAt (Elt Ideal) (Rect.unit (s := S4x8x128) (k0_off10 k) ![1, 1, 128] inb).toLoadRect X23 (ix3 0 0 l)
      = arg23.view.read (Elt Ideal) X23 (ix3 1 (group3 k) l) :=
  read_coef' arg23 k X23 1 inb (k0_off10_eq k) l

theorem read_rows2 (m : Memref sig .tc .vmem S1024x128 .f32) (X : BufTy.Contents (Elt Ideal) m.view.ty)
    (inb : ∀ a, k0_off13 k 64#32 a + (![32, 128] : Fin 2 → ℕ) a ≤ S1024x128.size a) (j : Fin 32) (l : Fin 128) :
    m.view.readAt (Elt Ideal) (Rect.unit (s := S1024x128) (k0_off13 k 64#32) ![32, 128] inb).toLoadRect X (ix2 j l)
      = m.view.read (Elt Ideal) X (ix2 (rowOf (group3 k) 2 j) l) :=
  read_rows k m X 2 inb (k0_off13_eq k 2) j l

theorem read_coef'2 (inb : ∀ a, k0_off11 k a + (![1, 1, 128] : Fin 3 → ℕ) a ≤ S4x8x128.size a) (l : Fin 128) :
    arg23.view.readAt (Elt Ideal) (Rect.unit (s := S4x8x128) (k0_off11 k) ![1, 1, 128] inb).toLoadRect X23 (ix3 0 0 l)
      = arg23.view.read (Elt Ideal) X23 (ix3 2 (group3 k) l) :=
  read_coef' arg23 k X23 2 inb (k0_off11_eq k) l

theorem read_rows3 (m : Memref sig .tc .vmem S1024x128 .f32) (X : BufTy.Contents (Elt Ideal) m.view.ty)
    (inb : ∀ a, k0_off13 k 96#32 a + (![32, 128] : Fin 2 → ℕ) a ≤ S1024x128.size a) (j : Fin 32) (l : Fin 128) :
    m.view.readAt (Elt Ideal) (Rect.unit (s := S1024x128) (k0_off13 k 96#32) ![32, 128] inb).toLoadRect X (ix2 j l)
      = m.view.read (Elt Ideal) X (ix2 (rowOf (group3 k) 3 j) l) :=
  read_rows k m X 3 inb (k0_off13_eq k 3) j l

theorem read_coef'3 (inb : ∀ a, k0_off12 k a + (![1, 1, 128] : Fin 3 → ℕ) a ≤ S4x8x128.size a) (l : Fin 128) :
    arg23.view.readAt (Elt Ideal) (Rect.unit (s := S4x8x128) (k0_off12 k) ![1, 1, 128] inb).toLoadRect X23 (ix3 0 0 l)
      = arg23.view.read (Elt Ideal) X23 (ix3 3 (group3 k) l) :=
  read_coef' arg23 k X23 3 inb (k0_off12_eq k) l

variable {q0 q1 q2 q3 : Coef} {m v : Tab}
  (hm : ∀ r l, arg19.view.read (Elt Ideal) X19 (ix2 r l) = m r (laneOf (strip s) l))
  (hlm : ∀ r l, arg20.view.read (Elt Ideal) X20 (ix2 r l) = lg2 (absTab m r (laneOf (strip s) l)))
  (hlv : ∀ r l, arg21.view.read (Elt Ideal) X21 (ix2 r l) = lg2 (v r (laneOf (strip s) l)))
  (h0 : ∀ r l, arg23.view.read (Elt Ideal) X23 (ix3 0 r l) = q0 r (laneOf (strip s) l))
  (h1 : ∀ r l, arg23.view.read (Elt Ideal) X23 (ix3 1 r l) = q1 r (laneOf (strip s) l))
  (h2 : ∀ r l, arg23.view.read (Elt Ideal) X23 (ix3 2 r l) = q2 r (laneOf (strip s) l))
  (h3 : ∀ r l, arg23.view.read (Elt Ideal) X23 (ix3 3 r l) = q3 r (laneOf (strip s) l))

include hm hlm h0 h1 in
theorem mcode_chunk0 (j : Fin 32) (l : Fin 128) : trip_k0_t3.sl.v321 arg19 arg20 arg23 X19 X20 X23 k (ix3 0 j l) = mCodeTab q0 q1 m (rowOf (group3 k) 0 j) (laneOf (strip s) l) := by
  unfold trip_k0_t3.sl.v321 trip_k0_t3.sl.v316 trip_k0_t3.sl.v315 trip_k0_t3.sl.v313 trip_k0_t3.sl.v311 trip_k0_t3.sl.v303 trip_k0_t3.sl.v302 trip_k0_t3.sl.cst_244 trip_k0_t3.sl.v301 trip_k0_t3.sl.v300 trip_k0_t3.sl.v299 trip_k0_t3.sl.v285 trip_k0_t3.sl.v298 trip_k0_t3.sl.v297 trip_k0_t3.sl.v282 trip_k0_t3.sl.v312 trip_k0_t3.sl.cst_247 trip_k0_t3.sl.v310
  unfold_payloads
  pointwise []
  unfold mCodeTab mCode sgnOf
  simp only [grp_rowOf]
  simp only [read_rows0, read_coef'0, read_coef'1, read_coef'2, read_coef'3, hm, hlm, h0, h1, absTab] <;> rfl

include hlv h2 h3 in
theorem vcode_chunk0 (j : Fin 32) (l : Fin 128) : trip_k0_t3.sl.v336 arg21 arg23 X21 X23 k (ix3 0 j l) = vCodeTab q2 q3 v (rowOf (group3 k) 0 j) (laneOf (strip s) l) := by
  unfold trip_k0_t3.sl.v336 trip_k0_t3.sl.v331 trip_k0_t3.sl.v330 trip_k0_t3.sl.v302 trip_k0_t3.sl.cst_244 trip_k0_t3.sl.v328 trip_k0_t3.sl.v327 trip_k0_t3.sl.v326 trip_k0_t3.sl.v291 trip_k0_t3.sl.v325 trip_k0_t3.sl.v324 trip_k0_t3.sl.v288
  unfold_payloads
  pointwise []
  unfold vCodeTab vCode
  simp only [grp_rowOf]
  simp only [read_rows0, read_coef'0, read_coef'1, read_coef'2, read_coef'3, hlv, h2, h3] <;> rfl

include hm hlm h0 h1 in
theorem mcode_chunk1 (j : Fin 32) (l : Fin 128) : trip_k0_t3.sl.v366 arg19 arg20 arg23 X19 X20 X23 k (ix3 0 j l) = mCodeTab q0 q1 m (rowOf (group3 k) 1 j) (laneOf (strip s) l) := by
  unfold trip_k0_t3.sl.v366 trip_k0_t3.sl.v361 trip_k0_t3.sl.v360 trip_k0_t3.sl.v358 trip_k0_t3.sl.v356 trip_k0_t3.sl.v348 trip_k0_t3.sl.v302 trip_k0_t3.sl.cst_244 trip_k0_t3.sl.v346 trip_k0_t3.sl.v345 trip_k0_t3.sl.v299 trip_k0_t3.sl.v285 trip_k0_t3.sl.v343 trip_k0_t3.sl.v297 trip_k0_t3.sl.v282 trip_k0_t3.sl.v312 trip_k0_t3.sl.cst_247 trip_k0_t3.sl.v355
  unfold_payloads
  pointwise []
  unfold mCodeTab mCode sgnOf
  simp only [grp_rowOf]
  simp only [read_rows1, read_coef'0, read_coef'1, read_coef'2, read_coef'3, hm, hlm, h0, h1, absTab] <;> rfl

include hlv h2 h3 in
theorem vcode_chunk1 (j : Fin 32) (l : Fin 128) : trip_k0_t3.sl.v381 arg21 arg23 X21 X23 k (ix3 0 j l) = vCodeTab q2 q3 v (rowOf (group3 k) 1 j) (laneOf (strip s) l) := by
  unfold trip_k0_t3.sl.v381 trip_k0_t3.sl.v376 trip_k0_t3.sl.v375 trip_k0_t3.sl.v302 trip_k0_t3.sl.cst_244 trip_k0_t3.sl.v373 trip_k0_t3.sl.v372 trip_k0_t3.sl.v326 trip_k0_t3.sl.v291 trip_k0_t3.sl.v370 trip_k0_t3.sl.v324 trip_k0_t3.sl.v288 trip_k0_t3.sl.r
  unfold_payloads
  pointwise []
  unfold vCodeTab vCode
  simp only [grp_rowOf]
  simp only [read_rows1, read_coef'0, read_coef'1, read_coef'2, read_coef'3, hlv, h2, h3] <;> rfl

include hm hlm h0 h1 in
theorem mcode_chunk2 (j : Fin 32) (l : Fin 128) : trip_k0_t3.sl.v411 arg19 arg20 arg23 X19 X20 X23 k (ix3 0 j l) = mCodeTab q0 q1 m (rowOf (group3 k) 2 j) (laneOf (strip s) l) := by
  unfold trip_k0_t3.sl.v411 trip_k0_t3.sl.v406 trip_k0_t3.sl.v405 trip_k0_t3.sl.v403 trip_k0_t3.sl.v401 trip_k0_t3.sl.v393 trip_k0_t3.sl.v302 trip_k0_t3.sl.cst_244 trip_k0_t3.sl.v391 trip_k0_t3.sl.v390 trip_k0_t3.sl.v299 trip_k0_t3.sl.v285 trip_k0_t3.sl.v388 trip_k0_t3.sl.v297 trip_k0_t3.sl.v282 trip_k0_t3.sl.v312 trip_k0_t3.sl.cst_247 trip_k0_t3.sl.v400
  unfold_payloads
  pointwise []
  unfold mCodeTab mCode sgnOf
  simp only [grp_rowOf]
  simp only [read_rows2, read_coef'0, read_coef'1, read_coef'2, read_coef'3, hm, hlm, h0, h1, absTab] <;> rfl

include hlv h2 h3 in
theorem vcode_chunk2 (j : Fin 32) (l : Fin 128) : trip_k0_t3.sl.v426 arg21 arg23 X21 X23 k (ix3 0 j l) = vCodeTab q2 q3 v (rowOf (group3 k) 2 j) (laneOf (strip s) l) := by
  unfold trip_k0_t3.sl.v426 trip_k0_t3.sl.v421 trip_k0_t3.sl.v420 trip_k0_t3.sl.v302 trip_k0_t3.sl.cst_244 trip_k0_t3.sl.v418 trip_k0_t3.sl.v417 trip_k0_t3.sl.v326 trip_k0_t3.sl.v291 trip_k0_t3.sl.v415 trip_k0_t3.sl.v324 trip_k0_t3.sl.v288
  unfold_payloads
  pointwise []
  unfold vCodeTab vCode
  simp only [grp_rowOf]
  simp only [read_rows2, read_coef'0, read_coef'1, read_coef'2, read_coef'3, hlv, h2, h3] <;> rfl

include hm hlm h0 h1 in
theorem mcode_chunk3 (j : Fin 32) (l : Fin 128) : trip_k0_t3.sl.v456 arg19 arg20 arg23 X19 X20 X23 k (ix3 0 j l) = mCodeTab q0 q1 m (rowOf (group3 k) 3 j) (laneOf (strip s) l) := by
  unfold trip_k0_t3.sl.v456 trip_k0_t3.sl.v451 trip_k0_t3.sl.v450 trip_k0_t3.sl.v448 trip_k0_t3.sl.v446 trip_k0_t3.sl.v438 trip_k0_t3.sl.v302 trip_k0_t3.sl.cst_244 trip_k0_t3.sl.v436 trip_k0_t3.sl.v435 trip_k0_t3.sl.v299 trip_k0_t3.sl.v285 trip_k0_t3.sl.v433 trip_k0_t3.sl.v297 trip_k0_t3.sl.v282 trip_k0_t3.sl.v312 trip_k0_t3.sl.cst_247 trip_k0_t3.sl.v445
  unfold_payloads
  pointwise []
  unfold mCodeTab mCode sgnOf
  simp only [grp_rowOf]
  simp only [read_rows3, read_coef'0, read_coef'1, read_coef'2, read_coef'3, hm, hlm, h0, h1, absTab] <;> rfl

include hlv h2 h3 in
theorem vcode_chunk3 (j : Fin 32) (l : Fin 128) : k0_pay8 (trip_k0_t3.sl.v463 arg21 arg23 X21 X23 k) trip_k0_t3.sl.v302 (ix3 0 j l) = vCodeTab q2 q3 v (rowOf (group3 k) 3 j) (laneOf (strip s) l) := by
  unfold trip_k0_t3.sl.v302 trip_k0_t3.sl.cst_244 trip_k0_t3.sl.v463 trip_k0_t3.sl.v462 trip_k0_t3.sl.v326 trip_k0_t3.sl.v291 trip_k0_t3.sl.v460 trip_k0_t3.sl.v324 trip_k0_t3.sl.v288
  unfold_payloads
  pointwise []
  unfold vCodeTab vCode
  simp only [grp_rowOf]
  simp only [read_rows3, read_coef'0, read_coef'1, read_coef'2, read_coef'3, hlv, h2, h3] <;> rfl

end

/-- What `n` trips of the quantise loop have written. -/
structure Wrote3 (q0 q1 q2 q3 : Coef) (m v : Tab) (s : Fin 4) (n : ℕ) (L : List (View.Piece (Elt Ideal) S1x1024x512 .fp8e4m3) × List (View.Piece (Elt Ideal) S1x1024x512 .fp8e4m3)) : Prop where
  mc : Fills (fun y => mCodeTab q0 q1 m (y 1) (y 2)) (fun y => (y 1).val < 128 * n ∧ 128 * s.val ≤ (y 2).val ∧ (y 2).val < 128 * s.val + 128) L.1
  vc : Fills (fun y => vCodeTab q2 q3 v (y 1) (y 2)) (fun y => (y 1).val < 128 * n ∧ 128 * s.val ≤ (y 2).val ∧ (y 2).val < 128 * s.val + 128) L.2

set_option maxHeartbeats 16000000 in
/-- One trip more. -/
theorem wrote3_step (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (s : Fin k0_t1_loop.trips) (v31 : BitVec 32) (X19 : BufTy.Contents (Elt Ideal) arg19.view.ty) (X20 : BufTy.Contents (Elt Ideal) arg20.view.ty) (X21 : BufTy.Contents (Elt Ideal) arg21.view.ty) (X23 : BufTy.Contents (Elt Ideal) arg23.view.ty) {q0 q1 q2 q3 : Coef} {m v : Tab}
  (hm : ∀ r l, arg19.view.read (Elt Ideal) X19 (ix2 r l) = m r (laneOf (strip s) l))
  (hlm : ∀ r l, arg20.view.read (Elt Ideal) X20 (ix2 r l) = lg2 (absTab m r (laneOf (strip s) l)))
  (hlv : ∀ r l, arg21.view.read (Elt Ideal) X21 (ix2 r l) = lg2 (v r (laneOf (strip s) l)))
  (h0 : ∀ r l, arg23.view.read (Elt Ideal) X23 (ix3 0 r l) = q0 r (laneOf (strip s) l))
  (h1 : ∀ r l, arg23.view.read (Elt Ideal) X23 (ix3 1 r l) = q1 r (laneOf (strip s) l))
  (h2 : ∀ r l, arg23.view.read (Elt Ideal) X23 (ix3 2 r l) = q2 r (laneOf (strip s) l))
  (h3 : ∀ r l, arg23.view.read (Elt Ideal) X23 (ix3 3 r l) = q3 r (laneOf (strip s) l)) (k : Fin k0_t3_loop.trips)
    (h : Wrote3 q0 q1 q2 q3 m v (strip s) k.val (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 s v31 X19 X20 X21 X23 k.val)) :
    Wrote3 q0 q1 q2 q3 m v (strip s) (k.val + 1) (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 s v31 X19 X20 X21 X23 (k.val + 1)) := by
  have hk : k.val < 8 := Nat.lt_of_lt_of_le k.isLt k0_t3_abs.2.1
  rw [pb_k0_t3_succ]
  unfold tripL_k0_t3 trip_k0_t3
  dsimp only
  refine ⟨?_, ?_⟩
  · refine Fills.mono (Fills.append (Fills.unit _ _ (k0_off14_eq s k 3) (piece3 s (group3 k) 3 (mCodeTab q0 q1 m) _ fun j l => mcode_chunk3 arg19 arg20 arg23 s k X19 X20 X23 hm hlm h0 h1 j l) (Fills.unit _ _ (k0_off14_eq s k 2) (piece3 s (group3 k) 2 (mCodeTab q0 q1 m) _ fun j l => mcode_chunk2 arg19 arg20 arg23 s k X19 X20 X23 hm hlm h0 h1 j l) (Fills.unit _ _ (k0_off14_eq s k 1) (piece3 s (group3 k) 1 (mCodeTab q0 q1 m) _ fun j l => mcode_chunk1 arg19 arg20 arg23 s k X19 X20 X23 hm hlm h0 h1 j l) (Fills.unit _ _ (k0_off14_eq s k 0) (piece3 s (group3 k) 0 (mCodeTab q0 q1 m) _ fun j l => mcode_chunk0 arg19 arg20 arg23 s k X19 X20 X23 hm hlm h0 h1 j l) Fills.nil)))) h.mc) ?_
    rintro y ⟨hy1, hy2, hy3⟩
    have b0 : (y 0).val < 1 := (y 0).isLt
    by_cases hb : (y 1).val < 128 * k.val
    · exact .inr ⟨hb, hy2, hy3⟩
    · left
      have q : (128 * k.val + 96 ≤ (y 1).val) ∨ (128 * k.val + 64 ≤ (y 1).val ∧ (y 1).val < 128 * k.val + 96) ∨ (128 * k.val + 32 ≤ (y 1).val ∧ (y 1).val < 128 * k.val + 64) ∨ ((y 1).val < 128 * k.val + 32) := by omega
      rcases q with q | q | q | q
      · exact .inl (box3 _ _ y (by omega) (by show 128 * k.val + 32 * 3 ≤ _; omega) (by show _ < 128 * k.val + 32 * 3 + 32; omega) hy2 hy3)
      · exact .inr (.inl (box3 _ _ y (by omega) (by show 128 * k.val + 32 * 2 ≤ _; omega) (by show _ < 128 * k.val + 32 * 2 + 32; omega) hy2 hy3))
      · exact .inr (.inr (.inl (box3 _ _ y (by omega) (by show 128 * k.val + 32 * 1 ≤ _; omega) (by show _ < 128 * k.val + 32 * 1 + 32; omega) hy2 hy3)))
      · exact .inr (.inr (.inr (.inl (box3 _ _ y (by omega) (by show 128 * k.val + 32 * 0 ≤ _; omega) (by show _ < 128 * k.val + 32 * 0 + 32; omega) hy2 hy3))))
  · refine Fills.mono (Fills.append (Fills.unit _ _ (k0_off14_eq s k 3) (piece3 s (group3 k) 3 (vCodeTab q2 q3 v) _ fun j l => vcode_chunk3 arg21 arg23 s k X21 X23 hlv h2 h3 j l) (Fills.unit _ _ (k0_off14_eq s k 2) (piece3 s (group3 k) 2 (vCodeTab q2 q3 v) _ fun j l => vcode_chunk2 arg21 arg23 s k X21 X23 hlv h2 h3 j l) (Fills.unit _ _ (k0_off14_eq s k 1) (piece3 s (group3 k) 1 (vCodeTab q2 q3 v) _ fun j l => vcode_chunk1 arg21 arg23 s k X21 X23 hlv h2 h3 j l) (Fills.unit _ _ (k0_off14_eq s k 0) (piece3 s (group3 k) 0 (vCodeTab q2 q3 v) _ fun j l => vcode_chunk0 arg21 arg23 s k X21 X23 hlv h2 h3 j l) Fills.nil)))) h.vc) ?_
    rintro y ⟨hy1, hy2, hy3⟩
    have b0 : (y 0).val < 1 := (y 0).isLt
    by_cases hb : (y 1).val < 128 * k.val
    · exact .inr ⟨hb, hy2, hy3⟩
    · left
      have q : (128 * k.val + 96 ≤ (y 1).val) ∨ (128 * k.val + 64 ≤ (y 1).val ∧ (y 1).val < 128 * k.val + 96) ∨ (128 * k.val + 32 ≤ (y 1).val ∧ (y 1).val < 128 * k.val + 64) ∨ ((y 1).val < 128 * k.val + 32) := by omega
      rcases q with q | q | q | q
      · exact .inl (box3 _ _ y (by omega) (by show 128 * k.val + 32 * 3 ≤ _; omega) (by show _ < 128 * k.val + 32 * 3 + 32; omega) hy2 hy3)
      · exact .inr (.inl (box3 _ _ y (by omega) (by show 128 * k.val + 32 * 2 ≤ _; omega) (by show _ < 128 * k.val + 32 * 2 + 32; omega) hy2 hy3))
      · exact .inr (.inr (.inl (box3 _ _ y (by omega) (by show 128 * k.val + 32 * 1 ≤ _; omega) (by show _ < 128 * k.val + 32 * 1 + 32; omega) hy2 hy3)))
      · exact .inr (.inr (.inr (.inl (box3 _ _ y (by omega) (by show 128 * k.val + 32 * 0 ≤ _; omega) (by show _ < 128 * k.val + 32 * 0 + 32; omega) hy2 hy3))))

/-- What the quantise loop has written after `n` trips. -/
theorem wrote3 (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (s : Fin k0_t1_loop.trips) (v31 : BitVec 32) (X19 : BufTy.Contents (Elt Ideal) arg19.view.ty) (X20 : BufTy.Contents (Elt Ideal) arg20.view.ty) (X21 : BufTy.Contents (Elt Ideal) arg21.view.ty) (X23 : BufTy.Contents (Elt Ideal) arg23.view.ty) {q0 q1 q2 q3 : Coef} {m v : Tab}
  (hm : ∀ r l, arg19.view.read (Elt Ideal) X19 (ix2 r l) = m r (laneOf (strip s) l))
  (hlm : ∀ r l, arg20.view.read (Elt Ideal) X20 (ix2 r l) = lg2 (absTab m r (laneOf (strip s) l)))
  (hlv : ∀ r l, arg21.view.read (Elt Ideal) X21 (ix2 r l) = lg2 (v r (laneOf (strip s) l)))
  (h0 : ∀ r l, arg23.view.read (Elt Ideal) X23 (ix3 0 r l) = q0 r (laneOf (strip s) l))
  (h1 : ∀ r l, arg23.view.read (Elt Ideal) X23 (ix3 1 r l) = q1 r (laneOf (strip s) l))
  (h2 : ∀ r l, arg23.view.read (Elt Ideal) X23 (ix3 2 r l) = q2 r (laneOf (strip s) l))
  (h3 : ∀ r l, arg23.view.read (Elt Ideal) X23 (ix3 3 r l) = q3 r (laneOf (strip s) l)) (n : ℕ) (hn : n ≤ k0_t3_loop.trips) :
    Wrote3 q0 q1 q2 q3 m v (strip s) n (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 s v31 X19 X20 X21 X23 n) := by
  induction n with
  | zero =>
    rw [pb_k0_t3.eq_1]
    exact ⟨Fills.nil.mono fun y hy => absurd hy.1 (by omega), Fills.nil.mono fun y hy => absurd hy.1 (by omega)⟩
  | succ n ih =>
    exact wrote3_step 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 s v31 X19 X20 X21 X23 hm hlm hlv h0 h1 h2 h3 ⟨n, hn⟩ (ih (Nat.le_of_lt hn))

end Cert.Proof.KernelValue

end
-- ==== Proof.ValueCoef.lean ====
/- A strip's coefficients and statistics. -/
module

public import proofs.«01_k».proof.Proof.ValueFills3

@[expose] public section

set_option maxRecDepth 16384
set_option maxHeartbeats 4000000

noncomputable section

namespace Cert.Proof.KernelValue

open Cert.KernelIdeal Cert.KernelIdeal.Gen
open Idealize.ShloMosaic Idealize.ShloMosaic.TcCoe Idealize.ShloMosaic.Tactic
open Idealize.ShloMosaic.Pointwise

/-- Eight tile rows, folded pairwise. -/
def tree8 (op : EReal → EReal → EReal) (f : Fin 8 → EReal) : EReal :=
  op (op (op (f 0) (f 1)) (op (f 2) (f 3))) (op (op (f 4) (f 5)) (op (f 6) (f 7)))

/-- A statistic of group `g`, over all its rows. -/
def groupStat (op : EReal → EReal → EReal) (a : Tab) (g : Fin 8) (l : Fin 512) : EReal :=
  tree8 op fun t => tileStat op a g t l

/-- `x`, or one for a group of zeros. -/
def orOne (a x : EReal) : EReal := if 0 < a then x else 1

/-- A group's `k`, of its largest and smallest magnitudes. -/
def rateOf (a b : EReal) : EReal :=
  if 0 < a then
    Ideal.div (Named.named (F := Ideal) (φ := .f32) κ "log_range" 1095073129#32)
      (max (Ideal.log (orOne a a) - Ideal.log (orOne a b)) (Named.named (F := Ideal) (φ := .f32) κ "log_range_8" 1069907305#32))
  else 1

/-- A group's offset for its codes. -/
def offOf (a b : EReal) : EReal :=
  Named.named (F := Ideal) (φ := .f32) κ "log2_fp8_max" 1091365613#32 - rateOf a b * lg2 (orOne a a)

/-- A group's scale. -/
def sclOf (c a : EReal) : EReal := if 0 < a then orOne a a * c else 1

/-- The coefficient array of a block. -/
def coTab (x : S1x8x512.Idx → EReal) : Coef := fun g l => x (ix3 0 g l)

/-- One over the group's `k`. -/
def kInv (mk : Coef) : Coef := fun g l => Ideal.div 1 (mk g l)

/-- The offset the codes of a group are dequantised with. -/
def kOff (c : EReal) (ms mk : Coef) : Coef := fun g l =>
  lg2 (c * ms g l) - kInv mk g l * Named.named (F := Ideal) (φ := .f32) κ "log2_fp8_max" 1091365613#32

/-- The exponent of the update's denominator. -/
def dofOf (v0 : EReal) : EReal :=
  lg2 (Ideal.ofBits .f32 1092616192#32 * (1 - FloatOps.exp2 (F := Ideal) (φ := .f32) (v0 * Named.named (F := Ideal) (φ := .f32) κ "log2_beta1" 3189483187#32)))
    - Ideal.ofBits .f32 1056964608#32 *
      lg2 (Ideal.ofBits .f32 1101004800#32 * (1 - FloatOps.exp2 (F := Ideal) (φ := .f32) (v0 * Named.named (F := Ideal) (φ := .f32) κ "log2_beta2" 3180826014#32)))

/-- What is added to the update's denominator. -/
def depOf (v0 : EReal) : EReal :=
  Named.named (F := Ideal) (φ := .f32) κ "ten_eps" 869711765#32 * (1 - FloatOps.exp2 (F := Ideal) (φ := .f32) (v0 * Named.named (F := Ideal) (φ := .f32) κ "log2_beta1" 3189483187#32))

theorem dof_at (v0 : Elt Ideal .f32) (l : Fin 128) : k0_pay3 v0 (ix2 0 l) = dofOf v0 := by
  unfold dofOf lg2
  unfold_payloads
  pointwise []

theorem dep_at (v0 : Elt Ideal .f32) (l : Fin 128) : k0_pay4 v0 (ix2 0 l) = depOf v0 := by
  unfold depOf
  unfold_payloads
  pointwise []

theorem trips2 : k0_t2_loop.trips = 8 := by decide +kernel

theorem trips3 : k0_t3_loop.trips = 8 := by decide +kernel

/-- A load of a strip of a coefficient array. -/
theorem read_strip (m : Memref sig .tc .vmem S1x8x512 .f32) (X : BufTy.Contents (Elt Ideal) m.view.ty) (s : Fin k0_t1_loop.trips)
    (inb : ∀ a, k0_off1 s a + S1x8x128.size a ≤ S1x8x512.size a) (g : Fin 8) (l : Fin 128) :
    m.view.readAt (Elt Ideal) (Rect.unit (s := S1x8x512) (k0_off1 s) S1x8x128.size inb).toLoadRect X (ix3 0 g l)
      = coTab (m.view.read (Elt Ideal) X) g (laneOf (strip s) l) :=
  readAt_unit_at m.view X inb _ _ (k0_off1_eq s) fun a => by
    fin_cases a
    · rfl
    · exact (Nat.zero_add _).symm
    · rfl

/-- A stored strip of a coefficient array. -/
theorem piece1 (s : Fin k0_t1_loop.trips) (U : Coef) (w : S1x8x128.Idx → EReal)
    (h : ∀ g l, w (ix3 0 g l) = U g (laneOf (strip s) l)) (x : S1x8x128.Idx) (y : S1x8x512.Idx)
    (hy : ∀ a, (y a).val = (![0, 0, 128 * s.val] : Fin 3 → ℕ) a + (x a).val) : w x = U (y 1) (y 2) := by
  have h1 : y 1 = x 1 := Fin.ext ((hy 1).trans (Nat.zero_add _))
  have h2 : y 2 = laneOf (strip s) (x 2) := Fin.ext (hy 2)
  have hx : x = ix3 0 (x 1) (x 2) := funext fun a => by
    fin_cases a
    · exact Subsingleton.elim (α := Fin 1) _ _
    · rfl
    · rfl
  exact (congrArg w hx).trans ((h (x 1) (x 2)).trans (congrArg₂ U h1.symm h2.symm))

/-- A stored strip of a result's coefficient array fills its lanes. -/
theorem fill1 (s : Fin k0_t1_loop.trips) (U : Coef) (w : S1x8x128.Idx → EReal)
    (inb : ∀ a, k0_off1 s a + S1x8x128.size a ≤ S1x8x512.size a)
    (h : ∀ g l, w (ix3 0 g l) = U g (laneOf (strip s) l)) :
    Fills (Val := Elt Ideal) (e := .f32) (fun y : S1x8x512.Idx => U (y 1) (y 2)) (fun y => 128 * s.val ≤ (y 2).val ∧ (y 2).val < 128 * s.val + 128)
      [⟨Rect.unit (s := S1x8x512) (k0_off1 s) S1x8x128.size inb, w⟩] := by
  have F := Fills.unit (Val := Elt Ideal) (e := .f32) (s := S1x8x512) (G := fun y => U (y 1) (y 2)) inb w (k0_off1_eq s) (piece1 s U w h) Fills.nil
  refine F.mono fun y hy => .inl fun a => ?_
  have b0 : (y 0).val < 1 := (y 0).isLt
  have b1 : (y 1).val < 8 := (y 1).isLt
  fin_cases a
  · exact ⟨Nat.zero_le _, by show (y 0).val < 0 + 1; omega⟩
  · exact ⟨Nat.zero_le _, by show (y 1).val < 0 + 8; omega⟩
  · exact hy

/-- What the four coefficient planes of a strip hold. -/
def coefTab (K : Fin 4 → Coef) (s : Fin 4) (y : S4x8x128.Idx) : EReal := K (y 0) (y 1) (laneOf s (y 2))

/-- A stored coefficient plane. -/
theorem piece4 (s : Fin 4) (K : Fin 4 → Coef) (i : Fin 4) (w : S1x8x128.Idx → EReal)
    (h : ∀ g l, w (ix3 0 g l) = K i g (laneOf s l)) (x : S1x8x128.Idx) (y : S4x8x128.Idx)
    (hy : ∀ a, (y a).val = (![i.val, 0, 0] : Fin 3 → ℕ) a + (x a).val) : w x = coefTab K s y := by
  have b : (x 0).val < 1 := (x 0).isLt
  have h0 : y 0 = i := Fin.ext ((hy 0).trans (by show i.val + (x 0).val = i.val; omega))
  have h1 : y 1 = x 1 := Fin.ext ((hy 1).trans (Nat.zero_add _))
  have h2 : y 2 = x 2 := Fin.ext ((hy 2).trans (Nat.zero_add _))
  have hx : x = ix3 0 (x 1) (x 2) := funext fun a => by
    fin_cases a
    · exact Subsingleton.elim (α := Fin 1) _ _
    · rfl
    · rfl
  refine (congrArg w hx).trans ((h (x 1) (x 2)).trans ?_)
  show _ = K (y 0) (y 1) (laneOf s (y 2))
  rw [h0, h1, h2]

/-- Four stored planes fill the coefficient buffer. -/
theorem fill4 (s : Fin 4) (K : Fin 4 → Coef) (w0 w1 w2 w3 : S1x8x128.Idx → EReal)
    (h0 : ∀ g l, w0 (ix3 0 g l) = K 0 g (laneOf s l)) (h1 : ∀ g l, w1 (ix3 0 g l) = K 1 g (laneOf s l))
    (h2 : ∀ g l, w2 (ix3 0 g l) = K 2 g (laneOf s l)) (h3 : ∀ g l, w3 (ix3 0 g l) = K 3 g (laneOf s l)) :
    Fills (Val := Elt Ideal) (e := .f32) (coefTab K s) (fun _ => True)
      [⟨Rect.unit (s := S4x8x128) ![3, 0, 0] S1x8x128.size inb_S4x8x128_S1x8x128_3_0_0, w3⟩,
       ⟨Rect.unit (s := S4x8x128) ![2, 0, 0] S1x8x128.size inb_S4x8x128_S1x8x128_2_0_0, w2⟩,
       ⟨Rect.unit (s := S4x8x128) ![1, 0, 0] S1x8x128.size inb_S4x8x128_S1x8x128_1_0_0, w1⟩,
       ⟨Rect.unit (s := S4x8x128) ![0, 0, 0] S1x8x128.size inb_S4x8x128_S1x8x128_0_0_0, w0⟩] := by
  refine Fills.mono (Fills.unit _ _ rfl (piece4 s K 3 w3 h3) (Fills.unit _ _ rfl (piece4 s K 2 w2 h2)
    (Fills.unit _ _ rfl (piece4 s K 1 w1 h1) (Fills.unit _ _ rfl (piece4 s K 0 w0 h0) Fills.nil)))) fun y _ => ?_
  have b0 : (y 0).val < 4 := (y 0).isLt
  have b1 : (y 1).val < 8 := (y 1).isLt
  have b2 : (y 2).val < 128 := (y 2).isLt
  have box : ∀ i : ℕ, (y 0).val = i → ∀ a : Fin 3, (![i, 0, 0] : Fin 3 → ℕ) a ≤ (y a).val ∧ (y a).val < (![i, 0, 0] : Fin 3 → ℕ) a + (![1, 8, 128] : Fin 3 → ℕ) a := by
    intro i hi a
    fin_cases a
    · exact ⟨hi.ge, by show (y 0).val < i + 1; omega⟩
    · exact ⟨Nat.zero_le _, by show (y 1).val < 0 + 8; omega⟩
    · exact ⟨Nat.zero_le _, by show (y 2).val < 0 + 128; omega⟩
  have q : (y 0).val = 3 ∨ (y 0).val = 2 ∨ (y 0).val = 1 ∨ (y 0).val = 0 := by omega
  exact q.imp (box 3) fun q => q.imp (box 2) fun q => q.imp (box 1) fun q => .inl (box 0 q)

section

variable (arg7 arg8 arg10 arg11 : Memref sig .tc .vmem S1x8x512 .f32) (arg23 : Memref sig .tc .vmem S4x8x128 .f32)
  (X7 : BufTy.Contents (Elt Ideal) arg7.view.ty) (X8 : BufTy.Contents (Elt Ideal) arg8.view.ty)
  (X10 : BufTy.Contents (Elt Ideal) arg10.view.ty) (X11 : BufTy.Contents (Elt Ideal) arg11.view.ty) (s : Fin k0_t1_loop.trips)

/-- The coefficients a strip is dequantised with. -/
def coefIn (ms mk vs vk : Coef) (i : Fin 4) : Coef :=
  match i with
  | 0 => kInv mk
  | 1 => kOff (Ideal.ofBits .f32 1091567616#32) ms mk
  | 2 => kInv vk
  | 3 => kOff (Ideal.ofBits .f32 1100480512#32) vs vk

/-- What the coefficient buffer reads before the update loop. -/
theorem coef_read (X23 : BufTy.Contents (Elt Ideal) arg23.view.ty) (i : Fin 4) (r : Fin 8) (l : Fin 128) :
    arg23.view.read (Elt Ideal) (arg23.view.writes (Elt Ideal) X23 (trip_k0_t1.sl.HW23_4 arg7 arg8 arg10 arg11 X7 X8 X10 X11 s)) (ix3 i r l)
      = coefIn (coTab (arg7.view.read (Elt Ideal) X7)) (coTab (arg8.view.read (Elt Ideal) X8))
          (coTab (arg10.view.read (Elt Ideal) X10)) (coTab (arg11.view.read (Elt Ideal) X11)) i r (laneOf (strip s) l) := by
  unfold trip_k0_t1.sl.HW23_4 trip_k0_t1.sl.r
  refine (fill4 (strip s) (coefIn (coTab (arg7.view.read (Elt Ideal) X7)) (coTab (arg8.view.read (Elt Ideal) X8))
          (coTab (arg10.view.read (Elt Ideal) X10)) (coTab (arg11.view.read (Elt Ideal) X11))) _ _ _ _
      (fun g l => ?_) (fun g l => ?_) (fun g l => ?_) (fun g l => ?_)).read arg23.view X23 (ix3 i r l) trivial
  · unfold coefIn kInv
    unfold_payloads
    pointwise []
    exact congrArg (Ideal.div 1) (read_strip arg8 X8 s _ g l)
  · unfold coefIn kOff kInv lg2
    unfold_payloads
    pointwise []
    exact congrArg₂ (fun a b => Ideal.div (Ideal.log (Ideal.ofBits .f32 1091567616#32 * a)) (Named.named (F := Ideal) (φ := .f32) κ "ln2" 1060205080#32)
      - Ideal.div 1 b * Named.named (F := Ideal) (φ := .f32) κ "log2_fp8_max" 1091365613#32) (read_strip arg7 X7 s _ g l) (read_strip arg8 X8 s _ g l)
  · unfold coefIn kInv
    unfold_payloads
    pointwise []
    exact congrArg (Ideal.div 1) (read_strip arg11 X11 s _ g l)
  · unfold coefIn kOff kInv lg2
    unfold_payloads
    pointwise []
    exact congrArg₂ (fun a b => Ideal.div (Ideal.log (Ideal.ofBits .f32 1100480512#32 * a)) (Named.named (F := Ideal) (φ := .f32) κ "ln2" 1060205080#32)
      - Ideal.div 1 b * Named.named (F := Ideal) (φ := .f32) κ "log2_fp8_max" 1091365613#32) (read_strip arg10 X10 s _ g l) (read_strip arg11 X11 s _ g l)

end

/-- Row `9 t + g` of slab `i`. -/
theorem slab_place (arg22 : Memref sig .tc .vmem S4x72x128 .f32) (X : BufTy.Contents (Elt Ideal) arg22.view.ty)
    {m v : Tab} {s : Fin 4} {L : List (View.Piece (Elt Ideal) S4x72x128 .f32)}
    (h : Fills (Val := Elt Ideal) (e := .f32) (slabTab m v s) (fun y => (y 1).val % 9 < 8) L) (i : Fin 4) (t g : Fin 8) (l : Fin 128)
    (y : S4x72x128.Idx) (h0 : (y 0).val = i.val) (h1 : (y 1).val = 9 * t.val + g.val) (h2 : (y 2).val = l.val) :
    arg22.view.read (Elt Ideal) (arg22.view.writes (Elt Ideal) X L) y = slabStat m v i g t (laneOf s l) := by
  refine (h.read arg22.view X y ?_).trans ?_
  · show (y 1).val % 9 < 8
    omega
  · show slabStat m v (y 0) ⟨(y 1).val % 9 % 8, _⟩ ⟨(y 1).val / 9 % 8, _⟩ (laneOf s (y 2)) = _
    have e0 : y 0 = i := Fin.ext h0
    have e2 : y 2 = l := Fin.ext h2
    have e1 : (⟨(y 1).val % 9 % 8, Nat.mod_lt _ (by omega)⟩ : Fin 8) = g := Fin.ext (by show (y 1).val % 9 % 8 = g.val; omega)
    have e3 : (⟨(y 1).val / 9 % 8, Nat.mod_lt _ (by omega)⟩ : Fin 8) = t := Fin.ext (by show (y 1).val / 9 % 8 = t.val; omega)
    rw [e0, e2, e1, e3]

/-- A load of tile row `t` of slab `i`. -/
theorem read_slab (arg22 : Memref sig .tc .vmem S4x72x128 .f32) (X : BufTy.Contents (Elt Ideal) arg22.view.ty)
    {m v : Tab} {s : Fin 4} {L : List (View.Piece (Elt Ideal) S4x72x128 .f32)}
    (h : Fills (Val := Elt Ideal) (e := .f32) (slabTab m v s) (fun y => (y 1).val % 9 < 8) L) (i : Fin 4) (t : Fin 8)
    {inb0 : ∀ a, (![i.val, 0, 0] : Fin 3 → ℕ) a + S1x72x128.size a ≤ S4x72x128.size a}
    {off : Fin 2 → ℕ} (hoff : off = ![9 * t.val, 0]) {inb : ∀ a, off a + S8x128.size a ≤ S72x128.size a} {h0 hs hst}
    {hR : S8x128.numel = (LoadRect.consLift (n := 2) (d := S72x128.size) (Rect.unit (s := S72x128) off S8x128.size inb).toLoadRect ![1, 72, 128] h0 hs).shape.numel}
    (g : Fin 8) (l : Fin 128) :
    LoadRect.valAlong (lr := (Rect.unit (s := S72x128) off S8x128.size inb).toLoadRect) hR (arg22.view.readAt (Elt Ideal)
      ((Rect.unit (s := S4x72x128) ![i.val, 0, 0] S1x72x128.size inb0).withinL
        (LoadRect.consLift (n := 2) (d := S72x128.size) (Rect.unit (s := S72x128) off S8x128.size inb).toLoadRect ![1, 72, 128] h0 hs) hst)
      (arg22.view.writes (Elt Ideal) X L)) (ix2 g l) = slabStat m v i g t (laneOf s l) := by
  subst hoff
  have e : Shape.reshapeEquiv hR (ix2 g l) = Fin.cons (⟨0, Nat.one_pos⟩ : Fin 1) (ix2 g l) := Shape.reshapeEquiv_cons_one (d := S8x128.size) hR (ix2 g l)
  show arg22.view.read (Elt Ideal) (arg22.view.writes (Elt Ideal) X L) (((Rect.unit (s := S4x72x128) ![i.val, 0, 0] S1x72x128.size inb0).withinL
        (LoadRect.consLift (n := 2) (d := S72x128.size) (Rect.unit (s := S72x128) ![9 * t.val, 0] S8x128.size inb).toLoadRect ![1, 72, 128] h0 hs) hst).idx
          (Shape.reshapeEquiv hR (ix2 g l))) = _
  rw [e]
  refine slab_place arg22 X h i t g l _ ?_ ?_ ?_
  · show i.val + 0 + 1 * 0 = i.val
    omega
  · show 0 + 9 * t.val + 1 * g.val = 9 * t.val + g.val
    omega
  · show 0 + 0 + 1 * l.val = l.val
    omega

end Cert.Proof.KernelValue

end
-- ==== Proof.ValueStats.lean ====
/- The statistics of a strip's groups, and the coefficients made of them. -/
module

public import proofs.«01_k».proof.Proof.ValueCoef

@[expose] public section

set_option maxRecDepth 16384
set_option maxHeartbeats 4000000

noncomputable section

namespace Cert.Proof.KernelValue

open Cert.KernelIdeal Cert.KernelIdeal.Gen
open Idealize.ShloMosaic Idealize.ShloMosaic.TcCoe Idealize.ShloMosaic.Tactic
open Idealize.ShloMosaic.Pointwise

section

variable (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v0 : Elt Ideal .f32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (k : Fin k0_t1_loop.trips) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) (f22 : BufTy.Contents (Elt Ideal) arg22.view.ty) (f23 : BufTy.Contents (Elt Ideal) arg23.view.ty)
  {m v : Tab}
  (hs : Fills (Val := Elt Ideal) (e := .f32) (slabTab m v (strip k)) (fun y => (y 1).val % 9 < 8) (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay3 v0) (k0_pay4 v0) k (trip_k0_t1.sl.v30 k) (trip_k0_t1.sl.r arg11 X11 k) X4 X5 X6 X9 (arg23.view.writes (Elt Ideal) arg23.view.junk (trip_k0_t1.sl.HW23_4 arg7 arg8 arg10 arg11 X7 X8 X10 X11 k)) k0_t2_loop.trips).2.2.2.2)

include hs in
theorem v137_at (g : Fin 8) (l : Fin 128) : trip_k0_t1.sl.v137 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 (ix2 g l) = groupStat max (absTab m) g (laneOf (strip k) l) := by
  unfold trip_k0_t1.sl.v137 trip_k0_t1.sl.v134 trip_k0_t1.sl.v128 trip_k0_t1.sl.r_8 trip_k0_t1.sl.v100 trip_k0_t1.sl.r_7 trip_k0_t1.sl.v97 trip_k0_t1.sl.v127 trip_k0_t1.sl.r_6 trip_k0_t1.sl.v94 trip_k0_t1.sl.r_5 trip_k0_t1.sl.v91 trip_k0_t1.sl.v133 trip_k0_t1.sl.v126 trip_k0_t1.sl.r_4 trip_k0_t1.sl.v88 trip_k0_t1.sl.r_3 trip_k0_t1.sl.v85 trip_k0_t1.sl.v125 trip_k0_t1.sl.r_2 trip_k0_t1.sl.v82 trip_k0_t1.sl.r_1 trip_k0_t1.sl.v79
  exact (congrArg₂ max (congrArg₂ max (congrArg₂ max (read_slab arg22 f22 hs 0 0 rfl g l) (read_slab arg22 f22 hs 0 1 rfl g l)) (congrArg₂ max (read_slab arg22 f22 hs 0 2 rfl g l) (read_slab arg22 f22 hs 0 3 rfl g l))) (congrArg₂ max (congrArg₂ max (read_slab arg22 f22 hs 0 4 rfl g l) (read_slab arg22 f22 hs 0 5 rfl g l)) (congrArg₂ max (read_slab arg22 f22 hs 0 6 rfl g l) (read_slab arg22 f22 hs 0 7 rfl g l))))

include hs in
theorem v138_at (g : Fin 8) (l : Fin 128) : trip_k0_t1.sl.v138 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 (ix2 g l) = groupStat min (posTab (absTab m)) g (laneOf (strip k) l) := by
  unfold trip_k0_t1.sl.v138 trip_k0_t1.sl.v136 trip_k0_t1.sl.v132 trip_k0_t1.sl.v124 trip_k0_t1.sl.v121 trip_k0_t1.sl.v131 trip_k0_t1.sl.v118 trip_k0_t1.sl.v115 trip_k0_t1.sl.v135 trip_k0_t1.sl.v130 trip_k0_t1.sl.v112 trip_k0_t1.sl.r_11 trip_k0_t1.sl.v109 trip_k0_t1.sl.v129 trip_k0_t1.sl.r_10 trip_k0_t1.sl.v106 trip_k0_t1.sl.r_9 trip_k0_t1.sl.v103
  exact (congrArg₂ min (congrArg₂ min (congrArg₂ min (read_slab arg22 f22 hs 1 0 rfl g l) (read_slab arg22 f22 hs 1 1 rfl g l)) (congrArg₂ min (read_slab arg22 f22 hs 1 2 rfl g l) (read_slab arg22 f22 hs 1 3 rfl g l))) (congrArg₂ min (congrArg₂ min (read_slab arg22 f22 hs 1 4 rfl g l) (read_slab arg22 f22 hs 1 5 rfl g l)) (congrArg₂ min (read_slab arg22 f22 hs 1 6 rfl g l) (read_slab arg22 f22 hs 1 7 rfl g l))))

include hs in
theorem rate_at (g : Fin 8) (l : Fin 128) : k0_pay111 (trip_k0_t1.sl.v140 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.v147 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (ix3 0 g l) = rateOf (groupStat max (absTab m) g (laneOf (strip k) l)) (groupStat min (posTab (absTab m)) g (laneOf (strip k) l)) := by
  have h1 := v137_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l
  have h2 := v138_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l
  unfold trip_k0_t1.sl.v147 trip_k0_t1.sl.v146 trip_k0_t1.sl.v144 trip_k0_t1.sl.v145 trip_k0_t1.sl.v142 trip_k0_t1.sl.v141 trip_k0_t1.sl.cst_112 trip_k0_t1.sl.v140 trip_k0_t1.sl.v139 trip_k0_t1.sl.cst_111
  generalize trip_k0_t1.sl.v137 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 = a at h1 ⊢
  generalize trip_k0_t1.sl.v138 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 = b at h2 ⊢
  rw [← h1, ← h2]
  clear h1 h2
  unfold rateOf orOne
  unfold_payloads
  pointwise [] <;> rfl

include hs in
theorem rate_out (g : Fin 8) (l : Fin 128) : k0_pay110 (trip_k0_t1.sl.v140 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.v147 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (ix3 0 g l) = rateOf (groupStat max (absTab m) g (laneOf (strip k) l)) (groupStat min (posTab (absTab m)) g (laneOf (strip k) l)) := by
  have h1 := v137_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l
  have h2 := v138_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l
  unfold trip_k0_t1.sl.v147 trip_k0_t1.sl.v146 trip_k0_t1.sl.v144 trip_k0_t1.sl.v145 trip_k0_t1.sl.v142 trip_k0_t1.sl.v141 trip_k0_t1.sl.cst_112 trip_k0_t1.sl.v140 trip_k0_t1.sl.v139 trip_k0_t1.sl.cst_111
  generalize trip_k0_t1.sl.v137 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 = a at h1 ⊢
  generalize trip_k0_t1.sl.v138 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 = b at h2 ⊢
  rw [← h1, ← h2]
  clear h1 h2
  unfold rateOf orOne
  unfold_payloads
  pointwise [] <;> rfl

include hs in
theorem off_at (g : Fin 8) (l : Fin 128) : k0_pay112 (trip_k0_t1.sl.v140 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.v142 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.v147 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (ix3 0 g l) = offOf (groupStat max (absTab m) g (laneOf (strip k) l)) (groupStat min (posTab (absTab m)) g (laneOf (strip k) l)) := by
  have h1 := v137_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l
  have h2 := v138_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l
  unfold trip_k0_t1.sl.v147 trip_k0_t1.sl.v146 trip_k0_t1.sl.v144 trip_k0_t1.sl.v145 trip_k0_t1.sl.v142 trip_k0_t1.sl.v141 trip_k0_t1.sl.cst_112 trip_k0_t1.sl.v140 trip_k0_t1.sl.v139 trip_k0_t1.sl.cst_111
  generalize trip_k0_t1.sl.v137 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 = a at h1 ⊢
  generalize trip_k0_t1.sl.v138 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 = b at h2 ⊢
  rw [← h1, ← h2]
  clear h1 h2
  unfold offOf rateOf lg2 orOne
  unfold_payloads
  pointwise [] <;> rfl

include hs in
theorem scl_out (g : Fin 8) (l : Fin 128) : k0_pay109 (trip_k0_t1.sl.v140 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.v142 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (ix3 0 g l) = sclOf (Named.named (F := Ideal) (φ := .f32) κ "tenth" 1036831949#32) (groupStat max (absTab m) g (laneOf (strip k) l)) := by
  have h1 := v137_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l
  unfold trip_k0_t1.sl.v142 trip_k0_t1.sl.v141 trip_k0_t1.sl.cst_112 trip_k0_t1.sl.v140 trip_k0_t1.sl.v139 trip_k0_t1.sl.cst_111
  generalize trip_k0_t1.sl.v137 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 = a at h1 ⊢
  rw [← h1]
  clear h1
  unfold sclOf orOne
  unfold_payloads
  pointwise [] <;> rfl

end

theorem pay117_at (w0 w1 w2 w3 w4 w5 w6 w7 w8 w9 w10 w11 w12 w13 w14 : Vec Ideal S8x128 .f32) (x : Fin 8) (l : Fin 128) :
    k0_pay117 (F := Ideal) w0 w1 w2 w3 w4 w5 w6 w7 w8 w9 w10 w11 w12 w13 w14 (ix2 x l) = rateOf (max (max (w14 (ix2 x l)) (max (w0 (ix2 x l)) (w1 (ix2 x l)))) (max (max (w2 (ix2 x l)) (w3 (ix2 x l))) (max (w4 (ix2 x l)) (w5 (ix2 x l))))) (min (min (min (w6 (ix2 x l)) (w7 (ix2 x l))) (min (w8 (ix2 x l)) (w9 (ix2 x l)))) (min (min (w10 (ix2 x l)) (w11 (ix2 x l))) (min (w12 (ix2 x l)) (w13 (ix2 x l))))) := by
  unfold rateOf orOne
  unfold_payloads
  pointwise []

theorem pay118_at (w0 w1 w2 w3 w4 w5 w6 w7 w8 w9 w10 w11 w12 w13 w14 : Vec Ideal S8x128 .f32) (x : Fin 8) (l : Fin 128) :
    k0_pay118 (F := Ideal) w0 w1 w2 w3 w4 w5 w6 w7 w8 w9 w10 w11 w12 w13 w14 (ix2 x l) = offOf (max (max (w14 (ix2 x l)) (max (w0 (ix2 x l)) (w1 (ix2 x l)))) (max (max (w2 (ix2 x l)) (w3 (ix2 x l))) (max (w4 (ix2 x l)) (w5 (ix2 x l))))) (min (min (min (w6 (ix2 x l)) (w7 (ix2 x l))) (min (w8 (ix2 x l)) (w9 (ix2 x l)))) (min (min (w10 (ix2 x l)) (w11 (ix2 x l))) (min (w12 (ix2 x l)) (w13 (ix2 x l))))) := by
  unfold offOf rateOf lg2 orOne
  unfold_payloads
  pointwise []

theorem pay119_at (w0 w1 w2 w3 w4 w5 w14 : Vec Ideal S8x128 .f32) (x : Fin 8) (l : Fin 128) :
    k0_pay119 (F := Ideal) w0 w1 w2 w3 w4 w5 w14 (ix3 0 x l) = sclOf (Named.named (F := Ideal) (φ := .f32) κ "twentieth" 1028443341#32) (max (max (w14 (ix2 x l)) (max (w0 (ix2 x l)) (w1 (ix2 x l)))) (max (max (w2 (ix2 x l)) (w3 (ix2 x l))) (max (w4 (ix2 x l)) (w5 (ix2 x l))))) := by
  unfold sclOf orOne
  unfold_payloads
  pointwise []

section

variable (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v0 : Elt Ideal .f32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (k : Fin k0_t1_loop.trips) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) (f22 : BufTy.Contents (Elt Ideal) arg22.view.ty) (f23 : BufTy.Contents (Elt Ideal) arg23.view.ty)
  {m v : Tab}
  (hs : Fills (Val := Elt Ideal) (e := .f32) (slabTab m v (strip k)) (fun y => (y 1).val % 9 < 8) (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay3 v0) (k0_pay4 v0) k (trip_k0_t1.sl.v30 k) (trip_k0_t1.sl.r arg11 X11 k) X4 X5 X6 X9 (arg23.view.writes (Elt Ideal) arg23.view.junk (trip_k0_t1.sl.HW23_4 arg7 arg8 arg10 arg11 X7 X8 X10 X11 k)) k0_t2_loop.trips).2.2.2.2)

include hs in
theorem r_28_at (g : Fin 8) (l : Fin 128) : trip_k0_t1.sl.r_28 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 (ix2 g l) = rateOf (groupStat max v g (laneOf (strip k) l)) (groupStat min (posTab v) g (laneOf (strip k) l)) := by
  unfold trip_k0_t1.sl.r_28 trip_k0_t1.sl.v226 trip_k0_t1.sl.r_13 trip_k0_t1.sl.v183 trip_k0_t1.sl.r_12 trip_k0_t1.sl.v180 trip_k0_t1.sl.r_27 trip_k0_t1.sl.v225 trip_k0_t1.sl.r_26 trip_k0_t1.sl.v222 trip_k0_t1.sl.r_25 trip_k0_t1.sl.v219 trip_k0_t1.sl.r_24 trip_k0_t1.sl.v216 trip_k0_t1.sl.r_23 trip_k0_t1.sl.v213 trip_k0_t1.sl.r_22 trip_k0_t1.sl.v210 trip_k0_t1.sl.r_21 trip_k0_t1.sl.v207 trip_k0_t1.sl.r_20 trip_k0_t1.sl.v204 trip_k0_t1.sl.r_19 trip_k0_t1.sl.v201 trip_k0_t1.sl.r_18 trip_k0_t1.sl.v198 trip_k0_t1.sl.r_17 trip_k0_t1.sl.v195 trip_k0_t1.sl.r_16 trip_k0_t1.sl.v192 trip_k0_t1.sl.r_15 trip_k0_t1.sl.v189 trip_k0_t1.sl.r_14 trip_k0_t1.sl.v186
  exact (pay117_at _ _ _ _ _ _ _ _ _ _ _ _ _ _ _ g l).trans (congrArg₂ rateOf (congrArg₂ max (congrArg₂ max (congrArg₂ max (read_slab arg22 f22 hs 2 0 rfl g l) (read_slab arg22 f22 hs 2 1 rfl g l)) (congrArg₂ max (read_slab arg22 f22 hs 2 2 rfl g l) (read_slab arg22 f22 hs 2 3 rfl g l))) (congrArg₂ max (congrArg₂ max (read_slab arg22 f22 hs 2 4 rfl g l) (read_slab arg22 f22 hs 2 5 rfl g l)) (congrArg₂ max (read_slab arg22 f22 hs 2 6 rfl g l) (read_slab arg22 f22 hs 2 7 rfl g l)))) (congrArg₂ min (congrArg₂ min (congrArg₂ min (read_slab arg22 f22 hs 3 0 rfl g l) (read_slab arg22 f22 hs 3 1 rfl g l)) (congrArg₂ min (read_slab arg22 f22 hs 3 2 rfl g l) (read_slab arg22 f22 hs 3 3 rfl g l))) (congrArg₂ min (congrArg₂ min (read_slab arg22 f22 hs 3 4 rfl g l) (read_slab arg22 f22 hs 3 5 rfl g l)) (congrArg₂ min (read_slab arg22 f22 hs 3 6 rfl g l) (read_slab arg22 f22 hs 3 7 rfl g l)))))

include hs in
theorem r_29_at (g : Fin 8) (l : Fin 128) : trip_k0_t1.sl.r_29 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 (ix2 g l) = offOf (groupStat max v g (laneOf (strip k) l)) (groupStat min (posTab v) g (laneOf (strip k) l)) := by
  unfold trip_k0_t1.sl.r_29 trip_k0_t1.sl.v226 trip_k0_t1.sl.r_13 trip_k0_t1.sl.v183 trip_k0_t1.sl.r_12 trip_k0_t1.sl.v180 trip_k0_t1.sl.r_27 trip_k0_t1.sl.v225 trip_k0_t1.sl.r_26 trip_k0_t1.sl.v222 trip_k0_t1.sl.r_25 trip_k0_t1.sl.v219 trip_k0_t1.sl.r_24 trip_k0_t1.sl.v216 trip_k0_t1.sl.r_23 trip_k0_t1.sl.v213 trip_k0_t1.sl.r_22 trip_k0_t1.sl.v210 trip_k0_t1.sl.r_21 trip_k0_t1.sl.v207 trip_k0_t1.sl.r_20 trip_k0_t1.sl.v204 trip_k0_t1.sl.r_19 trip_k0_t1.sl.v201 trip_k0_t1.sl.r_18 trip_k0_t1.sl.v198 trip_k0_t1.sl.r_17 trip_k0_t1.sl.v195 trip_k0_t1.sl.r_16 trip_k0_t1.sl.v192 trip_k0_t1.sl.r_15 trip_k0_t1.sl.v189 trip_k0_t1.sl.r_14 trip_k0_t1.sl.v186
  exact (pay118_at _ _ _ _ _ _ _ _ _ _ _ _ _ _ _ g l).trans (congrArg₂ offOf (congrArg₂ max (congrArg₂ max (congrArg₂ max (read_slab arg22 f22 hs 2 0 rfl g l) (read_slab arg22 f22 hs 2 1 rfl g l)) (congrArg₂ max (read_slab arg22 f22 hs 2 2 rfl g l) (read_slab arg22 f22 hs 2 3 rfl g l))) (congrArg₂ max (congrArg₂ max (read_slab arg22 f22 hs 2 4 rfl g l) (read_slab arg22 f22 hs 2 5 rfl g l)) (congrArg₂ max (read_slab arg22 f22 hs 2 6 rfl g l) (read_slab arg22 f22 hs 2 7 rfl g l)))) (congrArg₂ min (congrArg₂ min (congrArg₂ min (read_slab arg22 f22 hs 3 0 rfl g l) (read_slab arg22 f22 hs 3 1 rfl g l)) (congrArg₂ min (read_slab arg22 f22 hs 3 2 rfl g l) (read_slab arg22 f22 hs 3 3 rfl g l))) (congrArg₂ min (congrArg₂ min (read_slab arg22 f22 hs 3 4 rfl g l) (read_slab arg22 f22 hs 3 5 rfl g l)) (congrArg₂ min (read_slab arg22 f22 hs 3 6 rfl g l) (read_slab arg22 f22 hs 3 7 rfl g l)))))

include hs in
theorem vscl_out (g : Fin 8) (l : Fin 128) :
    k0_pay119 (trip_k0_t1.sl.r_14 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.r_15 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.r_16 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.r_17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.r_18 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.r_19 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.v226 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (ix3 0 g l) = sclOf (Named.named (F := Ideal) (φ := .f32) κ "twentieth" 1028443341#32) (groupStat max v g (laneOf (strip k) l)) := by
  unfold trip_k0_t1.sl.v226 trip_k0_t1.sl.r_13 trip_k0_t1.sl.v183 trip_k0_t1.sl.r_12 trip_k0_t1.sl.v180 trip_k0_t1.sl.r_19 trip_k0_t1.sl.v201 trip_k0_t1.sl.r_18 trip_k0_t1.sl.v198 trip_k0_t1.sl.r_17 trip_k0_t1.sl.v195 trip_k0_t1.sl.r_16 trip_k0_t1.sl.v192 trip_k0_t1.sl.r_15 trip_k0_t1.sl.v189 trip_k0_t1.sl.r_14 trip_k0_t1.sl.v186
  exact (pay119_at _ _ _ _ _ _ _ g l).trans (congrArg (sclOf _) (congrArg₂ max (congrArg₂ max (congrArg₂ max (read_slab arg22 f22 hs 2 0 rfl g l) (read_slab arg22 f22 hs 2 1 rfl g l)) (congrArg₂ max (read_slab arg22 f22 hs 2 2 rfl g l) (read_slab arg22 f22 hs 2 3 rfl g l))) (congrArg₂ max (congrArg₂ max (read_slab arg22 f22 hs 2 4 rfl g l) (read_slab arg22 f22 hs 2 5 rfl g l)) (congrArg₂ max (read_slab arg22 f22 hs 2 6 rfl g l) (read_slab arg22 f22 hs 2 7 rfl g l)))))

include hs in
theorem vrate_at (g : Fin 8) (l : Fin 128) : k0_pay6 (trip_k0_t1.sl.r_28 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (ix3 0 g l) = rateOf (groupStat max v g (laneOf (strip k) l)) (groupStat min (posTab v) g (laneOf (strip k) l)) := by
  have h := r_28_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l
  generalize trip_k0_t1.sl.r_28 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 = f at h ⊢
  rw [← h]
  unfold_payloads
  pointwise []

include hs in
theorem vrate_out (g : Fin 8) (l : Fin 128) : k0_pay5 (trip_k0_t1.sl.r_28 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (ix3 0 g l) = rateOf (groupStat max v g (laneOf (strip k) l)) (groupStat min (posTab v) g (laneOf (strip k) l)) := by
  have h := r_28_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l
  generalize trip_k0_t1.sl.r_28 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 = f at h ⊢
  rw [← h]
  unfold_payloads
  pointwise []

include hs in
theorem voff_at (g : Fin 8) (l : Fin 128) : k0_pay7 (trip_k0_t1.sl.r_29 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (ix3 0 g l) = offOf (groupStat max v g (laneOf (strip k) l)) (groupStat min (posTab v) g (laneOf (strip k) l)) := by
  have h := r_29_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l
  generalize trip_k0_t1.sl.r_29 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 = f at h ⊢
  rw [← h]
  unfold_payloads
  pointwise []

end

end Cert.Proof.KernelValue

end
-- ==== Proof.ValueTrip1.lean ====
/- What the loop over the strips leaves in the results of a block. -/
module

public import proofs.«01_k».proof.Proof.ValueStats

@[expose] public section

set_option maxRecDepth 16384
set_option maxHeartbeats 4000000

noncomputable section

namespace Cert.Proof.KernelValue

open Cert.KernelIdeal Cert.KernelIdeal.Gen
open Idealize.ShloMosaic Idealize.ShloMosaic.TcCoe Idealize.ShloMosaic.Tactic
open Idealize.ShloMosaic.Pointwise

/-- The inputs of a block, as tables. -/
structure Blk where
  st : EReal
  w : Tab
  g : Tab
  mc : Tab
  ms : Coef
  mr : Coef
  vc : Tab
  vs : Coef
  vr : Coef

namespace Blk

variable (b : Blk)

/-- Ten times the new first moment. -/
def m : Tab := mTab (kInv b.mr) (kOff (Ideal.ofBits .f32 1091567616#32) b.ms b.mr) b.mc b.g

/-- Twenty times the new second moment. -/
def v : Tab := vTab (kInv b.vr) (kOff (Ideal.ofBits .f32 1100480512#32) b.vs b.vr) b.vc b.g

/-- The weight update. -/
def u : Tab := uTab (dofOf b.st) (depOf b.st) b.m b.v b.w

def mMax : Coef := fun g l => groupStat max (absTab b.m) g l
def mMin : Coef := fun g l => groupStat min (posTab (absTab b.m)) g l
def vMax : Coef := fun g l => groupStat max b.v g l
def vMin : Coef := fun g l => groupStat min (posTab b.v) g l

/-- The first moment's `k` per group, its scale and its codes. -/
def mr' : Coef := fun g l => rateOf (b.mMax g l) (b.mMin g l)
def mo' : Coef := fun g l => offOf (b.mMax g l) (b.mMin g l)
def ms' : Coef := fun g l => sclOf (Named.named (F := Ideal) (φ := .f32) κ "tenth" 1036831949#32) (b.mMax g l)
def mc' : Tab := mCodeTab b.mr' b.mo' b.m

/-- The second moment's `k` per group, its scale and its codes. -/
def vr' : Coef := fun g l => rateOf (b.vMax g l) (b.vMin g l)
def vo' : Coef := fun g l => offOf (b.vMax g l) (b.vMin g l)
def vs' : Coef := fun g l => sclOf (Named.named (F := Ideal) (φ := .f32) κ "twentieth" 1028443341#32) (b.vMax g l)
def vc' : Tab := vCodeTab b.vr' b.vo' b.v

/-- The coefficients the codes of a strip are made with. -/
def coefOut (i : Fin 4) : Coef :=
  match i with
  | 0 => b.mr'
  | 1 => b.mo'
  | 2 => b.vr'
  | 3 => b.vo'

end Blk

/-- The first `n` strips of the seven results hold what they should. -/
structure Done (b : Blk) (n : ℕ) (arg12 : Memref sig .tc .vmem S1x1024x512 .f32) (arg13 : Memref sig .tc .vmem S1x1024x512 .fp8e4m3) (arg14 : Memref sig .tc .vmem S1x8x512 .f32) (arg15 : Memref sig .tc .vmem S1x8x512 .f32) (arg16 : Memref sig .tc .vmem S1x1024x512 .fp8e4m3) (arg17 : Memref sig .tc .vmem S1x8x512 .f32) (arg18 : Memref sig .tc .vmem S1x8x512 .f32) (arg19 : Memref sig .tc .vmem S1024x128 .f32) (arg20 : Memref sig .tc .vmem S1024x128 .f32) (arg21 : Memref sig .tc .vmem S1024x128 .f32) (arg22 : Memref sig .tc .vmem S4x72x128 .f32) (arg23 : Memref sig .tc .vmem S4x8x128 .f32)
    (S : Bufs Ideal arg12 arg13 arg14 arg15 arg16 arg17 arg18 arg19 arg20 arg21 arg22 arg23) : Prop where
  u : ∀ y, (y 2).val < 128 * n → arg12.view.read (Elt Ideal) S.f12 y = b.u (y 1) (y 2)
  mc : ∀ y, (y 2).val < 128 * n → arg13.view.read (Elt Ideal) S.f13 y = b.mc' (y 1) (y 2)
  ms : ∀ y, (y 2).val < 128 * n → arg14.view.read (Elt Ideal) S.f14 y = b.ms' (y 1) (y 2)
  mr : ∀ y, (y 2).val < 128 * n → arg15.view.read (Elt Ideal) S.f15 y = b.mr' (y 1) (y 2)
  vc : ∀ y, (y 2).val < 128 * n → arg16.view.read (Elt Ideal) S.f16 y = b.vc' (y 1) (y 2)
  vs : ∀ y, (y 2).val < 128 * n → arg17.view.read (Elt Ideal) S.f17 y = b.vs' (y 1) (y 2)
  vr : ∀ y, (y 2).val < 128 * n → arg18.view.read (Elt Ideal) S.f18 y = b.vr' (y 1) (y 2)

/-- Stores that fill a strip keep what the strips before it hold. -/
theorem Fills.strip {sp : Space} {s : Shape} {e : EltTy} (v : View sig .tc sp s e) (f : v.ty.Contents (Elt Ideal))
    {G : s.Idx → Elt Ideal e} {D : s.Idx → Prop} {L : List (View.Piece (Elt Ideal) s e)} (h : Fills G D L)
    (z : s.Idx → ℕ) (n : ℕ) (hD : ∀ y, 128 * n ≤ z y → z y < 128 * n + 128 → D y)
    (hf : ∀ y, z y < 128 * n → v.read (Elt Ideal) f y = G y) (y : s.Idx) (hy : z y < 128 * (n + 1)) :
    v.read (Elt Ideal) (v.writes (Elt Ideal) f L) y = G y := by
  by_cases hz : z y < 128 * n
  · exact h.keep v f y (hf y hz)
  · exact h.read v f y (hD y (by omega) (by omega))

/-- The inputs of a block, read from the buffers they lie in. -/
def blkOf (v0 : Elt Ideal .f32) (arg4 : Memref sig .tc .vmem S1x1024x512 .f32) (arg5 : Memref sig .tc .vmem S1x1024x512 .bf16) (arg6 : Memref sig .tc .vmem S1x1024x512 .fp8e4m3) (arg7 : Memref sig .tc .vmem S1x8x512 .f32) (arg8 : Memref sig .tc .vmem S1x8x512 .f32) (arg9 : Memref sig .tc .vmem S1x1024x512 .fp8e4m3) (arg10 : Memref sig .tc .vmem S1x8x512 .f32) (arg11 : Memref sig .tc .vmem S1x8x512 .f32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) : Blk :=
  { st := v0, w := tab (arg4.view.read (Elt Ideal) X4), g := tab (arg5.view.read (Elt Ideal) X5), mc := tab (arg6.view.read (Elt Ideal) X6),
    ms := coTab (arg7.view.read (Elt Ideal) X7), mr := coTab (arg8.view.read (Elt Ideal) X8), vc := tab (arg9.view.read (Elt Ideal) X9),
    vs := coTab (arg10.view.read (Elt Ideal) X10), vr := coTab (arg11.view.read (Elt Ideal) X11) }

section

variable (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v0 : Elt Ideal .f32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (k : Fin k0_t1_loop.trips) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) (f22 : BufTy.Contents (Elt Ideal) arg22.view.ty) (f23 : BufTy.Contents (Elt Ideal) arg23.view.ty)

/-- What the update loop of a strip has written. -/
theorem strip2 : Wrote2 (dofOf v0) (depOf v0) (blkOf v0 arg4 arg5 arg6 arg7 arg8 arg9 arg10 arg11 X4 X5 X6 X7 X8 X9 X10 X11).m (blkOf v0 arg4 arg5 arg6 arg7 arg8 arg9 arg10 arg11 X4 X5 X6 X7 X8 X9 X10 X11).v (blkOf v0 arg4 arg5 arg6 arg7 arg8 arg9 arg10 arg11 X4 X5 X6 X7 X8 X9 X10 X11).w (strip k) k0_t2_loop.trips (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay3 v0) (k0_pay4 v0) k (trip_k0_t1.sl.v30 k) (trip_k0_t1.sl.r arg11 X11 k) X4 X5 X6 X9 (arg23.view.writes (Elt Ideal) arg23.view.junk (trip_k0_t1.sl.HW23_4 arg7 arg8 arg10 arg11 X7 X8 X10 X11 k)) k0_t2_loop.trips) := by
  have hc := coef_read arg7 arg8 arg10 arg11 arg23 X7 X8 X10 X11 k arg23.view.junk
  set b := (blkOf v0 arg4 arg5 arg6 arg7 arg8 arg9 arg10 arg11 X4 X5 X6 X7 X8 X9 X10 X11) with hb
  exact wrote2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay3 v0) (k0_pay4 v0) k (trip_k0_t1.sl.v30 k) (trip_k0_t1.sl.r arg11 X11 k) X4 X5 X6 X9 (arg23.view.writes (Elt Ideal) arg23.view.junk (trip_k0_t1.sl.HW23_4 arg7 arg8 arg10 arg11 X7 X8 X10 X11 k))
    (dofOf v0) (depOf v0) (dof_at v0) (dep_at v0) (kInv b.mr) (kOff (Ideal.ofBits .f32 1091567616#32) b.ms b.mr) (kInv b.vr) (kOff (Ideal.ofBits .f32 1100480512#32) b.vs b.vr)
    (hc 0) (hc 1) (hc 2) (hc 3) k0_t2_loop.trips le_rfl

theorem stripS : Fills (Val := Elt Ideal) (e := .f32) (slabTab (blkOf v0 arg4 arg5 arg6 arg7 arg8 arg9 arg10 arg11 X4 X5 X6 X7 X8 X9 X10 X11).m (blkOf v0 arg4 arg5 arg6 arg7 arg8 arg9 arg10 arg11 X4 X5 X6 X7 X8 X9 X10 X11).v (strip k)) (fun y => (y 1).val % 9 < 8) (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay3 v0) (k0_pay4 v0) k (trip_k0_t1.sl.v30 k) (trip_k0_t1.sl.r arg11 X11 k) X4 X5 X6 X9 (arg23.view.writes (Elt Ideal) arg23.view.junk (trip_k0_t1.sl.HW23_4 arg7 arg8 arg10 arg11 X7 X8 X10 X11 k)) k0_t2_loop.trips).2.2.2.2 :=
  (strip2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k).slabs.mono fun y hy => by rw [trips2]; exact hy

/-- What the coefficient buffer reads in the quantise loop. -/
theorem coef_read' (p : Fin 4) (r : Fin 8) (l : Fin 128) :
    arg23.view.read (Elt Ideal) (arg23.view.writes (Elt Ideal) arg23.view.junk
      (⟨Rect.unit (s := S4x8x128) ![3, 0, 0] S1x8x128.size inb_S4x8x128_S1x8x128_3_0_0, k0_pay7 (trip_k0_t1.sl.r_29 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23)⟩ ::
       ⟨Rect.unit (s := S4x8x128) ![2, 0, 0] S1x8x128.size inb_S4x8x128_S1x8x128_2_0_0, k0_pay6 (trip_k0_t1.sl.r_28 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23)⟩ ::
       ⟨Rect.unit (s := S4x8x128) ![1, 0, 0] S1x8x128.size inb_S4x8x128_S1x8x128_1_0_0, k0_pay112 (trip_k0_t1.sl.v140 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.v142 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.v147 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23)⟩ ::
       ⟨Rect.unit (s := S4x8x128) ![0, 0, 0] S1x8x128.size inb_S4x8x128_S1x8x128_0_0_0, k0_pay111 (trip_k0_t1.sl.v140 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.v147 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23)⟩ ::
       trip_k0_t1.sl.HW23_4 arg7 arg8 arg10 arg11 X7 X8 X10 X11 k)) (ix3 p r l) = (blkOf v0 arg4 arg5 arg6 arg7 arg8 arg9 arg10 arg11 X4 X5 X6 X7 X8 X9 X10 X11).coefOut p r (laneOf (strip k) l) := by
  have hs := stripS 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k
  have F := fill4 (strip k) (blkOf v0 arg4 arg5 arg6 arg7 arg8 arg9 arg10 arg11 X4 X5 X6 X7 X8 X9 X10 X11).coefOut _ _ _ _
    (fun g l => rate_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l) (fun g l => off_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l)
    (fun g l => vrate_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l) (fun g l => voff_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l)
  exact F.read arg23.view (arg23.view.writes (Elt Ideal) arg23.view.junk (trip_k0_t1.sl.HW23_4 arg7 arg8 arg10 arg11 X7 X8 X10 X11 k)) (ix3 p r l) trivial

/-- What the quantise loop of a strip has written. -/
theorem strip3 : Wrote3 (blkOf v0 arg4 arg5 arg6 arg7 arg8 arg9 arg10 arg11 X4 X5 X6 X7 X8 X9 X10 X11).mr' (blkOf v0 arg4 arg5 arg6 arg7 arg8 arg9 arg10 arg11 X4 X5 X6 X7 X8 X9 X10 X11).mo' (blkOf v0 arg4 arg5 arg6 arg7 arg8 arg9 arg10 arg11 X4 X5 X6 X7 X8 X9 X10 X11).vr' (blkOf v0 arg4 arg5 arg6 arg7 arg8 arg9 arg10 arg11 X4 X5 X6 X7 X8 X9 X10 X11).vo' (blkOf v0 arg4 arg5 arg6 arg7 arg8 arg9 arg10 arg11 X4 X5 X6 X7 X8 X9 X10 X11).m (blkOf v0 arg4 arg5 arg6 arg7 arg8 arg9 arg10 arg11 X4 X5 X6 X7 X8 X9 X10 X11).v (strip k) k0_t3_loop.trips (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k (trip_k0_t1.sl.v30 k) (arg19.view.writes (Elt Ideal) f19 (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay3 v0) (k0_pay4 v0) k (trip_k0_t1.sl.v30 k) (trip_k0_t1.sl.r arg11 X11 k) X4 X5 X6 X9 (arg23.view.writes (Elt Ideal) arg23.view.junk (trip_k0_t1.sl.HW23_4 arg7 arg8 arg10 arg11 X7 X8 X10 X11 k)) k0_t2_loop.trips).2.1) (arg20.view.writes (Elt Ideal) f20 (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay3 v0) (k0_pay4 v0) k (trip_k0_t1.sl.v30 k) (trip_k0_t1.sl.r arg11 X11 k) X4 X5 X6 X9 (arg23.view.writes (Elt Ideal) arg23.view.junk (trip_k0_t1.sl.HW23_4 arg7 arg8 arg10 arg11 X7 X8 X10 X11 k)) k0_t2_loop.trips).2.2.1) (arg21.view.writes (Elt Ideal) f21 (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay3 v0) (k0_pay4 v0) k (trip_k0_t1.sl.v30 k) (trip_k0_t1.sl.r arg11 X11 k) X4 X5 X6 X9 (arg23.view.writes (Elt Ideal) arg23.view.junk (trip_k0_t1.sl.HW23_4 arg7 arg8 arg10 arg11 X7 X8 X10 X11 k)) k0_t2_loop.trips).2.2.2.1) (arg23.view.writes (Elt Ideal) arg23.view.junk
      (⟨Rect.unit (s := S4x8x128) ![3, 0, 0] S1x8x128.size inb_S4x8x128_S1x8x128_3_0_0, k0_pay7 (trip_k0_t1.sl.r_29 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23)⟩ ::
       ⟨Rect.unit (s := S4x8x128) ![2, 0, 0] S1x8x128.size inb_S4x8x128_S1x8x128_2_0_0, k0_pay6 (trip_k0_t1.sl.r_28 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23)⟩ ::
       ⟨Rect.unit (s := S4x8x128) ![1, 0, 0] S1x8x128.size inb_S4x8x128_S1x8x128_1_0_0, k0_pay112 (trip_k0_t1.sl.v140 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.v142 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.v147 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23)⟩ ::
       ⟨Rect.unit (s := S4x8x128) ![0, 0, 0] S1x8x128.size inb_S4x8x128_S1x8x128_0_0_0, k0_pay111 (trip_k0_t1.sl.v140 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23) (trip_k0_t1.sl.v147 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23)⟩ ::
       trip_k0_t1.sl.HW23_4 arg7 arg8 arg10 arg11 X7 X8 X10 X11 k)) k0_t3_loop.trips) := by
  have hc := coef_read' 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23
  have h2 := strip2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k
  have hr : ∀ r : Fin 1024, r.val < 128 * k0_t2_loop.trips := fun r => by rw [trips2]; omega
  exact wrote3 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k (trip_k0_t1.sl.v30 k) _ _ _ _
    (fun r l => h2.mom.read arg19.view f19 (ix2 r l) (hr r))
    (fun r l => h2.lm.read arg20.view f20 (ix2 r l) (hr r))
    (fun r l => h2.lv.read arg21.view f21 (ix2 r l) (hr r))
    (hc 0) (hc 1) (hc 2) (hc 3) k0_t3_loop.trips le_rfl

end

set_option maxHeartbeats 16000000 in
/-- One strip more. -/
theorem done_step (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v0 : Elt Ideal .f32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (k : Fin k0_t1_loop.trips)
    (S : Bufs Ideal arg12 arg13 arg14 arg15 arg16 arg17 arg18 arg19 arg20 arg21 arg22 arg23) (h : Done (blkOf v0 arg4 arg5 arg6 arg7 arg8 arg9 arg10 arg11 X4 X5 X6 X7 X8 X9 X10 X11) k.val arg12 arg13 arg14 arg15 arg16 arg17 arg18 arg19 arg20 arg21 arg22 arg23 S) :
    Done (blkOf v0 arg4 arg5 arg6 arg7 arg8 arg9 arg10 arg11 X4 X5 X6 X7 X8 X9 X10 X11) (k.val + 1) arg12 arg13 arg14 arg15 arg16 arg17 arg18 arg19 arg20 arg21 arg22 arg23 (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k S).1 := by
  obtain ⟨f12, f13, f14, f15, f16, f17, f18, f19, f20, f21, f22, f23⟩ := S
  have h2 := strip2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k
  have h3 := strip3 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23
  have hs := stripS 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k
  have e2 : ∀ r : Fin 1024, r.val < 128 * k0_t2_loop.trips := fun r => by rw [trips2]; omega
  have e3 : ∀ r : Fin 1024, r.val < 128 * k0_t3_loop.trips := fun r => by rw [trips3]; omega
  unfold trip_k0_t1
  dsimp only
  refine ⟨?_, ?_, ?_, ?_, ?_, ?_, ?_⟩
  · exact h2.upd.strip arg12.view f12 (fun y => (y 2).val) k.val (fun y a b => ⟨e2 (y 1), a, b⟩) h.u
  · exact h3.mc.strip arg13.view f13 (fun y => (y 2).val) k.val (fun y a b => ⟨e3 (y 1), a, b⟩) h.mc
  · exact (fill1 k (blkOf v0 arg4 arg5 arg6 arg7 arg8 arg9 arg10 arg11 X4 X5 X6 X7 X8 X9 X10 X11).ms' _ _ fun g l => scl_out 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l).strip arg14.view f14 (fun y => (y 2).val) k.val (fun y a b => ⟨a, b⟩) h.ms
  · exact (fill1 k (blkOf v0 arg4 arg5 arg6 arg7 arg8 arg9 arg10 arg11 X4 X5 X6 X7 X8 X9 X10 X11).mr' _ _ fun g l => rate_out 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l).strip arg15.view f15 (fun y => (y 2).val) k.val (fun y a b => ⟨a, b⟩) h.mr
  · exact h3.vc.strip arg16.view f16 (fun y => (y 2).val) k.val (fun y a b => ⟨e3 (y 1), a, b⟩) h.vc
  · exact (fill1 k (blkOf v0 arg4 arg5 arg6 arg7 arg8 arg9 arg10 arg11 X4 X5 X6 X7 X8 X9 X10 X11).vs' _ _ fun g l => vscl_out 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l).strip arg17.view f17 (fun y => (y 2).val) k.val (fun y a b => ⟨a, b⟩) h.vs
  · exact (fill1 k (blkOf v0 arg4 arg5 arg6 arg7 arg8 arg9 arg10 arg11 X4 X5 X6 X7 X8 X9 X10 X11).vr' _ _ fun g l => vrate_out 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 k f12 f13 f14 f15 f16 f17 f18 f19 f20 f21 f22 f23 hs g l).strip arg18.view f18 (fun y => (y 2).val) k.val (fun y a b => ⟨a, b⟩) h.vr

/-- The results after `n` strips. -/
theorem done (𝒱 : Variants) (c : Dev nD) (bd : Option 𝒱.V) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (v0 : Elt Ideal .f32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (S : Bufs Ideal arg12 arg13 arg14 arg15 arg16 arg17 arg18 arg19 arg20 arg21 arg22 arg23) (n : ℕ) (hn : n ≤ k0_t1_loop.trips) :
    Done (blkOf v0 arg4 arg5 arg6 arg7 arg8 arg9 arg10 arg11 X4 X5 X6 X7 X8 X9 X10 X11) n arg12 arg13 arg14 arg15 arg16 arg17 arg18 arg19 arg20 arg21 arg22 arg23 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 S n) := by
  induction n with
  | zero =>
    refine ⟨?_, ?_, ?_, ?_, ?_, ?_, ?_⟩ <;> exact fun y hy => absurd hy (by omega)
  | succ n ih =>
    have e := st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 S ⟨n, hn⟩
    exact e ▸ done_step 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 X4 X5 X6 X7 X8 X9 X10 X11 ⟨n, hn⟩ _ (ih (Nat.le_of_lt hn))

theorem trips1 : k0_t1_loop.trips = 4 := by decide +kernel

end Cert.Proof.KernelValue

end
-- ==== Proof.RefRead.lean ====
/- The reference's seven results at an index. -/
module

public import proofs.«01_k».proof.Proof.Gen.ReferenceIdeal.Frame
public import Idealize.ShloMosaic.Lib.Pointwise
public import Idealize.ShloMosaic.Lib.Pipeline.ValueKit

@[expose] public section

set_option maxRecDepth 16384
set_option maxHeartbeats 4000000

noncomputable section

namespace Cert.Proof.ReferenceValue

open Cert.ReferenceIdeal Cert.ReferenceIdeal.Gen
open Idealize.ShloMosaic Idealize.ShloMosaic.TcCoe Idealize.ShloMosaic.Tactic
open Idealize.ShloMosaic.Pointwise

/-- The largest of 128 values. -/
def top (f : Fin 128 → EReal) : EReal := Finset.univ.fold max (Ideal.ofBits FTy.f32 4286578688#32) f

/-- The smallest of 128 values. -/
def bot (f : Fin 128 → EReal) : EReal := Finset.univ.fold min (Ideal.ofBits FTy.f32 2139095040#32) f

/-- A maximum over the rows of a group. -/
theorem reduce_max (x : FVec Ideal S4x32x128x2048 .f32) (b : Fin 4) (g : Fin 32) (l : Fin 2048) :
    multiReduction .maximumf [2] S4x32x2048 x 0xFF800000#32 reduces_S4x32x128x2048_S4x32x2048 (.inl rfl) rfl (ix3 b g l) =
      top fun r => x (ix4 b g r l) := by
  unfold top
  pointwise []

/-- A minimum over the rows of a group. -/
theorem reduce_min (x : FVec Ideal S4x32x128x2048 .f32) (b : Fin 4) (g : Fin 32) (l : Fin 2048) :
    multiReduction .minimumf [2] S4x32x2048 x 0x7F800000#32 reduces_S4x32x128x2048_S4x32x2048 (.inl rfl) rfl (ix3 b g l) =
      bot fun r => x (ix4 b g r l) := by
  unfold bot
  pointwise []

/-- Row `r` of group `g`. -/
def rowIn (g : Fin 32) (r : Fin 128) : Fin 4096 := ⟨128 * g.val + r.val, by omega⟩

/-- The group of a row. -/
def grpOf (R : Fin 4096) : Fin 32 := ⟨R.val / 128, by omega⟩

/-- The sign of a code, a zero left as it is. -/
def sgn (q : EReal) : EReal :=
  if 0 < FloatOps.absf (F := Ideal) (φ := .f32) q then (if q < 0 then Ideal.ofBits FTy.f32 3212836864#32 else 1) else q

/-- A code's value under scale `s` and exponent `k`. -/
def deq (q s k : EReal) : EReal :=
  if q ≠ 0 then
    sgn q * s * Ideal.exp (Ideal.div (Ideal.log (Ideal.div (if q ≠ 0 then FloatOps.absf (F := Ideal) (φ := .f32) q else Ideal.ofBits FTy.f32 1138753536#32)
      (Ideal.ofBits FTy.f32 1138753536#32))) k)
  else 0

/-- The new first moment. -/
def mVal (q s k g : EReal) : EReal :=
  Named.named (F := Ideal) (φ := .f32) κ "beta1" 1063675494#32 * deq q s k + Named.named (F := Ideal) (φ := .f32) κ "tenth" 1036831949#32 * g

/-- The new second moment. -/
def vVal (q s k g : EReal) : EReal :=
  Named.named (F := Ideal) (φ := .f32) κ "beta2" 1064514355#32 * deq q s k + Named.named (F := Ideal) (φ := .f32) κ "twentieth" 1028443341#32 * g * g

/-- The update. -/
def uVal (st m v w : EReal) : EReal :=
  Ideal.div (Ideal.div m (1 - Ideal.pow (Named.named (F := Ideal) (φ := .f32) κ "beta1" 1063675494#32) st))
    (Ideal.sqrt (Ideal.div v (1 - Ideal.pow (Named.named (F := Ideal) (φ := .f32) κ "beta2" 1064514355#32) st)) +
      Named.named (F := Ideal) (φ := .f32) κ "eps" 841731191#32) +
  Named.named (F := Ideal) (φ := .f32) κ "tenth" 1036831949#32 * w

/-- A group's largest magnitude. -/
def amax (f : Fin 128 → EReal) : EReal := top fun r => FloatOps.absf (F := Ideal) (φ := .f32) (f r)

/-- A group's smallest magnitude that is no zero. -/
def amin (f : Fin 128 → EReal) : EReal :=
  bot fun r => if 0 < FloatOps.absf (F := Ideal) (φ := .f32) (f r) then FloatOps.absf (F := Ideal) (φ := .f32) (f r) else Ideal.ofBits FTy.f32 2139095040#32

/-- A group's scale. -/
def sVal (f : Fin 128 → EReal) : EReal := if 0 < amax f then amax f else 1

/-- The spread of a group's magnitudes. -/
def dVal (f : Fin 128 → EReal) : EReal :=
  Ideal.log (sVal f) - Ideal.log (if 0 < amax f then amin f else 1)

/-- A group's exponent. -/
def kVal (f : Fin 128 → EReal) : EReal :=
  if 0 < amax f then
    Ideal.div (Named.named (F := Ideal) (φ := .f32) κ "log_range" 1095073129#32) (max (dVal f) (Named.named (F := Ideal) (φ := .f32) κ "log_range_8" 1069907305#32))
  else 1

/-- A value's code under scale `s` and exponent `k`. -/
def cVal (x s k : EReal) : EReal :=
  sgn x * min (Ideal.ofBits FTy.f32 1138753536#32) (max 0
    (if x ≠ 0 then Ideal.ofBits FTy.f32 1138753536#32 *
      Ideal.exp (k * Ideal.log (Ideal.div (if x ≠ 0 then FloatOps.absf (F := Ideal) (φ := .f32) x else 1) s)) else 0))

/-- A group of rows of a lane. -/
def col (m : FVec Ideal S4x4096x2048 .f32) (b : Fin 4) (g : Fin 32) (l : Fin 2048) : Fin 128 → EReal :=
  fun r => m (ix3 b (rowIn g r) l)

theorem pay5_at (q : FVec Ideal S4x4096x2048 .fp8e4m3) (s k : FVec Ideal S4x32x2048 .f32) (G : FVec Ideal S4x4096x2048 .bf16)
    (b : Fin 4) (R : Fin 4096) (l : Fin 2048) :
    k0_pay5 (F := Ideal) (k0_pay2 q s k) G (ix3 b R l) = mVal (q (ix3 b R l)) (s (ix3 b (grpOf R) l)) (k (ix3 b (grpOf R) l)) (G (ix3 b R l)) := by
  unfold_payloads
  pointwise []
  rfl

theorem pay6_at (q : FVec Ideal S4x4096x2048 .fp8e4m3) (s k : FVec Ideal S4x32x2048 .f32) (G : FVec Ideal S4x4096x2048 .bf16)
    (b : Fin 4) (R : Fin 4096) (l : Fin 2048) :
    k0_pay6 (F := Ideal) (k0_pay3 q) s k G (ix3 b R l) = vVal (q (ix3 b R l)) (s (ix3 b (grpOf R) l)) (k (ix3 b (grpOf R) l)) (G (ix3 b R l)) := by
  unfold_payloads
  pointwise []
  rfl

theorem pay7_at (m v w : FVec Ideal S4x4096x2048 .f32) (st : FVec Ideal S1x1x1 .f32) (b : Fin 4) (R : Fin 4096) (l : Fin 2048) :
    k0_pay7 m v st w (ix3 b R l) = uVal (st (ix3 0 0 0)) (m (ix3 b R l)) (v (ix3 b R l)) (w (ix3 b R l)) := by
  unfold_payloads
  pointwise []
  rfl

theorem scale_read (x : FVec Ideal S4x32x2048 .f32) (b : Fin 4) (g : Fin 32) (l : Fin 2048) :
    select (cmpf .ogt x (broadcast S4x32x2048 (Scalar.ofBits .f32 0x00000000#32 : Ideal .f32))) x (broadcast S4x32x2048 (Scalar.ofBits .f32 0x3F800000#32 : Ideal .f32)) (ix3 b g l) = if 0 < x (ix3 b g l) then x (ix3 b g l) else 1 := by
  pointwise []

theorem spread_read (x z : FVec Ideal S4x32x2048 .f32) (b : Fin 4) (g : Fin 32) (l : Fin 2048) :
    subf (log (select (cmpf .ogt x (broadcast S4x32x2048 (Scalar.ofBits .f32 0x00000000#32 : Ideal .f32))) x (broadcast S4x32x2048 (Scalar.ofBits .f32 0x3F800000#32 : Ideal .f32)))) (log (select (cmpf .ogt x (broadcast S4x32x2048 (Scalar.ofBits .f32 0x00000000#32 : Ideal .f32))) z (broadcast S4x32x2048 (Scalar.ofBits .f32 0x3F800000#32 : Ideal .f32)))) (ix3 b g l) =
      Ideal.log (if 0 < x (ix3 b g l) then x (ix3 b g l) else 1) - Ideal.log (if 0 < x (ix3 b g l) then z (ix3 b g l) else 1) := by
  pointwise []

theorem rate_read (x d : FVec Ideal S4x32x2048 .f32) (b : Fin 4) (g : Fin 32) (l : Fin 2048) :
    select (cmpf .ogt x (broadcast S4x32x2048 (Scalar.ofBits .f32 0x00000000#32 : Ideal .f32))) (divf (broadcast S4x32x2048 (Named.named κ "log_range" 0x41457D69#32 : Ideal .f32))
      (maximumf d (broadcast S4x32x2048 (Named.named κ "log_range_8" 0x3FC57D69#32 : Ideal .f32)))) (broadcast S4x32x2048 (Scalar.ofBits .f32 0x3F800000#32 : Ideal .f32)) (ix3 b g l) =
    if 0 < x (ix3 b g l) then
      Ideal.div (Named.named (F := Ideal) (φ := .f32) κ "log_range" 1095073129#32) (max (d (ix3 b g l)) (Named.named (F := Ideal) (φ := .f32) κ "log_range_8" 1069907305#32))
    else 1 := by
  pointwise []

theorem k0_pay9_at (m : FVec Ideal S4x4096x2048 .f32) (b : Fin 4) (g : Fin 32) (r : Fin 128) (l : Fin 2048) :
    k0_pay9 m (ix4 b g r l) = FloatOps.absf (F := Ideal) (φ := .f32) (m (ix3 b (rowIn g r) l)) := by
  unfold k0_pay9 k0_pay8
  pointwise []
  congr 2
  blk_ext [rowIn]

theorem k0_pay10_at (m : FVec Ideal S4x4096x2048 .f32) (b : Fin 4) (g : Fin 32) (l : Fin 2048) :
    k0_pay10 m (ix3 b g l) = amax (col m b g l) := by
  unfold k0_pay10
  exact (reduce_max _ b g l).trans (congrArg top (funext fun r => k0_pay9_at m b g r l))

theorem k0_pay12_at (m : FVec Ideal S4x4096x2048 .f32) (b : Fin 4) (g : Fin 32) (l : Fin 2048) :
    k0_pay12 m (ix3 b g l) = sVal (col m b g l) := by
  refine (scale_read (k0_pay10 m) b g l).trans ?_
  unfold sVal
  rw [k0_pay10_at]

/-- The group's magnitudes, a zero replaced by infinity. -/
def k0_pay9_pos (m : FVec Ideal S4x4096x2048 .f32) : FVec Ideal S4x32x128x2048 .f32 :=
  select (cmpf .ogt (k0_pay9 m) (broadcast S4x32x128x2048 (Scalar.ofBits .f32 0x00000000#32))) (k0_pay9 m) (broadcast S4x32x128x2048 (Scalar.ofBits .f32 0x7F800000#32))

theorem k0_pay9_pos_at (m : FVec Ideal S4x4096x2048 .f32) (b : Fin 4) (g : Fin 32) (r : Fin 128) (l : Fin 2048) :
    k0_pay9_pos m (ix4 b g r l) = if 0 < k0_pay9 m (ix4 b g r l) then k0_pay9 m (ix4 b g r l) else Ideal.ofBits FTy.f32 2139095040#32 := by
  unfold k0_pay9_pos
  generalize k0_pay9 m = x
  pointwise []

/-- The smallest of them. -/
def k0_pay9_low (m : FVec Ideal S4x4096x2048 .f32) : FVec Ideal S4x32x2048 .f32 :=
  multiReduction .minimumf [2] S4x32x2048 (k0_pay9_pos m) 0x7F800000#32 reduces_S4x32x128x2048_S4x32x2048 (.inl rfl) rfl

theorem k0_pay9_low_at (m : FVec Ideal S4x4096x2048 .f32) (b : Fin 4) (g : Fin 32) (l : Fin 2048) :
    k0_pay9_low m (ix3 b g l) = amin (col m b g l) :=
  (reduce_min (k0_pay9_pos m) b g l).trans (congrArg bot (funext fun r => (k0_pay9_pos_at m b g r l).trans (by rw [k0_pay9_at]; rfl)))

theorem k0_pay17_at (m : FVec Ideal S4x4096x2048 .f32) (b : Fin 4) (g : Fin 32) (r : Fin 128) (l : Fin 2048) :
    k0_pay17 m (ix4 b g r l) = FloatOps.absf (F := Ideal) (φ := .f32) (m (ix3 b (rowIn g r) l)) := by
  unfold k0_pay17 k0_pay16
  pointwise []
  congr 2
  blk_ext [rowIn]

theorem k0_pay18_at (m : FVec Ideal S4x4096x2048 .f32) (b : Fin 4) (g : Fin 32) (l : Fin 2048) :
    k0_pay18 m (ix3 b g l) = amax (col m b g l) := by
  unfold k0_pay18
  exact (reduce_max _ b g l).trans (congrArg top (funext fun r => k0_pay17_at m b g r l))

theorem k0_pay20_at (m : FVec Ideal S4x4096x2048 .f32) (b : Fin 4) (g : Fin 32) (l : Fin 2048) :
    k0_pay20 m (ix3 b g l) = sVal (col m b g l) := by
  refine (scale_read (k0_pay18 m) b g l).trans ?_
  unfold sVal
  rw [k0_pay18_at]

/-- The group's magnitudes, a zero replaced by infinity. -/
def k0_pay17_pos (m : FVec Ideal S4x4096x2048 .f32) : FVec Ideal S4x32x128x2048 .f32 :=
  select (cmpf .ogt (k0_pay17 m) (broadcast S4x32x128x2048 (Scalar.ofBits .f32 0x00000000#32))) (k0_pay17 m) (broadcast S4x32x128x2048 (Scalar.ofBits .f32 0x7F800000#32))

theorem k0_pay17_pos_at (m : FVec Ideal S4x4096x2048 .f32) (b : Fin 4) (g : Fin 32) (r : Fin 128) (l : Fin 2048) :
    k0_pay17_pos m (ix4 b g r l) = if 0 < k0_pay17 m (ix4 b g r l) then k0_pay17 m (ix4 b g r l) else Ideal.ofBits FTy.f32 2139095040#32 := by
  unfold k0_pay17_pos
  generalize k0_pay17 m = x
  pointwise []

/-- The smallest of them. -/
def k0_pay17_low (m : FVec Ideal S4x4096x2048 .f32) : FVec Ideal S4x32x2048 .f32 :=
  multiReduction .minimumf [2] S4x32x2048 (k0_pay17_pos m) 0x7F800000#32 reduces_S4x32x128x2048_S4x32x2048 (.inl rfl) rfl

theorem k0_pay17_low_at (m : FVec Ideal S4x4096x2048 .f32) (b : Fin 4) (g : Fin 32) (l : Fin 2048) :
    k0_pay17_low m (ix3 b g l) = amin (col m b g l) :=
  (reduce_min (k0_pay17_pos m) b g l).trans (congrArg bot (funext fun r => (k0_pay17_pos_at m b g r l).trans (by rw [k0_pay17_at]; rfl)))

theorem k0_pay14_at (m : FVec Ideal S4x4096x2048 .f32) (b : Fin 4) (g : Fin 32) (l : Fin 2048) :
    k0_pay14 (k0_pay11 m) (k0_pay13 m) (Named.named κ "log_range_8" 0x3FC57D69#32) (ix3 b g l) = kVal (col m b g l) := by
  refine (rate_read (k0_pay10 m) (subf (log (select (cmpf .ogt (k0_pay10 m) (broadcast S4x32x2048 (Scalar.ofBits .f32 0x00000000#32 : Ideal .f32))) (k0_pay10 m) (broadcast S4x32x2048 (Scalar.ofBits .f32 0x3F800000#32 : Ideal .f32)))) (log (select (cmpf .ogt (k0_pay10 m) (broadcast S4x32x2048 (Scalar.ofBits .f32 0x00000000#32 : Ideal .f32))) (k0_pay9_low m) (broadcast S4x32x2048 (Scalar.ofBits .f32 0x3F800000#32 : Ideal .f32))))) b g l).trans ?_
  rw [spread_read, k0_pay10_at, k0_pay9_low_at]
  rfl

theorem k0_pay21_at (m : FVec Ideal S4x4096x2048 .f32) (b : Fin 4) (g : Fin 32) (l : Fin 2048) :
    k0_pay21 m (ix3 b g l) = kVal (col m b g l) := by
  refine (rate_read (k0_pay18 m) (subf (log (select (cmpf .ogt (k0_pay18 m) (broadcast S4x32x2048 (Scalar.ofBits .f32 0x00000000#32 : Ideal .f32))) (k0_pay18 m) (broadcast S4x32x2048 (Scalar.ofBits .f32 0x3F800000#32 : Ideal .f32)))) (log (select (cmpf .ogt (k0_pay18 m) (broadcast S4x32x2048 (Scalar.ofBits .f32 0x00000000#32 : Ideal .f32))) (k0_pay17_low m) (broadcast S4x32x2048 (Scalar.ofBits .f32 0x3F800000#32 : Ideal .f32))))) b g l).trans ?_
  rw [spread_read, k0_pay18_at, k0_pay17_low_at]
  rfl

/-- A row's place in its group. -/
def offIn (R : Fin 4096) : Fin 128 := ⟨R.val % 128, by omega⟩

/-- The reference's code, of a value, its magnitude, the group's scale and exponent. -/
def cVal' (x a s k : EReal) : EReal :=
  sgn x * min (Ideal.ofBits FTy.f32 1138753536#32) (max 0
    (if x ≠ 0 then Ideal.ofBits FTy.f32 1138753536#32 *
      Ideal.exp (k * Ideal.log (Ideal.div (if x ≠ 0 then a else 1) s)) else 0))

theorem code15 (x a : FVec Ideal S4x32x128x2048 .f32) (n : IVec S4x32x2048 1) (s d : FVec Ideal S4x32x2048 .f32) (c : Ideal .f32) (b : Fin 4) (R : Fin 4096) (l : Fin 2048) :
    k0_pay15 x a n s d c (ix3 b R l) =
      cVal' (x (ix4 b (grpOf R) (offIn R) l)) (a (ix4 b (grpOf R) (offIn R) l)) (s (ix3 b (grpOf R) l)) (k0_pay14 n d c (ix3 b (grpOf R) l)) := by
  unfold k0_pay15
  generalize k0_pay14 n d c = k
  pointwise []
  rfl

theorem code1 (x y z : FVec Ideal S4x32x128x2048 .f32) (b : Fin 4) (R : Fin 4096) (l : Fin 2048) :
    k0_pay1 x y z (ix3 b R l) =
      (if 0 < FloatOps.absf (F := Ideal) (φ := .f32) (x (ix4 b (grpOf R) (offIn R) l)) then z (ix4 b (grpOf R) (offIn R) l) else x (ix4 b (grpOf R) (offIn R) l)) *
        min (Ideal.ofBits FTy.f32 1138753536#32) (max 0 (y (ix4 b (grpOf R) (offIn R) l))) := by
  unfold k0_pay1
  pointwise []
  rfl

theorem code23 (x : FVec Ideal S4x32x128x2048 .f32) (b : Fin 4) (g : Fin 32) (r : Fin 128) (l : Fin 2048) :
    select (cmpf .olt x (constant S4x32x128x2048 .f32 0x00000000#32)) (constant S4x32x128x2048 .f32 0xBF800000#32) (constant S4x32x128x2048 .f32 0x3F800000#32) (ix4 b g r l) =
      if x (ix4 b g r l) < 0 then Ideal.ofBits FTy.f32 3212836864#32 else 1 := by
  pointwise []

/-- A magnitude's code before it is cut off, as an array. -/
def magArr (x a : FVec Ideal S4x32x128x2048 .f32) (s k : FVec Ideal S4x32x2048 .f32) : FVec Ideal S4x32x128x2048 .f32 :=
  select (cmpf .one x (broadcast S4x32x128x2048 (Scalar.ofBits .f32 0x00000000#32 : Ideal .f32)))
    (mulf (broadcast S4x32x128x2048 (Scalar.ofBits .f32 0x43E00000#32 : Ideal .f32))
      (exp (mulf (broadcastTo S4x32x128x2048 (shapeCast S4x32x1x2048 k shapeCasts_S4x32x2048_S4x32x1x2048) broadcasts_S4x32x1x2048_S4x32x128x2048)
        (log (divf (select (cmpf .one x (broadcast S4x32x128x2048 (Scalar.ofBits .f32 0x00000000#32 : Ideal .f32))) a
            (broadcast S4x32x128x2048 (Scalar.ofBits .f32 0x3F800000#32 : Ideal .f32)))
          (broadcastTo S4x32x128x2048 (shapeCast S4x32x1x2048 s shapeCasts_S4x32x2048_S4x32x1x2048) broadcasts_S4x32x1x2048_S4x32x128x2048))))))
    (broadcast S4x32x128x2048 (Scalar.ofBits .f32 0x00000000#32 : Ideal .f32))

theorem magArr_at (x a : FVec Ideal S4x32x128x2048 .f32) (s k : FVec Ideal S4x32x2048 .f32) (b : Fin 4) (g : Fin 32) (r : Fin 128) (l : Fin 2048) :
    magArr x a s k (ix4 b g r l) = if x (ix4 b g r l) ≠ 0 then Ideal.ofBits FTy.f32 1138753536#32 *
      Ideal.exp (k (ix3 b g l) * Ideal.log (Ideal.div (if x (ix4 b g r l) ≠ 0 then a (ix4 b g r l) else 1) (s (ix3 b g l)))) else 0 := by
  unfold magArr
  pointwise []

theorem row_eq (R : Fin 4096) : rowIn (grpOf R) (offIn R) = R :=
  Fin.ext (show 128 * (R.val / 128) + R.val % 128 = R.val by omega)

theorem k0_pay8_at (m : FVec Ideal S4x4096x2048 .f32) (b : Fin 4) (g : Fin 32) (r : Fin 128) (l : Fin 2048) :
    k0_pay8 m (ix4 b g r l) = m (ix3 b (rowIn g r) l) := by
  unfold k0_pay8
  pointwise []
  blk_ext [rowIn]

theorem k0_pay16_at (m : FVec Ideal S4x4096x2048 .f32) (b : Fin 4) (g : Fin 32) (r : Fin 128) (l : Fin 2048) :
    k0_pay16 m (ix4 b g r l) = m (ix3 b (rowIn g r) l) := by
  unfold k0_pay16
  pointwise []
  blk_ext [rowIn]

theorem k0_pay15_at (m : FVec Ideal S4x4096x2048 .f32) (b : Fin 4) (R : Fin 4096) (l : Fin 2048) :
    k0_pay15 (k0_pay8 m) (k0_pay9 m) (k0_pay11 m) (k0_pay12 m) (k0_pay13 m) (Named.named κ "log_range_8" 0x3FC57D69#32) (ix3 b R l) =
      cVal (m (ix3 b R l)) (sVal (col m b (grpOf R) l)) (kVal (col m b (grpOf R) l)) := by
  rw [code15, k0_pay8_at, k0_pay9_at, k0_pay12_at, k0_pay14_at, row_eq]
  rfl

theorem k0_pay1_at (m : FVec Ideal S4x4096x2048 .f32) (b : Fin 4) (R : Fin 4096) (l : Fin 2048) :
    k0_pay1 (k0_pay16 m) (k0_pay22 m) (k0_pay23 m) (ix3 b R l) =
      cVal (m (ix3 b R l)) (sVal (col m b (grpOf R) l)) (kVal (col m b (grpOf R) l)) := by
  have h22 := magArr_at (k0_pay16 m) (k0_pay17 m) (k0_pay20 m) (k0_pay21 m) b (grpOf R) (offIn R) l
  have h23 := code23 (k0_pay16 m) b (grpOf R) (offIn R) l
  rw [k0_pay16_at, k0_pay17_at, k0_pay20_at, k0_pay21_at, row_eq] at h22
  rw [k0_pay16_at, row_eq] at h23
  have e22 : k0_pay22 m = magArr (k0_pay16 m) (k0_pay17 m) (k0_pay20 m) (k0_pay21 m) := rfl
  rw [code1, e22, h22, k0_pay16_at, row_eq]
  refine (congrArg (fun z => (if 0 < FloatOps.absf (F := Ideal) (φ := .f32) (m (ix3 b R l)) then z else m (ix3 b R l)) * _) (h23 : k0_pay23 m (ix4 b (grpOf R) (offIn R) l) = _)).trans ?_
  rfl

end Cert.Proof.ReferenceValue

end
-- ==== Proof.RefFinal.lean ====
/- The reference's result arrays. -/
module

public import proofs.«01_k».proof.Proof.RefRead
public import Idealize.ShloMosaic.Lib.Claim

@[expose] public section

set_option maxRecDepth 16384
set_option maxHeartbeats 4000000

noncomputable section

namespace Cert.Proof.ReferenceValue

open Cert.ReferenceIdeal Cert.ReferenceIdeal.Gen
open Idealize.ShloMosaic Idealize.ShloMosaic.TcCoe Idealize.ShloMosaic.Tactic
open Idealize.ShloMosaic.Pointwise

/-- The arrays a step is given. -/
structure Args where
  st : EReal
  w : FVec Ideal S4x4096x2048 .f32
  g : FVec Ideal S4x4096x2048 .bf16
  mc : FVec Ideal S4x4096x2048 .fp8e4m3
  ms : FVec Ideal S4x32x2048 .f32
  mr : FVec Ideal S4x32x2048 .f32
  vc : FVec Ideal S4x4096x2048 .fp8e4m3
  vs : FVec Ideal S4x32x2048 .f32
  vr : FVec Ideal S4x32x2048 .f32

/-- The new first moment. -/
def Args.m (A : Args) : FVec Ideal S4x4096x2048 .f32 := k0_pay5 (F := Ideal) (k0_pay2 A.mc A.ms A.mr) A.g

/-- The new second moment. -/
def Args.v (A : Args) : FVec Ideal S4x4096x2048 .f32 := k0_pay6 (F := Ideal) (k0_pay3 A.vc) A.vs A.vr A.g

theorem Args.m_at (A : Args) (b : Fin 4) (R : Fin 4096) (l : Fin 2048) :
    A.m (ix3 b R l) = mVal (A.mc (ix3 b R l)) (A.ms (ix3 b (grpOf R) l)) (A.mr (ix3 b (grpOf R) l)) (A.g (ix3 b R l)) :=
  pay5_at ..

theorem Args.v_at (A : Args) (b : Fin 4) (R : Fin 4096) (l : Fin 2048) :
    A.v (ix3 b R l) = vVal (A.vc (ix3 b R l)) (A.vs (ix3 b (grpOf R) l)) (A.vr (ix3 b (grpOf R) l)) (A.g (ix3 b R l)) :=
  pay6_at ..

/-- The update. -/
def Args.u (A : Args) : FVec Ideal S4x4096x2048 .f32 := fun y =>
  uVal A.st (A.m (ix3 (y 0) (y 1) (y 2))) (A.v (ix3 (y 0) (y 1) (y 2))) (A.w (ix3 (y 0) (y 1) (y 2)))

/-- A moment's new codes. -/
def codes (m : FVec Ideal S4x4096x2048 .f32) : FVec Ideal S4x4096x2048 .fp8e4m3 := fun y =>
  cVal (m (ix3 (y 0) (y 1) (y 2))) (sVal (col m (y 0) (grpOf (y 1)) (y 2))) (kVal (col m (y 0) (grpOf (y 1)) (y 2)))

/-- A moment's new scales. -/
def scales (m : FVec Ideal S4x4096x2048 .f32) : FVec Ideal S4x32x2048 .f32 := fun y => sVal (col m (y 0) (y 1) (y 2))

/-- A moment's new exponents. -/
def rates (m : FVec Ideal S4x4096x2048 .f32) : FVec Ideal S4x32x2048 .f32 := fun y => kVal (col m (y 0) (y 1) (y 2))

variable (m : (ℓ : Loc nD τ sig) → Buf (Elt Ideal) ℓ)

/-- The arrays the reference is given. -/
def args (c : Dev nD) : Args where
  st := sitofp (F := Ideal) (s := S_) .f32 (m ((c : Thread nD τ).loc main_arg8)) ix0
  w := m ((c : Thread nD τ).loc main_arg0)
  g := m ((c : Thread nD τ).loc main_arg1)
  mc := m ((c : Thread nD τ).loc main_arg2)
  ms := m ((c : Thread nD τ).loc main_arg3)
  mr := m ((c : Thread nD τ).loc main_arg4)
  vc := m ((c : Thread nD τ).loc main_arg5)
  vs := m ((c : Thread nD τ).loc main_arg6)
  vr := m ((c : Thread nD τ).loc main_arg7)

theorem idx : ∀ t : Fin cfg0.N, win0_0.index t = ![0, 0, 0] ∧ win0_1.index t = ![0, 0, 0] ∧ win0_2.index t = ![0, 0, 0] ∧
    win0_3.index t = ![0, 0, 0] ∧ win0_4.index t = ![0, 0, 0] ∧ win0_5.index t = ![0, 0, 0] ∧ win0_6.index t = ![0, 0, 0] ∧
    win0_7.index t = ![0, 0, 0] ∧ win0_8.index t = ![0, 0, 0] :=
  (by decide +kernel : ∀ t : Fin grid0.N, _)

theorem iblk0 (c : Dev nD) (t : Fin cfg0.N) : iblk m c 0 t = m ((c : Thread nD τ).loc main_arg0) := by
  blk_ext! [iblk, V, idx t]

theorem iblk1 (c : Dev nD) (t : Fin cfg0.N) : iblk m c 1 t = m ((c : Thread nD τ).loc main_arg1) := by
  blk_ext! [iblk, V, idx t]

theorem iblk3 (c : Dev nD) (t : Fin cfg0.N) : iblk m c 3 t = m ((c : Thread nD τ).loc main_arg3) := by
  blk_ext! [iblk, V, idx t]

theorem iblk4 (c : Dev nD) (t : Fin cfg0.N) : iblk m c 4 t = m ((c : Thread nD τ).loc main_arg4) := by
  blk_ext! [iblk, V, idx t]

theorem iblk6 (c : Dev nD) (t : Fin cfg0.N) : iblk m c 6 t = m ((c : Thread nD τ).loc main_arg6) := by
  blk_ext! [iblk, V, idx t]

theorem iblk7 (c : Dev nD) (t : Fin cfg0.N) : iblk m c 7 t = m ((c : Thread nD τ).loc main_arg7) := by
  blk_ext! [iblk, V, idx t]

theorem iblk2 (c : Dev nD) (t : Fin cfg0.N) : iblk m c 2 t = (args m c).mc := by
  funext y
  blk_simp [iblk, idx t]
  entry_read
  show m _ _ = m _ _
  blk_ext [idx t]

theorem iblk5 (c : Dev nD) (t : Fin cfg0.N) : iblk m c 5 t = (args m c).vc := by
  funext y
  blk_simp [iblk, idx t]
  entry_read
  show m _ _ = m _ _
  blk_ext [idx t]

theorem iblk8 (c : Dev nD) (t : Fin cfg0.N) : iblk m c 8 t = fun _ => (args m c).st := by
  funext y
  blk_simp [iblk, idx t]
  entry_read
  exact congrArg (sitofp (F := Ideal) (s := S_) .f32 (m ((c : Thread nD τ).loc main_arg8))) (Subsingleton.elim _ _)

theorem ld0 {e : EltTy} (x : Vec Ideal S4x4096x2048 e) : View.ld x r0_0 = x := View.ld_unit_lit _ x (by decide)

theorem canon0 {e : EltTy} (x : Vec Ideal S4x4096x2048 e) : View.canon (Val := Elt Ideal) (e := e) [⟨r0_0, x⟩] = x := View.canon_cons_unit_lit _ x [] (by decide)

theorem ld1 {e : EltTy} (x : Vec Ideal S4x32x2048 e) : View.ld x r0_1 = x := View.ld_unit_lit _ x (by decide)

theorem canon1 {e : EltTy} (x : Vec Ideal S4x32x2048 e) : View.canon (Val := Elt Ideal) (e := e) [⟨r0_1, x⟩] = x := View.canon_cons_unit_lit _ x [] (by decide)

theorem ld2 {e : EltTy} (x : Vec Ideal S1x1x1 e) : View.ld x r0_2 = x := View.ld_unit_lit _ x (by decide)

theorem canon2 {e : EltTy} (x : Vec Ideal S1x1x1 e) : View.canon (Val := Elt Ideal) (e := e) [⟨r0_2, x⟩] = x := View.canon_cons_unit_lit _ x [] (by decide)

theorem pay24_eq (x0 : FVec Ideal S4x4096x2048 .f32) (x1 : FVec Ideal S4x4096x2048 .bf16) (x2 : FVec Ideal S4x4096x2048 .fp8e4m3) (x3 x4 : FVec Ideal S4x32x2048 .f32) (x5 : FVec Ideal S4x4096x2048 .fp8e4m3) (x6 x7 : FVec Ideal S4x32x2048 .f32) (s : EReal) : k0_pay24 (F := Ideal) x0 x1 x2 x3 x4 x5 x6 x7 (fun _ => s) = (Args.mk s x0 x1 x2 x3 x4 x5 x6 x7).m := by
  unfold k0_pay24 Args.m
  simp only [ld0, ld1]

theorem pay25_eq (x0 : FVec Ideal S4x4096x2048 .f32) (x1 : FVec Ideal S4x4096x2048 .bf16) (x2 : FVec Ideal S4x4096x2048 .fp8e4m3) (x3 x4 : FVec Ideal S4x32x2048 .f32) (x5 : FVec Ideal S4x4096x2048 .fp8e4m3) (x6 x7 : FVec Ideal S4x32x2048 .f32) (s : EReal) : k0_pay25 (F := Ideal) x0 x1 x2 x3 x4 x5 x6 x7 (fun _ => s) = (Args.mk s x0 x1 x2 x3 x4 x5 x6 x7).v := by
  unfold k0_pay25 Args.v
  simp only [ld0, ld1]

theorem arr9 (A : Args) : k0_pay7 (F := Ideal) A.m A.v (fun _ => A.st) A.w = A.u :=
  funext fun y => (congrArg (k0_pay7 (F := Ideal) A.m A.v (fun _ => A.st) A.w) (eq_ix3 (n0 := 4) (n1 := 4096) (n2 := 2048) y)).trans (pay7_at _ _ _ _ (y 0) (y 1) (y 2))

theorem arr10 (m : FVec Ideal S4x4096x2048 .f32) : k0_pay15 (F := Ideal) (k0_pay8 m) (k0_pay9 m) (k0_pay11 m) (k0_pay12 m) (k0_pay13 m) (Named.named κ "log_range_8" 0x3FC57D69#32) = codes m :=
  funext fun y => (congrArg (k0_pay15 (F := Ideal) (k0_pay8 m) (k0_pay9 m) (k0_pay11 m) (k0_pay12 m) (k0_pay13 m) (Named.named κ "log_range_8" 0x3FC57D69#32)) (eq_ix3 (n0 := 4) (n1 := 4096) (n2 := 2048) y)).trans (k0_pay15_at m (y 0) (y 1) (y 2))

theorem arr11 (m : FVec Ideal S4x4096x2048 .f32) : k0_pay12 (F := Ideal) m = scales m :=
  funext fun y => (congrArg (k0_pay12 (F := Ideal) m) (eq_ix3 (n0 := 4) (n1 := 32) (n2 := 2048) y)).trans (k0_pay12_at m (y 0) (y 1) (y 2))

theorem arr12 (m : FVec Ideal S4x4096x2048 .f32) : k0_pay14 (F := Ideal) (k0_pay11 m) (k0_pay13 m) (Named.named κ "log_range_8" 0x3FC57D69#32) = rates m :=
  funext fun y => (congrArg (k0_pay14 (F := Ideal) (k0_pay11 m) (k0_pay13 m) (Named.named κ "log_range_8" 0x3FC57D69#32)) (eq_ix3 (n0 := 4) (n1 := 32) (n2 := 2048) y)).trans (k0_pay14_at m (y 0) (y 1) (y 2))

theorem arr13 (m : FVec Ideal S4x4096x2048 .f32) : k0_pay1 (F := Ideal) (k0_pay16 m) (k0_pay22 m) (k0_pay23 m) = codes m :=
  funext fun y => (congrArg (k0_pay1 (F := Ideal) (k0_pay16 m) (k0_pay22 m) (k0_pay23 m)) (eq_ix3 (n0 := 4) (n1 := 4096) (n2 := 2048) y)).trans (k0_pay1_at m (y 0) (y 1) (y 2))

theorem arr14 (m : FVec Ideal S4x4096x2048 .f32) : k0_pay20 (F := Ideal) m = scales m :=
  funext fun y => (congrArg (k0_pay20 (F := Ideal) m) (eq_ix3 (n0 := 4) (n1 := 32) (n2 := 2048) y)).trans (k0_pay20_at m (y 0) (y 1) (y 2))

theorem arr15 (m : FVec Ideal S4x4096x2048 .f32) : k0_pay21 (F := Ideal) m = rates m :=
  funext fun y => (congrArg (k0_pay21 (F := Ideal) m) (eq_ix3 (n0 := 4) (n1 := 32) (n2 := 2048) y)).trans (k0_pay21_at m (y 0) (y 1) (y 2))

theorem out9 (x0 : FVec Ideal S4x4096x2048 .f32) (x1 : FVec Ideal S4x4096x2048 .bf16) (x2 : FVec Ideal S4x4096x2048 .fp8e4m3) (x3 x4 : FVec Ideal S4x32x2048 .f32) (x5 : FVec Ideal S4x4096x2048 .fp8e4m3) (x6 x7 : FVec Ideal S4x32x2048 .f32) (s : EReal) : out0_9 (F := Ideal) x0 x1 x2 x3 x4 x5 x6 x7 (fun _ => s) = (Args.mk s x0 x1 x2 x3 x4 x5 x6 x7).u := by
  rw [← arr9]
  unfold out0_9
  skip
  rw [pay24_eq, pay25_eq, ld0, ld2]
  exact canon0 _

theorem final9 (c : Dev nD) : (dats m 0 c).arrAt 9 (cfgs 0).N = (args m c).u := by
  refine (dats m 0 c).arrAt_eq_of_after_last 9 t0_0 (by decide +kernel) _ fun y => ?_
  blk_simp
  rw [after0_9, iblk0, iblk1, iblk2, iblk3, iblk4, iblk5, iblk6, iblk7, iblk8]
  exact congrFun (out9 _ _ _ _ _ _ _ _ _) y

theorem out10 (x0 : FVec Ideal S4x4096x2048 .f32) (x1 : FVec Ideal S4x4096x2048 .bf16) (x2 : FVec Ideal S4x4096x2048 .fp8e4m3) (x3 x4 : FVec Ideal S4x32x2048 .f32) (x5 : FVec Ideal S4x4096x2048 .fp8e4m3) (x6 x7 : FVec Ideal S4x32x2048 .f32) (s : EReal) : out0_10 (F := Ideal) x0 x1 x2 x3 x4 x5 x6 x7 (fun _ => s) = codes (Args.mk s x0 x1 x2 x3 x4 x5 x6 x7).m := by
  rw [← arr10]
  unfold out0_10
  unfold k0_pay26 k0_pay27 k0_pay28
  rw [pay24_eq]
  exact canon0 _

theorem final10 (c : Dev nD) : (dats m 0 c).arrAt 10 (cfgs 0).N = codes (args m c).m := by
  refine (dats m 0 c).arrAt_eq_of_after_last 10 t0_0 (by decide +kernel) _ fun y => ?_
  blk_simp
  rw [after0_10, iblk0, iblk1, iblk2, iblk3, iblk4, iblk5, iblk6, iblk7, iblk8]
  exact congrFun (out10 _ _ _ _ _ _ _ _ _) y

theorem out11 (x0 : FVec Ideal S4x4096x2048 .f32) (x1 : FVec Ideal S4x4096x2048 .bf16) (x2 : FVec Ideal S4x4096x2048 .fp8e4m3) (x3 x4 : FVec Ideal S4x32x2048 .f32) (x5 : FVec Ideal S4x4096x2048 .fp8e4m3) (x6 x7 : FVec Ideal S4x32x2048 .f32) (s : EReal) : out0_11 (F := Ideal) x0 x1 x2 x3 x4 x5 x6 x7 (fun _ => s) = scales (Args.mk s x0 x1 x2 x3 x4 x5 x6 x7).m := by
  rw [← arr11]
  unfold out0_11
  unfold k0_pay27
  rw [pay24_eq]
  exact canon1 _

theorem final11 (c : Dev nD) : (dats m 0 c).arrAt 11 (cfgs 0).N = scales (args m c).m := by
  refine (dats m 0 c).arrAt_eq_of_after_last 11 t0_0 (by decide +kernel) _ fun y => ?_
  blk_simp
  rw [after0_11, iblk0, iblk1, iblk2, iblk3, iblk4, iblk5, iblk6, iblk7, iblk8]
  exact congrFun (out11 _ _ _ _ _ _ _ _ _) y

theorem out12 (x0 : FVec Ideal S4x4096x2048 .f32) (x1 : FVec Ideal S4x4096x2048 .bf16) (x2 : FVec Ideal S4x4096x2048 .fp8e4m3) (x3 x4 : FVec Ideal S4x32x2048 .f32) (x5 : FVec Ideal S4x4096x2048 .fp8e4m3) (x6 x7 : FVec Ideal S4x32x2048 .f32) (s : EReal) : out0_12 (F := Ideal) x0 x1 x2 x3 x4 x5 x6 x7 (fun _ => s) = rates (Args.mk s x0 x1 x2 x3 x4 x5 x6 x7).m := by
  rw [← arr12]
  unfold out0_12
  unfold k0_pay26 k0_pay28
  rw [pay24_eq]
  exact canon1 _

theorem final12 (c : Dev nD) : (dats m 0 c).arrAt 12 (cfgs 0).N = rates (args m c).m := by
  refine (dats m 0 c).arrAt_eq_of_after_last 12 t0_0 (by decide +kernel) _ fun y => ?_
  blk_simp
  rw [after0_12, iblk0, iblk1, iblk2, iblk3, iblk4, iblk5, iblk6, iblk7, iblk8]
  exact congrFun (out12 _ _ _ _ _ _ _ _ _) y

theorem out13 (x0 : FVec Ideal S4x4096x2048 .f32) (x1 : FVec Ideal S4x4096x2048 .bf16) (x2 : FVec Ideal S4x4096x2048 .fp8e4m3) (x3 x4 : FVec Ideal S4x32x2048 .f32) (x5 : FVec Ideal S4x4096x2048 .fp8e4m3) (x6 x7 : FVec Ideal S4x32x2048 .f32) (s : EReal) : out0_13 (F := Ideal) x0 x1 x2 x3 x4 x5 x6 x7 (fun _ => s) = codes (Args.mk s x0 x1 x2 x3 x4 x5 x6 x7).v := by
  rw [← arr13]
  unfold out0_13
  skip
  rw [pay25_eq]
  exact canon0 _

theorem final13 (c : Dev nD) : (dats m 0 c).arrAt 13 (cfgs 0).N = codes (args m c).v := by
  refine (dats m 0 c).arrAt_eq_of_after_last 13 t0_0 (by decide +kernel) _ fun y => ?_
  blk_simp
  rw [after0_13, iblk0, iblk1, iblk2, iblk3, iblk4, iblk5, iblk6, iblk7, iblk8]
  exact congrFun (out13 _ _ _ _ _ _ _ _ _) y

theorem out14 (x0 : FVec Ideal S4x4096x2048 .f32) (x1 : FVec Ideal S4x4096x2048 .bf16) (x2 : FVec Ideal S4x4096x2048 .fp8e4m3) (x3 x4 : FVec Ideal S4x32x2048 .f32) (x5 : FVec Ideal S4x4096x2048 .fp8e4m3) (x6 x7 : FVec Ideal S4x32x2048 .f32) (s : EReal) : out0_14 (F := Ideal) x0 x1 x2 x3 x4 x5 x6 x7 (fun _ => s) = scales (Args.mk s x0 x1 x2 x3 x4 x5 x6 x7).v := by
  rw [← arr14]
  unfold out0_14
  skip
  rw [pay25_eq]
  exact canon1 _

theorem final14 (c : Dev nD) : (dats m 0 c).arrAt 14 (cfgs 0).N = scales (args m c).v := by
  refine (dats m 0 c).arrAt_eq_of_after_last 14 t0_0 (by decide +kernel) _ fun y => ?_
  blk_simp
  rw [after0_14, iblk0, iblk1, iblk2, iblk3, iblk4, iblk5, iblk6, iblk7, iblk8]
  exact congrFun (out14 _ _ _ _ _ _ _ _ _) y

theorem out15 (x0 : FVec Ideal S4x4096x2048 .f32) (x1 : FVec Ideal S4x4096x2048 .bf16) (x2 : FVec Ideal S4x4096x2048 .fp8e4m3) (x3 x4 : FVec Ideal S4x32x2048 .f32) (x5 : FVec Ideal S4x4096x2048 .fp8e4m3) (x6 x7 : FVec Ideal S4x32x2048 .f32) (s : EReal) : out0_15 (F := Ideal) x0 x1 x2 x3 x4 x5 x6 x7 (fun _ => s) = rates (Args.mk s x0 x1 x2 x3 x4 x5 x6 x7).v := by
  rw [← arr15]
  unfold out0_15
  skip
  rw [pay25_eq]
  exact canon1 _

theorem final15 (c : Dev nD) : (dats m 0 c).arrAt 15 (cfgs 0).N = rates (args m c).v := by
  refine (dats m 0 c).arrAt_eq_of_after_last 15 t0_0 (by decide +kernel) _ fun y => ?_
  blk_simp
  rw [after0_15, iblk0, iblk1, iblk2, iblk3, iblk4, iblk5, iblk6, iblk7, iblk8]
  exact congrFun (out15 _ _ _ _ _ _ _ _ _) y

end Cert.Proof.ReferenceValue

end
-- ==== Proof.MathScalar.lean ====
/- The kernel's and the reference's scalar operations on real numbers. -/
module

public import proofs.«01_k».proof.Proof.ValueTrip1
public import proofs.«01_k».proof.Proof.RefFinal
public import Idealize.ShloMosaic.PureOps.IdealRules

@[expose] public section

set_option maxRecDepth 16384
set_option maxHeartbeats 4000000

noncomputable section

namespace Cert.Proof.KernelValue

open Idealize.ShloMosaic Idealize.ShloMosaic.TcCoe Idealize.ShloMosaic.Tactic
open Idealize.ShloMosaic.Pointwise

theorem k_ln2 : Named.named (F := Ideal) (φ := .f32) Cert.KernelIdeal.κ "ln2" 1060205080#32 = ((Real.log 2 : ℝ) : EReal) :=
  IdealRules.named_const.ideal_named_scalar _ _ _ _ rfl

theorem k_log2_fp8_max : Named.named (F := Ideal) (φ := .f32) Cert.KernelIdeal.κ "log2_fp8_max" 1091365613#32 = ((Real.log 448 * (Real.log 2)⁻¹ : ℝ) : EReal) :=
  IdealRules.named_const.ideal_named_scalar _ _ _ _ rfl

theorem k_tenth : Named.named (F := Ideal) (φ := .f32) Cert.KernelIdeal.κ "tenth" 1036831949#32 = ((1 / 10 : ℝ) : EReal) :=
  IdealRules.named_const.ideal_named_scalar _ _ _ _ rfl

theorem k_twentieth : Named.named (F := Ideal) (φ := .f32) Cert.KernelIdeal.κ "twentieth" 1028443341#32 = ((1 / 20 : ℝ) : EReal) :=
  IdealRules.named_const.ideal_named_scalar _ _ _ _ rfl

theorem k_log_range : Named.named (F := Ideal) (φ := .f32) Cert.KernelIdeal.κ "log_range" 1095073129#32 = ((Real.log 229376 : ℝ) : EReal) :=
  IdealRules.named_const.ideal_named_scalar _ _ _ _ rfl

theorem k_log_range_8 : Named.named (F := Ideal) (φ := .f32) Cert.KernelIdeal.κ "log_range_8" 1069907305#32 = ((Real.log 229376 * (1 / 8) : ℝ) : EReal) :=
  IdealRules.named_const.ideal_named_scalar _ _ _ _ rfl

theorem k_log2_beta1 : Named.named (F := Ideal) (φ := .f32) Cert.KernelIdeal.κ "log2_beta1" 3189483187#32 = ((Real.log (9 / 10) * (Real.log 2)⁻¹ : ℝ) : EReal) :=
  IdealRules.named_const.ideal_named_scalar _ _ _ _ rfl

theorem k_log2_beta2 : Named.named (F := Ideal) (φ := .f32) Cert.KernelIdeal.κ "log2_beta2" 3180826014#32 = ((Real.log (19 / 20) * (Real.log 2)⁻¹ : ℝ) : EReal) :=
  IdealRules.named_const.ideal_named_scalar _ _ _ _ rfl

theorem k_ten_eps : Named.named (F := Ideal) (φ := .f32) Cert.KernelIdeal.κ "ten_eps" 869711765#32 = ((1 / 10000000 : ℝ) : EReal) :=
  IdealRules.named_const.ideal_named_scalar _ _ _ _ rfl

theorem r_tenth : Named.named (F := Ideal) (φ := .f32) Cert.ReferenceIdeal.κ "tenth" 1036831949#32 = ((1 / 10 : ℝ) : EReal) :=
  IdealRules.named_const.ideal_named_scalar _ _ _ _ rfl

theorem r_twentieth : Named.named (F := Ideal) (φ := .f32) Cert.ReferenceIdeal.κ "twentieth" 1028443341#32 = ((1 / 20 : ℝ) : EReal) :=
  IdealRules.named_const.ideal_named_scalar _ _ _ _ rfl

theorem r_log_range : Named.named (F := Ideal) (φ := .f32) Cert.ReferenceIdeal.κ "log_range" 1095073129#32 = ((Real.log 229376 : ℝ) : EReal) :=
  IdealRules.named_const.ideal_named_scalar _ _ _ _ rfl

theorem r_log_range_8 : Named.named (F := Ideal) (φ := .f32) Cert.ReferenceIdeal.κ "log_range_8" 1069907305#32 = ((Real.log 229376 * (1 / 8) : ℝ) : EReal) :=
  IdealRules.named_const.ideal_named_scalar _ _ _ _ rfl

theorem r_beta1 : Named.named (F := Ideal) (φ := .f32) Cert.ReferenceIdeal.κ "beta1" 1063675494#32 = ((9 / 10 : ℝ) : EReal) :=
  IdealRules.named_const.ideal_named_scalar _ _ _ _ rfl

theorem r_beta2 : Named.named (F := Ideal) (φ := .f32) Cert.ReferenceIdeal.κ "beta2" 1064514355#32 = ((19 / 20 : ℝ) : EReal) :=
  IdealRules.named_const.ideal_named_scalar _ _ _ _ rfl

theorem r_eps : Named.named (F := Ideal) (φ := .f32) Cert.ReferenceIdeal.κ "eps" 841731191#32 = ((1 / 100000000 : ℝ) : EReal) :=
  IdealRules.named_const.ideal_named_scalar _ _ _ _ rfl

theorem bits_nine : Ideal.ofBits FTy.f32 1091567616#32 = ((9 : ℝ) : EReal) := by
  simp [Ideal.ofBits, Ideal.ieee, -EReal.coe_mul]; norm_num

theorem bits_nineteen : Ideal.ofBits FTy.f32 1100480512#32 = ((19 : ℝ) : EReal) := by
  simp [Ideal.ofBits, Ideal.ieee, -EReal.coe_mul]; norm_num

theorem bits_ten : Ideal.ofBits FTy.f32 1092616192#32 = ((10 : ℝ) : EReal) := by
  simp [Ideal.ofBits, Ideal.ieee, -EReal.coe_mul]; norm_num

theorem bits_twenty : Ideal.ofBits FTy.f32 1101004800#32 = ((20 : ℝ) : EReal) := by
  simp [Ideal.ofBits, Ideal.ieee, -EReal.coe_mul]; norm_num

theorem bits_half : Ideal.ofBits FTy.f32 1056964608#32 = ((1 / 2 : ℝ) : EReal) := by
  simp [Ideal.ofBits, Ideal.ieee, -EReal.coe_mul]; norm_num

theorem bits_448 : Ideal.ofBits FTy.f32 1138753536#32 = ((448 : ℝ) : EReal) := by
  simp [Ideal.ofBits, Ideal.ieee, -EReal.coe_mul]; norm_num

theorem bits_neg1 : Ideal.ofBits FTy.f32 3212836864#32 = ((-1 : ℝ) : EReal) := by
  simp [Ideal.ofBits, Ideal.ieee, -EReal.coe_mul]; norm_num

theorem bits_top : Ideal.ofBits FTy.f32 2139095040#32 = ⊤ := by
  simp [Ideal.ofBits, Ideal.ieee]

theorem bits_bot : Ideal.ofBits FTy.f32 4286578688#32 = ⊥ := by
  simp [Ideal.ofBits, Ideal.ieee]

theorem log2_pos : 0 < Real.log 2 := Real.log_pos (by norm_num)

theorem abs_coe (x : ℝ) : FloatOps.absf (F := Ideal) (φ := .f32) (x : EReal) = ((|x| : ℝ) : EReal) := by
  show max (x : EReal) (-(x : EReal)) = _
  rw [← EReal.coe_neg]; exact (EReal.coe_strictMono.monotone.map_max (a := x) (b := -x)).symm

theorem exp2_coe (r : ℝ) : FloatOps.exp2 (F := Ideal) (φ := .f32) (r : EReal) = ((Real.exp (r * Real.log 2) : ℝ) : EReal) := by
  show ((Real.rpow 2 r : ℝ) : EReal) = _
  rw [show Real.rpow 2 r = (2 : ℝ) ^ r from rfl, Real.rpow_def_of_pos (by norm_num), mul_comm]

theorem exp2_bot : FloatOps.exp2 (F := Ideal) (φ := .f32) (⊥ : EReal) = ((0 : ℝ) : EReal) := rfl

theorem log_pos_coe {x : ℝ} (h : 0 < x) : Ideal.log (x : EReal) = ((Real.log x : ℝ) : EReal) := by
  rw [Ideal.log_coe, if_neg (not_le.mpr h)]

theorem log_zero_coe : Ideal.log ((0 : ℝ) : EReal) = ⊥ := by
  rw [Ideal.log_coe, if_pos le_rfl]

theorem div_coe_coe {y : ℝ} (h : y ≠ 0) (x : ℝ) : Ideal.div (x : EReal) (y : EReal) = ((x / y : ℝ) : EReal) := by
  rw [Ideal.div_coe h, ← EReal.coe_mul]; congr 1; ring

theorem lg2_coe {x : ℝ} (h : 0 < x) : lg2 (x : EReal) = ((Real.log x / Real.log 2 : ℝ) : EReal) := by
  unfold lg2
  rw [k_ln2, log_pos_coe h, div_coe_coe log2_pos.ne']

theorem lg2_zero : lg2 ((0 : ℝ) : EReal) = ⊥ := by
  unfold lg2
  rw [k_ln2, log_zero_coe, Ideal.div_coe log2_pos.ne', EReal.bot_mul_coe_of_pos (by have := log2_pos; positivity)]

theorem sgnOf_coe (p q : ℝ) : sgnOf (p : EReal) (q : EReal) = (((if q < 0 then -|p| else |p|) : ℝ) : EReal) := by
  unfold sgnOf
  rw [abs_coe]
  by_cases hq : q < 0
  · rw [if_pos hq, if_pos (by exact_mod_cast hq), zero_sub, EReal.coe_neg]
  · rw [if_neg hq, if_neg (by exact_mod_cast hq)]

theorem sgn_coe (q : ℝ) (h : q ≠ 0) : ReferenceValue.sgn (q : EReal) = (((if q < 0 then -1 else 1) : ℝ) : EReal) := by
  unfold ReferenceValue.sgn
  rw [abs_coe, if_pos (by exact_mod_cast abs_pos.mpr h), bits_neg1]
  by_cases hq : q < 0
  · rw [if_pos hq, if_pos (by exact_mod_cast hq)]
  · rw [if_neg hq, if_neg (by exact_mod_cast hq), EReal.coe_one]

/-- What a code stands for. -/
def deqR (q s k : ℝ) : ℝ :=
  if q = 0 then 0 else (if q < 0 then -1 else 1) * s * Real.exp (Real.log (|q| / 448) / k)

theorem deqR_nonneg {q s k : ℝ} (hq : 0 ≤ q) (hs : 0 ≤ s) : 0 ≤ deqR q s k := by
  unfold deqR
  split
  · exact le_rfl
  · rw [if_neg (not_lt.mpr hq), one_mul]; positivity

theorem ref_deq (q s k : ℝ) (hk : 0 < k) : ReferenceValue.deq (q : EReal) (s : EReal) (k : EReal) = ((deqR q s k : ℝ) : EReal) := by
  unfold ReferenceValue.deq deqR
  by_cases hq : q = 0
  · subst hq
    rw [if_pos rfl, if_neg (by simp)]; rfl
  · have hq' : (q : EReal) ≠ 0 := by exact_mod_cast hq
    rw [if_pos hq', if_pos hq', if_neg hq, sgn_coe q hq, abs_coe, bits_448, div_coe_coe (by norm_num),
      log_pos_coe (by have := abs_pos.mpr hq; positivity), div_coe_coe hk.ne', Ideal.exp_coe, ← EReal.coe_mul, ← EReal.coe_mul]

theorem ker_deq (c q s k : ℝ) (hc : 0 < c) (hs : 0 ≤ s) (hk : 0 < k) :
    deq (Ideal.div 1 (k : EReal)) (lg2 ((c : EReal) * (s : EReal)) - Ideal.div 1 (k : EReal) *
      Named.named (F := Ideal) (φ := .f32) Cert.KernelIdeal.κ "log2_fp8_max" 1091365613#32) (q : EReal) = ((c * deqR q s k : ℝ) : EReal) := by
  have l2 := log2_pos
  unfold deq deqR
  rw [k_log2_fp8_max, ← EReal.coe_one, div_coe_coe hk.ne', abs_coe, ← EReal.coe_mul, ← EReal.coe_mul]
  by_cases hq : q = 0
  · subst hq
    have hb : lg2 ((|(0 : ℝ)| : ℝ) : EReal) * ((1 / k : ℝ) : EReal) = ⊥ := by
      rw [abs_zero, lg2_zero, EReal.bot_mul_coe_of_pos (by positivity)]
    rw [hb, EReal.bot_add, exp2_bot, sgnOf_coe]
    simp
  · have ha := abs_pos.mpr hq
    rw [if_neg hq, lg2_coe ha]
    rcases hs.eq_or_lt with h0 | h0
    · subst h0
      rw [mul_zero, lg2_zero, EReal.bot_sub, EReal.add_bot, exp2_bot, sgnOf_coe]
      simp
    · rw [lg2_coe (mul_pos hc h0), ← EReal.coe_sub, ← EReal.coe_mul, ← EReal.coe_add, exp2_coe, sgnOf_coe]
      congr 1
      have he : (Real.log |q| / Real.log 2 * (1 / k) + (Real.log (c * s) / Real.log 2 - 1 / k * (Real.log 448 * (Real.log 2)⁻¹))) * Real.log 2
          = Real.log (c * s) + Real.log (|q| / 448) / k := by
        rw [Real.log_div ha.ne' (by norm_num)]
        field_simp
        ring
      rw [he, Real.exp_add, Real.exp_log (mul_pos hc h0), abs_of_nonneg (by positivity)]
      split <;> ring

end Cert.Proof.KernelValue

end
-- ==== Proof.MathGroup.lean ====
/- The moments, the statistics of a group, its rate, scale and codes: the kernel's and the reference's forms on real numbers. -/
module

public import proofs.«01_k».proof.Proof.MathScalar

@[expose] public section

set_option maxRecDepth 16384
set_option maxHeartbeats 4000000

noncomputable section

namespace Cert.Proof.KernelValue

open Idealize.ShloMosaic Idealize.ShloMosaic.TcCoe Idealize.ShloMosaic.Tactic
open Idealize.ShloMosaic.Pointwise

open ReferenceValue (top bot amax amin sVal dVal kVal cVal mVal vVal uVal)

theorem coe_max (a b : ℝ) : max (a : EReal) (b : EReal) = ((max a b : ℝ) : EReal) :=
  (EReal.coe_strictMono.monotone.map_max (a := a) (b := b)).symm

theorem coe_min (a b : ℝ) : min (a : EReal) (b : EReal) = ((min a b : ℝ) : EReal) :=
  (EReal.coe_strictMono.monotone.map_min (a := a) (b := b)).symm

/-- The new first moment. -/
def mR (q s k g : ℝ) : ℝ := 9 / 10 * deqR q s k + 1 / 10 * g

/-- The new second moment. -/
def vR (q s k g : ℝ) : ℝ := 19 / 20 * deqR q s k + 1 / 20 * g * g

theorem vR_nonneg {q s k : ℝ} (g : ℝ) (hq : 0 ≤ q) (hs : 0 ≤ s) : 0 ≤ vR q s k g := by
  have := deqR_nonneg (k := k) hq hs
  have := mul_self_nonneg g
  unfold vR
  nlinarith

theorem mVal_coe (q s k g : ℝ) (hk : 0 < k) : mVal (q : EReal) (s : EReal) (k : EReal) (g : EReal) = ((mR q s k g : ℝ) : EReal) := by
  unfold mVal mR
  rw [ref_deq q s k hk, r_beta1, r_tenth, ← EReal.coe_mul, ← EReal.coe_mul, ← EReal.coe_add]

theorem vVal_coe (q s k g : ℝ) (hk : 0 < k) : vVal (q : EReal) (s : EReal) (k : EReal) (g : EReal) = ((vR q s k g : ℝ) : EReal) := by
  unfold vVal vR
  rw [ref_deq q s k hk, r_beta2, r_twentieth, ← EReal.coe_mul, ← EReal.coe_mul, ← EReal.coe_mul, ← EReal.coe_add]

theorem mNew_coe (q s k g : ℝ) (hs : 0 ≤ s) (hk : 0 < k) :
    mNew (Ideal.div 1 (k : EReal)) (lg2 (Ideal.ofBits .f32 1091567616#32 * (s : EReal)) - Ideal.div 1 (k : EReal) *
      Named.named (F := Ideal) (φ := .f32) Cert.KernelIdeal.κ "log2_fp8_max" 1091365613#32) (q : EReal) (g : EReal) = ((10 * mR q s k g : ℝ) : EReal) := by
  unfold mNew mR
  rw [bits_nine, ker_deq 9 q s k (by norm_num) hs hk, ← EReal.coe_add]
  congr 1
  ring

theorem vNew_coe (q s k g : ℝ) (hs : 0 ≤ s) (hk : 0 < k) :
    vNew (Ideal.div 1 (k : EReal)) (lg2 (Ideal.ofBits .f32 1100480512#32 * (s : EReal)) - Ideal.div 1 (k : EReal) *
      Named.named (F := Ideal) (φ := .f32) Cert.KernelIdeal.κ "log2_fp8_max" 1091365613#32) (q : EReal) (g : EReal) = ((20 * vR q s k g : ℝ) : EReal) := by
  unfold vNew vR
  rw [bits_nineteen, ker_deq 19 q s k (by norm_num) hs hk, ← EReal.coe_mul, ← EReal.coe_add]
  congr 1
  ring

/-- Row `r` of group `g` of a block. -/
def row128 (g : Fin 8) (r : Fin 128) : Fin 1024 := ⟨128 * g.val + r.val, by omega⟩

theorem tree8_max_le (f : Fin 8 → EReal) (z : EReal) : tree8 max f ≤ z ↔ ∀ t, f t ≤ z := by
  unfold tree8
  simp only [max_le_iff]
  constructor
  · rintro ⟨⟨⟨h0, h1⟩, h2, h3⟩, ⟨h4, h5⟩, h6, h7⟩ t
    fin_cases t
    exacts [h0, h1, h2, h3, h4, h5, h6, h7]
  · exact fun h => ⟨⟨⟨h _, h _⟩, h _, h _⟩, ⟨h _, h _⟩, h _, h _⟩

theorem acc4_max_le (f : Fin 4 → EReal) (z : EReal) : acc4 max f ≤ z ↔ ∀ t, f t ≤ z := by
  unfold acc4
  simp only [max_le_iff]
  constructor
  · rintro ⟨⟨⟨h0, h1⟩, h2⟩, h3⟩ t
    fin_cases t
    exacts [h0, h1, h2, h3]
  · exact fun h => ⟨⟨⟨h _, h _⟩, h _⟩, h _⟩

theorem fold4_max_le (f : Fin 4 → EReal) (z : EReal) : fold4 max f ≤ z ↔ ∀ t, f t ≤ z := by
  unfold fold4
  simp only [max_le_iff]
  constructor
  · rintro ⟨⟨h0, h1⟩, h2, h3⟩ t
    fin_cases t
    exacts [h0, h1, h2, h3]
  · exact fun h => ⟨⟨h _, h _⟩, h _, h _⟩

theorem le_tree8_min (f : Fin 8 → EReal) (z : EReal) : z ≤ tree8 min f ↔ ∀ t, z ≤ f t := by
  unfold tree8
  simp only [le_min_iff]
  constructor
  · rintro ⟨⟨⟨h0, h1⟩, h2, h3⟩, ⟨h4, h5⟩, h6, h7⟩ t
    fin_cases t
    exacts [h0, h1, h2, h3, h4, h5, h6, h7]
  · exact fun h => ⟨⟨⟨h _, h _⟩, h _, h _⟩, ⟨h _, h _⟩, h _, h _⟩

theorem le_acc4_min (f : Fin 4 → EReal) (z : EReal) : z ≤ acc4 min f ↔ ∀ t, z ≤ f t := by
  unfold acc4
  simp only [le_min_iff]
  constructor
  · rintro ⟨⟨⟨h0, h1⟩, h2⟩, h3⟩ t
    fin_cases t
    exacts [h0, h1, h2, h3]
  · exact fun h => ⟨⟨⟨h _, h _⟩, h _⟩, h _⟩

theorem le_fold4_min (f : Fin 4 → EReal) (z : EReal) : z ≤ fold4 min f ↔ ∀ t, z ≤ f t := by
  unfold fold4
  simp only [le_min_iff]
  constructor
  · rintro ⟨⟨h0, h1⟩, h2, h3⟩ t
    fin_cases t
    exacts [h0, h1, h2, h3]
  · exact fun h => ⟨⟨h _, h _⟩, h _, h _⟩

theorem rows_of (g : Fin 8) (r : Fin 128) : ∃ (t : Fin 8) (c i : Fin 4), rowOf g c (inChunk i t) = row128 g r := by
  refine ⟨⟨r.val % 8, by omega⟩, ⟨r.val / 32, by omega⟩, ⟨r.val / 8 % 4, by omega⟩, Fin.ext ?_⟩
  show 128 * g.val + 32 * (r.val / 32) + (8 * (r.val / 8 % 4) + r.val % 8) = 128 * g.val + r.val
  omega

theorem rows_to (g : Fin 8) (t : Fin 8) (c i : Fin 4) : ∃ r : Fin 128, rowOf g c (inChunk i t) = row128 g r := by
  refine ⟨⟨32 * c.val + (8 * i.val + t.val), by omega⟩, Fin.ext ?_⟩
  show 128 * g.val + 32 * c.val + (8 * i.val + t.val) = 128 * g.val + (32 * c.val + (8 * i.val + t.val))
  omega

/-- A group's largest entry, over its rows in any order. -/
theorem groupStat_max (a : Tab) (g : Fin 8) (l : Fin 512) : groupStat max a g l = top fun r => a (row128 g r) l := by
  refine eq_of_forall_ge_iff fun z => ?_
  unfold groupStat top tileStat
  rw [tree8_max_le, bits_bot, Finset.fold_max_le]
  simp only [acc4_max_le, fold4_max_le]
  constructor
  · refine fun h => ⟨bot_le, fun r _ => ?_⟩
    obtain ⟨t, c, i, e⟩ := rows_of g r
    rw [← e]
    exact h t c i
  · intro h t c i
    obtain ⟨r, e⟩ := rows_to g t c i
    rw [e]
    exact h.2 r (Finset.mem_univ _)

/-- A group's smallest entry, over its rows in any order. -/
theorem groupStat_min (a : Tab) (g : Fin 8) (l : Fin 512) : groupStat min a g l = bot fun r => a (row128 g r) l := by
  refine eq_of_forall_le_iff fun z => ?_
  unfold groupStat bot tileStat
  rw [le_tree8_min, bits_top, Finset.le_fold_min]
  simp only [le_acc4_min, le_fold4_min]
  constructor
  · refine fun h => ⟨le_top, fun r _ => ?_⟩
    obtain ⟨t, c, i, e⟩ := rows_of g r
    rw [← e]
    exact h t c i
  · intro h t c i
    obtain ⟨r, e⟩ := rows_to g t c i
    rw [e]
    exact h.2 r (Finset.mem_univ _)

theorem scale_mono {c : ℝ} (hc : 0 < c) : Monotone fun x : EReal => (c : EReal) * x :=
  fun x y h => mul_le_mul_of_nonneg_left h (by exact_mod_cast hc.le)

theorem top_scale {c : ℝ} (hc : 0 < c) (f : Fin 128 → EReal) : (top fun r => (c : EReal) * f r) = (c : EReal) * top f := by
  have h := Finset.fold_hom (s := (Finset.univ : Finset (Fin 128))) (op := max) (op' := max) (f := f) (b := (⊥ : EReal)) (m := fun x : EReal => (c : EReal) * x) fun x y => (scale_mono hc).map_max
  unfold top
  rw [bits_bot]
  rw [EReal.coe_mul_bot_of_pos hc] at h
  exact h

theorem bot_scale {c : ℝ} (hc : 0 < c) (f : Fin 128 → EReal) : (bot fun r => (c : EReal) * f r) = (c : EReal) * bot f := by
  have h := Finset.fold_hom (s := (Finset.univ : Finset (Fin 128))) (op := min) (op' := min) (f := f) (b := (⊤ : EReal)) (m := fun x : EReal => (c : EReal) * x) fun x y => (scale_mono hc).map_min
  unfold bot
  rw [bits_top]
  rw [EReal.coe_mul_top_of_pos hc] at h
  exact h

/-- A group's statistics are real numbers; the smallest is one where the group is not all zeros. -/
theorem stats_coe (f : Fin 128 → EReal) (x : Fin 128 → ℝ) (hx : ∀ r, f r = (x r : EReal)) :
    ∃ A B : ℝ, 0 ≤ A ∧ (∀ r, |x r| ≤ A) ∧ amax f = (A : EReal) ∧ (0 < A → 0 < B ∧ amin f = (B : EReal)) := by
  obtain ⟨r0, h0⟩ := Finite.exists_max fun r => |x r|
  obtain ⟨r1, h1⟩ := Finite.exists_min fun r => if 0 < |x r| then ((|x r| : ℝ) : EReal) else ⊤
  have hf : ∀ r, FloatOps.absf (F := Ideal) (φ := .f32) (f r) = ((|x r| : ℝ) : EReal) := fun r => by rw [hx, abs_coe]
  have hp : ∀ r, ((0 : EReal) < ((|x r| : ℝ) : EReal)) = (0 < |x r|) := fun r => by
    rw [← EReal.coe_zero, EReal.coe_lt_coe_iff]
  refine ⟨|x r0|, |x r1|, abs_nonneg _, h0, ?_, fun hA => ?_⟩
  · unfold amax top
    simp only [hf, bits_bot]
    refine le_antisymm (Finset.fold_max_le _ |>.mpr ⟨bot_le, fun r _ => EReal.coe_le_coe_iff.mpr (h0 r)⟩) ?_
    exact (Finset.le_fold_max _).mpr (.inr ⟨r0, Finset.mem_univ _, le_rfl⟩)
  · have h10 := h1 r0
    rw [if_pos hA] at h10
    by_cases h : 0 < |x r1|
    · refine ⟨h, ?_⟩
      unfold amin bot
      simp only [hf, bits_top, hp]
      refine le_antisymm ((Finset.fold_min_le _).mpr (.inr ⟨r1, Finset.mem_univ _, by rw [if_pos h]⟩)) ?_
      refine (Finset.le_fold_min _).mpr ⟨le_top, fun r _ => ?_⟩
      have := h1 r
      rwa [if_pos h] at this
    · rw [if_neg h] at h10
      exact absurd h10 (not_le.mpr (EReal.coe_lt_top _))

/-- The statistics of a table whose group is `c` times a group's values. -/
theorem stat_max {c : ℝ} (hc : 0 < c) (a : Tab) (g : Fin 8) (l : Fin 512) (f : Fin 128 → EReal) (x : Fin 128 → ℝ)
    (hx : ∀ r, f r = (x r : EReal)) (ha : ∀ r, a (row128 g r) l = ((c * x r : ℝ) : EReal)) :
    groupStat max (absTab a) g l = (c : EReal) * amax f := by
  unfold amax
  rw [groupStat_max, ← top_scale hc]
  congr 1
  funext r
  unfold absTab
  rw [ha, hx, abs_coe, abs_coe, abs_mul, abs_of_pos hc, EReal.coe_mul]

theorem stat_min {c : ℝ} (hc : 0 < c) (a : Tab) (g : Fin 8) (l : Fin 512) (f : Fin 128 → EReal) (x : Fin 128 → ℝ)
    (hx : ∀ r, f r = (x r : EReal)) (ha : ∀ r, a (row128 g r) l = ((c * x r : ℝ) : EReal)) :
    groupStat min (posTab (absTab a)) g l = (c : EReal) * amin f := by
  unfold amin
  rw [groupStat_min, ← bot_scale hc]
  congr 1
  funext r
  unfold posTab absTab
  rw [ha, hx, abs_coe, abs_coe, abs_mul, abs_of_pos hc, bits_top]
  by_cases h : 0 < |x r|
  · rw [if_pos (by exact_mod_cast mul_pos hc h), if_pos (by exact_mod_cast h), EReal.coe_mul]
  · have h' : |x r| = 0 := le_antisymm (not_lt.mp h) (abs_nonneg _)
    rw [h', mul_zero, if_neg (by simp), EReal.coe_mul_top_of_pos hc]

theorem absTab_nonneg (a : Tab) (g : Fin 8) (l : Fin 512) (x : Fin 128 → ℝ) {c : ℝ} (hc : 0 < c) (h0 : ∀ r, 0 ≤ x r)
    (ha : ∀ r, a (row128 g r) l = ((c * x r : ℝ) : EReal)) (r : Fin 128) : absTab a (row128 g r) l = a (row128 g r) l := by
  unfold absTab
  rw [ha, abs_coe, abs_of_nonneg (mul_nonneg hc.le (h0 r))]

theorem stat_max' {c : ℝ} (hc : 0 < c) (a : Tab) (g : Fin 8) (l : Fin 512) (f : Fin 128 → EReal) (x : Fin 128 → ℝ)
    (hx : ∀ r, f r = (x r : EReal)) (h0 : ∀ r, 0 ≤ x r) (ha : ∀ r, a (row128 g r) l = ((c * x r : ℝ) : EReal)) :
    groupStat max a g l = (c : EReal) * amax f := by
  rw [← stat_max hc a g l f x hx ha, groupStat_max, groupStat_max]
  congr 1
  funext r
  exact (absTab_nonneg a g l x hc h0 ha r).symm

theorem stat_min' {c : ℝ} (hc : 0 < c) (a : Tab) (g : Fin 8) (l : Fin 512) (f : Fin 128 → EReal) (x : Fin 128 → ℝ)
    (hx : ∀ r, f r = (x r : EReal)) (h0 : ∀ r, 0 ≤ x r) (ha : ∀ r, a (row128 g r) l = ((c * x r : ℝ) : EReal)) :
    groupStat min (posTab a) g l = (c : EReal) * amin f := by
  rw [← stat_min hc a g l f x hx ha, groupStat_min, groupStat_min]
  congr 1
  funext r
  unfold posTab
  rw [absTab_nonneg a g l x hc h0 ha r]

end Cert.Proof.KernelValue

end
-- ==== Proof.MathCode.lean ====
/- The rate, scale and codes of a group and the update: the kernel's and the reference's forms agree. -/
module

public import proofs.«01_k».proof.Proof.MathGroup

@[expose] public section

set_option maxRecDepth 16384
set_option maxHeartbeats 4000000

noncomputable section

namespace Cert.Proof.KernelValue

open Idealize.ShloMosaic Idealize.ShloMosaic.TcCoe Idealize.ShloMosaic.Tactic
open Idealize.ShloMosaic.Pointwise

open ReferenceValue (top bot amax amin sVal dVal kVal cVal mVal vVal uVal)

theorem range_pos : 0 < Real.log 229376 := Real.log_pos (by norm_num)

/-- A group's scale. -/
def sR (A : ℝ) : ℝ := if 0 < A then A else 1

/-- A group's exponent. -/
def kR (A B : ℝ) : ℝ := if 0 < A then Real.log 229376 / max (Real.log A - Real.log B) (Real.log 229376 * (1 / 8)) else 1

theorem sR_pos (A : ℝ) : 0 < sR A := by
  unfold sR
  split
  · assumption
  · exact one_pos

theorem spread_pos (x : ℝ) : 0 < max x (Real.log 229376 * (1 / 8)) :=
  lt_max_of_lt_right (by have := range_pos; positivity)

theorem kR_pos (A B : ℝ) : 0 < kR A B := by
  unfold kR
  split
  · exact div_pos range_pos (spread_pos _)
  · exact one_pos

theorem coe_pos_eq (A : ℝ) : ((0 : EReal) < (A : EReal)) = (0 < A) := by
  rw [← EReal.coe_zero, EReal.coe_lt_coe_iff]

theorem sVal_coe (f : Fin 128 → EReal) (A : ℝ) (h : amax f = (A : EReal)) : sVal f = ((sR A : ℝ) : EReal) := by
  unfold sVal sR
  rw [h]
  simp only [coe_pos_eq]
  split <;> rfl

theorem kVal_coe (f : Fin 128 → EReal) (A B : ℝ) (h : amax f = (A : EReal)) (hB : 0 < A → 0 < B ∧ amin f = (B : EReal)) :
    kVal f = ((kR A B : ℝ) : EReal) := by
  unfold kVal dVal kR
  rw [sVal_coe f A h, h]
  simp only [coe_pos_eq]
  by_cases hA : 0 < A
  · obtain ⟨h0, h1⟩ := hB hA
    rw [if_pos hA, if_pos hA, if_pos hA, h1, r_log_range, r_log_range_8, log_pos_coe (sR_pos A), log_pos_coe h0, ← EReal.coe_sub,
      coe_max, div_coe_coe (spread_pos _).ne', sR, if_pos hA]
  · rw [if_neg hA, if_neg hA, EReal.coe_one]

theorem rateOf_coe {c : ℝ} (hc : 0 < c) (A B : ℝ) (b : EReal) (hB : 0 < A → 0 < B ∧ b = ((c * B : ℝ) : EReal)) :
    rateOf ((c * A : ℝ) : EReal) b = ((kR A B : ℝ) : EReal) := by
  unfold rateOf orOne kR
  simp only [coe_pos_eq]
  by_cases hA : 0 < A
  · obtain ⟨h0, h1⟩ := hB hA
    have hcA := mul_pos hc hA
    rw [if_pos hcA, if_pos hcA, if_pos hcA, if_pos hA, h1, k_log_range, k_log_range_8, log_pos_coe hcA, log_pos_coe (mul_pos hc h0), ← EReal.coe_sub,
      coe_max, div_coe_coe (spread_pos _).ne', Real.log_mul hc.ne' hA.ne', Real.log_mul hc.ne' h0.ne', add_sub_add_left_eq_sub]
  · have hcA : ¬0 < c * A := fun h => hA ((mul_pos_iff_of_pos_left hc).mp h)
    rw [if_neg hcA, if_neg hA, EReal.coe_one]

theorem sclOf_coe {c d : ℝ} (hc : 0 < c) (hd : c * d = 1) (A : ℝ) : sclOf (d : EReal) ((c * A : ℝ) : EReal) = ((sR A : ℝ) : EReal) := by
  unfold sclOf orOne sR
  simp only [coe_pos_eq]
  by_cases hA : 0 < A
  · have hcA := mul_pos hc hA
    rw [if_pos hcA, if_pos hcA, if_pos hA, ← EReal.coe_mul]
    congr 1
    linear_combination A * hd
  · have hcA : ¬0 < c * A := fun h => hA ((mul_pos_iff_of_pos_left hc).mp h)
    rw [if_neg hcA, if_neg hA, EReal.coe_one]

theorem offOf_coe {c : ℝ} (hc : 0 < c) (A B : ℝ) (b : EReal) (hB : 0 < A → 0 < B ∧ b = ((c * B : ℝ) : EReal)) :
    offOf ((c * A : ℝ) : EReal) b =
      ((Real.log 448 * (Real.log 2)⁻¹ - kR A B * (Real.log (if 0 < A then c * A else 1) / Real.log 2) : ℝ) : EReal) := by
  unfold offOf orOne
  rw [rateOf_coe hc A B b hB, k_log2_fp8_max]
  simp only [coe_pos_eq]
  by_cases hA : 0 < A
  · have hcA := mul_pos hc hA
    rw [if_pos hcA, if_pos hA, lg2_coe hcA, ← EReal.coe_mul, ← EReal.coe_sub]
  · have hcA : ¬0 < c * A := fun h => hA ((mul_pos_iff_of_pos_left hc).mp h)
    rw [if_neg hcA, if_neg hA, ← EReal.coe_one, lg2_coe one_pos, ← EReal.coe_mul, ← EReal.coe_sub]

/-- The magnitude of a value's code. -/
def codeR (x s k : ℝ) : ℝ := if x = 0 then 0 else min 448 (448 * Real.exp (k * Real.log (|x| / s)))

theorem codeR_nonneg (x s k : ℝ) : 0 ≤ codeR x s k := by
  unfold codeR
  split
  · exact le_rfl
  · exact le_min (by norm_num) (by positivity)

theorem cVal_coe (x s k : ℝ) (hs : 0 < s) :
    cVal (x : EReal) (s : EReal) (k : EReal) = (((if x < 0 then -codeR x s k else codeR x s k) : ℝ) : EReal) := by
  unfold cVal
  by_cases hx : x = 0
  · subst hx
    have h0 : ReferenceValue.sgn ((0 : ℝ) : EReal) = 0 := by
      unfold ReferenceValue.sgn
      rw [abs_coe, abs_zero, if_neg (by simp)]; rfl
    rw [h0, zero_mul]
    simp [codeR]
  · have hx' : (x : EReal) ≠ 0 := by exact_mod_cast hx
    have ha := abs_pos.mpr hx
    rw [if_pos hx', if_pos hx', abs_coe, div_coe_coe hs.ne', log_pos_coe (by positivity), ← EReal.coe_mul, Ideal.exp_coe, bits_448,
      ← EReal.coe_mul, ← EReal.coe_zero, coe_max, coe_min, sgn_coe x hx, ← EReal.coe_mul, max_eq_right (by positivity)]
    unfold codeR
    rw [if_neg hx]
    congr 1
    split <;> ring

/-- The kernel's exponent of a code, before the sign. -/
theorem mag_coe {c : ℝ} (hc : 0 < c) (x A B : ℝ) (h0 : 0 ≤ A) (hx : |x| ≤ A) :
    min (FloatOps.exp2 (F := Ideal) (φ := .f32) (lg2 ((c * |x| : ℝ) : EReal) * ((kR A B : ℝ) : EReal) +
      ((Real.log 448 * (Real.log 2)⁻¹ - kR A B * (Real.log (if 0 < A then c * A else 1) / Real.log 2) : ℝ) : EReal))) (Ideal.ofBits .f32 1138753536#32) =
      ((codeR x (sR A) (kR A B) : ℝ) : EReal) := by
  have l2 := log2_pos
  unfold codeR
  rw [bits_448]
  by_cases h : x = 0
  · subst h
    rw [abs_zero, mul_zero, lg2_zero, EReal.bot_mul_coe_of_pos (kR_pos A B), EReal.bot_add, exp2_bot, coe_min, if_pos rfl,
      min_eq_left (by norm_num)]
  · have ha := abs_pos.mpr h
    have hA := ha.trans_le hx
    rw [if_neg h, lg2_coe (mul_pos hc ha), ← EReal.coe_mul, ← EReal.coe_add, exp2_coe, coe_min, if_pos hA, sR, if_pos hA, min_comm]
    congr 2
    rw [Real.log_mul hc.ne' ha.ne', Real.log_mul hc.ne' hA.ne', Real.log_div ha.ne' hA.ne']
    have he : ((Real.log c + Real.log |x|) / Real.log 2 * kR A B +
        (Real.log 448 * (Real.log 2)⁻¹ - kR A B * ((Real.log c + Real.log A) / Real.log 2))) * Real.log 2 =
        Real.log 448 + kR A B * (Real.log |x| - Real.log A) := by
      field_simp
      ring
    rw [he, Real.exp_add, Real.exp_log (by norm_num)]

theorem mCode_eq {c : ℝ} (hc : 0 < c) (x A B : ℝ) (b : EReal) (h0 : 0 ≤ A) (hx : |x| ≤ A) (hB : 0 < A → 0 < B ∧ b = ((c * B : ℝ) : EReal)) :
    mCode (rateOf ((c * A : ℝ) : EReal) b) (offOf ((c * A : ℝ) : EReal) b) ((c * x : ℝ) : EReal) =
      cVal (x : EReal) ((sR A : ℝ) : EReal) ((kR A B : ℝ) : EReal) := by
  unfold mCode
  rw [rateOf_coe hc A B b hB, offOf_coe hc A B b hB, abs_coe, abs_mul, abs_of_pos hc, mag_coe hc x A B h0 hx, sgnOf_coe,
    cVal_coe x _ _ (sR_pos A), abs_of_nonneg (codeR_nonneg _ _ _)]
  have : (c * x < 0) = (x < 0) := propext ⟨fun h => by by_contra h'; exact absurd h (not_lt.mpr (mul_nonneg hc.le (not_lt.mp h'))), fun h => mul_neg_of_pos_of_neg hc h⟩
  simp only [this]

theorem vCode_eq {c : ℝ} (hc : 0 < c) (x A B : ℝ) (b : EReal) (h0 : 0 ≤ A) (hx : |x| ≤ A) (hn : 0 ≤ x) (hB : 0 < A → 0 < B ∧ b = ((c * B : ℝ) : EReal)) :
    vCode (rateOf ((c * A : ℝ) : EReal) b) (offOf ((c * A : ℝ) : EReal) b) ((c * x : ℝ) : EReal) =
      cVal (x : EReal) ((sR A : ℝ) : EReal) ((kR A B : ℝ) : EReal) := by
  unfold vCode
  have hm := mag_coe hc x A B h0 hx
  rw [abs_of_nonneg hn] at hm
  rw [rateOf_coe hc A B b hB, offOf_coe hc A B b hB, hm, cVal_coe x _ _ (sR_pos A), if_neg (not_lt.mpr hn)]

/-- A power of a rate below one is below one. -/
theorem pow_lt {r t : ℝ} (h0 : 0 < r) (h1 : r < 1) (ht : 1 ≤ t) : 0 < 1 - r ^ t :=
  sub_pos.mpr (Real.rpow_lt_one h0.le h1 (by linarith))

theorem corr_coe {r t : ℝ} (h0 : 0 < r) :
    1 - FloatOps.exp2 (F := Ideal) (φ := .f32) ((t : EReal) * ((Real.log r * (Real.log 2)⁻¹ : ℝ) : EReal)) = ((1 - r ^ t : ℝ) : EReal) := by
  have l2 := log2_pos
  rw [← EReal.coe_mul, exp2_coe, ← EReal.coe_one, ← EReal.coe_sub, Real.rpow_def_of_pos h0]
  congr 3
  field_simp

theorem dofOf_coe (t : ℝ) (ht : 1 ≤ t) : dofOf (t : EReal) =
    ((Real.log (10 * (1 - (9 / 10 : ℝ) ^ t)) / Real.log 2 - 1 / 2 * (Real.log (20 * (1 - (19 / 20 : ℝ) ^ t)) / Real.log 2) : ℝ) : EReal) := by
  have p1 := pow_lt (r := 9 / 10) (by norm_num) (by norm_num) ht
  have p2 := pow_lt (r := 19 / 20) (by norm_num) (by norm_num) ht
  unfold dofOf
  rw [k_log2_beta1, k_log2_beta2, corr_coe (by norm_num), corr_coe (by norm_num), bits_ten, bits_twenty, bits_half, ← EReal.coe_mul, ← EReal.coe_mul,
    lg2_coe (by positivity), lg2_coe (by positivity), ← EReal.coe_mul, ← EReal.coe_sub]

theorem depOf_coe (t : ℝ) : depOf (t : EReal) = ((1 / 10000000 * (1 - (9 / 10 : ℝ) ^ t) : ℝ) : EReal) := by
  unfold depOf
  rw [k_log2_beta1, corr_coe (by norm_num), k_ten_eps, ← EReal.coe_mul]

theorem root_coe (t v : ℝ) (ht : 1 ≤ t) (hv : 0 ≤ v) :
    FloatOps.exp2 (F := Ideal) (φ := .f32) (((1 / 2 : ℝ) : EReal) * lg2 ((20 * v : ℝ) : EReal) + dofOf (t : EReal)) =
      ((10 * (1 - (9 / 10 : ℝ) ^ t) * Real.sqrt (v / (1 - (19 / 20 : ℝ) ^ t)) : ℝ) : EReal) := by
  have p1 := pow_lt (r := 9 / 10) (by norm_num) (by norm_num) ht
  have p2 := pow_lt (r := 19 / 20) (by norm_num) (by norm_num) ht
  have l2 := log2_pos
  rw [dofOf_coe t ht]
  rcases hv.eq_or_lt with h | h
  · subst h
    rw [mul_zero, lg2_zero, EReal.coe_mul_bot_of_pos (by norm_num), EReal.bot_add, exp2_bot]
    simp
  · rw [lg2_coe (by positivity), ← EReal.coe_mul, ← EReal.coe_add, exp2_coe]
    congr 1
    have hq : 0 < v / (1 - (19 / 20 : ℝ) ^ t) := div_pos h p2
    have he : (1 / 2 * (Real.log (20 * v) / Real.log 2) + (Real.log (10 * (1 - (9 / 10 : ℝ) ^ t)) / Real.log 2 -
        1 / 2 * (Real.log (20 * (1 - (19 / 20 : ℝ) ^ t)) / Real.log 2))) * Real.log 2 =
        Real.log (10 * (1 - (9 / 10 : ℝ) ^ t)) + Real.log (v / (1 - (19 / 20 : ℝ) ^ t)) / 2 := by
      rw [Real.log_mul (by norm_num) h.ne', Real.log_mul (by norm_num) p2.ne', Real.log_div h.ne' p2.ne']
      field_simp
      ring
    rw [he, Real.exp_add, Real.exp_log (by positivity), ← Real.log_sqrt hq.le, Real.exp_log (Real.sqrt_pos.mpr hq)]

theorem pow_coe' (r t : ℝ) : 1 - Ideal.pow (r : EReal) (t : EReal) = ((1 - r ^ t : ℝ) : EReal) := by
  rw [Ideal.pow_coe_coe, ← EReal.coe_one, ← EReal.coe_sub]; rfl

/-- The update of ten times the first moment and twenty times the second is the update of the moments. -/
theorem upd_eq (t m v : ℝ) (w : EReal) (ht : 1 ≤ t) (hv : 0 ≤ v) :
    updOf (dofOf (t : EReal)) (depOf (t : EReal)) ((10 * m : ℝ) : EReal) ((20 * v : ℝ) : EReal) w = uVal (t : EReal) (m : EReal) (v : EReal) w := by
  have p1 := pow_lt (r := 9 / 10) (by norm_num) (by norm_num) ht
  have p2 := pow_lt (r := 19 / 20) (by norm_num) (by norm_num) ht
  unfold updOf uVal
  have hs : Ideal.sqrt ((v / (1 - (19 / 20 : ℝ) ^ t) : ℝ) : EReal) = ((Real.sqrt (v / (1 - (19 / 20 : ℝ) ^ t)) : ℝ) : EReal) := by
    rw [Ideal.sqrt_coe, if_neg (not_lt.mpr (div_nonneg hv p2.le))]
  have hq := Real.sqrt_nonneg (v / (1 - (19 / 20 : ℝ) ^ t))
  rw [bits_half, root_coe t v ht hv, depOf_coe, ← EReal.coe_add, ← EReal.coe_one, div_coe_coe (by positivity), ← EReal.coe_mul, k_tenth,
    r_beta1, r_beta2, r_eps, r_tenth, EReal.coe_one, pow_coe', pow_coe', div_coe_coe p1.ne', div_coe_coe p2.ne', hs, ← EReal.coe_add,
    div_coe_coe (by positivity)]
  congr 2
  have hden : Real.sqrt (v / (1 - (19 / 20 : ℝ) ^ t)) + 1 / 100000000 ≠ 0 := by positivity
  have e : 10 * (1 - (9 / 10 : ℝ) ^ t) * Real.sqrt (v / (1 - (19 / 20 : ℝ) ^ t)) + 1 / 10000000 * (1 - (9 / 10 : ℝ) ^ t) =
      10 * (1 - (9 / 10 : ℝ) ^ t) * (Real.sqrt (v / (1 - (19 / 20 : ℝ) ^ t)) + 1 / 100000000) := by ring
  rw [e]
  have p1' := p1.ne'
  generalize Real.sqrt (v / (1 - (19 / 20 : ℝ) ^ t)) + 1 / 100000000 = d at hden
  generalize 1 - (9 / 10 : ℝ) ^ t = p at p1'
  field_simp

end Cert.Proof.KernelValue

end
-- ==== Proof.MathBlock.lean ====
/- A block of the arrays: what the kernel makes of it is the reference's result there. -/
module

public import proofs.«01_k».proof.Proof.MathCode

@[expose] public section

set_option maxRecDepth 16384
set_option maxHeartbeats 4000000

noncomputable section

namespace Cert.Proof.KernelValue

open Idealize.ShloMosaic Idealize.ShloMosaic.TcCoe Idealize.ShloMosaic.Tactic
open Idealize.ShloMosaic.Pointwise

open ReferenceValue (top bot amax amin sVal dVal kVal cVal mVal vVal uVal Args rowIn grpOf offIn col)

/-- Row `r` of row block `i`. -/
def big (i : Fin 4) (r : Fin 1024) : Fin 4096 := ⟨1024 * i.val + r.val, by omega⟩

/-- Lane `l` of lane block `j`. -/
def wide (j : Fin 4) (l : Fin 512) : Fin 2048 := ⟨512 * j.val + l.val, by omega⟩

/-- Group `g` of row block `i`. -/
def bigGrp (i : Fin 4) (g : Fin 8) : Fin 32 := ⟨8 * i.val + g.val, by omega⟩

theorem grpOf_big (i : Fin 4) (r : Fin 1024) : grpOf (big i r) = bigGrp i (grp r) :=
  Fin.ext (by show (1024 * i.val + r.val) / 128 = 8 * i.val + r.val / 128; omega)

theorem rowIn_big (i : Fin 4) (g : Fin 8) (r : Fin 128) : rowIn (bigGrp i g) r = big i (row128 g r) :=
  Fin.ext (by show 128 * (8 * i.val + g.val) + r.val = 1024 * i.val + (128 * g.val + r.val); omega)

/-- The place of a row in its group. -/
def inGrp (r : Fin 1024) : Fin 128 := ⟨r.val % 128, by omega⟩

theorem row128_grp (r : Fin 1024) : row128 (grp r) (inGrp r) = r :=
  Fin.ext (by show 128 * (r.val / 128) + r.val % 128 = r.val; omega)

theorem grp_row128 (g : Fin 8) (r : Fin 128) : grp (row128 g r) = g :=
  Fin.ext (by show (128 * g.val + r.val) / 128 = g.val; omega)

/-- The block of the arrays at a point of the grid. -/
def cut (A : Args) (b i j : Fin 4) : Blk where
  st := A.st
  w r l := A.w (ix3 b (big i r) (wide j l))
  g r l := A.g (ix3 b (big i r) (wide j l))
  mc r l := A.mc (ix3 b (big i r) (wide j l))
  ms g l := A.ms (ix3 b (bigGrp i g) (wide j l))
  mr g l := A.mr (ix3 b (bigGrp i g) (wide j l))
  vc r l := A.vc (ix3 b (big i r) (wide j l))
  vs g l := A.vs (ix3 b (bigGrp i g) (wide j l))
  vr g l := A.vr (ix3 b (bigGrp i g) (wide j l))

/-- The arrays hold numbers a step may be given. -/
structure InRange (A : Args) : Prop where
  st : ∃ x : ℝ, 1 ≤ x ∧ A.st = (x : EReal)
  g : ∀ y, ∃ x : ℝ, A.g y = (x : EReal)
  mc : ∀ y, ∃ x : ℝ, A.mc y = (x : EReal)
  ms : ∀ y, ∃ x : ℝ, 0 ≤ x ∧ A.ms y = (x : EReal)
  mr : ∀ y, ∃ x : ℝ, 0 < x ∧ A.mr y = (x : EReal)
  vc : ∀ y, ∃ x : ℝ, 0 ≤ x ∧ A.vc y = (x : EReal)
  vs : ∀ y, ∃ x : ℝ, 0 ≤ x ∧ A.vs y = (x : EReal)
  vr : ∀ y, ∃ x : ℝ, 0 < x ∧ A.vr y = (x : EReal)

section

variable {A : Args} (hA : InRange A) (b i j : Fin 4)
include hA

theorem m_cut (r : Fin 1024) (l : Fin 512) :
    ∃ x : ℝ, (cut A b i j).m r l = ((10 * x : ℝ) : EReal) ∧ A.m (ix3 b (big i r) (wide j l)) = (x : EReal) := by
  obtain ⟨q, hq⟩ := hA.mc (ix3 b (big i r) (wide j l))
  obtain ⟨g, hg⟩ := hA.g (ix3 b (big i r) (wide j l))
  obtain ⟨s, h0, hs⟩ := hA.ms (ix3 b (bigGrp i (grp r)) (wide j l))
  obtain ⟨k, h1, hk⟩ := hA.mr (ix3 b (bigGrp i (grp r)) (wide j l))
  refine ⟨mR q s k g, ?_, ?_⟩
  · refine Eq.trans ?_ (mNew_coe q s k g h0 h1)
    show mNew (Ideal.div 1 (A.mr (ix3 b (bigGrp i (grp r)) (wide j l)))) (lg2 (Ideal.ofBits .f32 1091567616#32 * A.ms (ix3 b (bigGrp i (grp r)) (wide j l))) -
      Ideal.div 1 (A.mr (ix3 b (bigGrp i (grp r)) (wide j l))) * _) (A.mc (ix3 b (big i r) (wide j l))) (A.g (ix3 b (big i r) (wide j l))) = _
    rw [hq, hg, hs, hk]
  · refine Eq.trans ?_ (mVal_coe q s k g h1)
    rw [Args.m_at, grpOf_big, hq, hg, hs, hk]

theorem v_cut (r : Fin 1024) (l : Fin 512) :
    ∃ x : ℝ, 0 ≤ x ∧ (cut A b i j).v r l = ((20 * x : ℝ) : EReal) ∧ A.v (ix3 b (big i r) (wide j l)) = (x : EReal) := by
  obtain ⟨q, h2, hq⟩ := hA.vc (ix3 b (big i r) (wide j l))
  obtain ⟨g, hg⟩ := hA.g (ix3 b (big i r) (wide j l))
  obtain ⟨s, h0, hs⟩ := hA.vs (ix3 b (bigGrp i (grp r)) (wide j l))
  obtain ⟨k, h1, hk⟩ := hA.vr (ix3 b (bigGrp i (grp r)) (wide j l))
  refine ⟨vR q s k g, vR_nonneg g h2 h0, ?_, ?_⟩
  · refine Eq.trans ?_ (vNew_coe q s k g h0 h1)
    show vNew (Ideal.div 1 (A.vr (ix3 b (bigGrp i (grp r)) (wide j l)))) (lg2 (Ideal.ofBits .f32 1100480512#32 * A.vs (ix3 b (bigGrp i (grp r)) (wide j l))) -
      Ideal.div 1 (A.vr (ix3 b (bigGrp i (grp r)) (wide j l))) * _) (A.vc (ix3 b (big i r) (wide j l))) (A.g (ix3 b (big i r) (wide j l))) = _
    rw [hq, hg, hs, hk]
  · refine Eq.trans ?_ (vVal_coe q s k g h1)
    rw [Args.v_at, grpOf_big, hq, hg, hs, hk]

/-- The update of a block. -/
theorem u_cut (r : Fin 1024) (l : Fin 512) : (cut A b i j).u r l = A.u (ix3 b (big i r) (wide j l)) := by
  obtain ⟨t, ht, h0⟩ := hA.st
  obtain ⟨x, hx, hx'⟩ := m_cut hA b i j r l
  obtain ⟨z, hz0, hz, hz'⟩ := v_cut hA b i j r l
  show updOf (dofOf A.st) (depOf A.st) ((cut A b i j).m r l) ((cut A b i j).v r l) (A.w (ix3 b (big i r) (wide j l))) =
    uVal A.st (A.m (ix3 b (big i r) (wide j l))) (A.v (ix3 b (big i r) (wide j l))) (A.w (ix3 b (big i r) (wide j l)))
  rw [hx, hx', hz, hz', h0]
  exact upd_eq t x z _ ht hz0

/-- What a group of the first moment comes to. -/
theorem m_group (g : Fin 8) (l : Fin 512) :
    ∃ (x : Fin 128 → ℝ) (a c : ℝ), (∀ r, (cut A b i j).m (row128 g r) l = ((10 * x r : ℝ) : EReal)) ∧
      (∀ r, A.m (ix3 b (big i (row128 g r)) (wide j l)) = (x r : EReal)) ∧ 0 ≤ a ∧ (∀ r, |x r| ≤ a) ∧
      amax (col A.m b (bigGrp i g) (wide j l)) = (a : EReal) ∧
      (0 < a → 0 < c ∧ amin (col A.m b (bigGrp i g) (wide j l)) = (c : EReal)) ∧
      (cut A b i j).mMax g l = ((10 * a : ℝ) : EReal) ∧ (0 < a → 0 < c ∧ (cut A b i j).mMin g l = ((10 * c : ℝ) : EReal)) := by
  choose x hx hx' using fun r => m_cut hA b i j (row128 g r) l
  have hc : ∀ r, col A.m b (bigGrp i g) (wide j l) r = (x r : EReal) := fun r => by
    unfold col
    rw [rowIn_big]
    exact hx' r
  obtain ⟨a, c, h0, hb, h1, h2⟩ := stats_coe _ x hc
  refine ⟨x, a, c, hx, hx', h0, hb, h1, h2, ?_, fun h => ⟨(h2 h).1, ?_⟩⟩
  · rw [EReal.coe_mul, ← h1]
    exact stat_max (by norm_num) _ g l _ x hc hx
  · rw [EReal.coe_mul, ← (h2 h).2]
    exact stat_min (by norm_num) _ g l _ x hc hx

/-- What a group of the second moment comes to. -/
theorem v_group (g : Fin 8) (l : Fin 512) :
    ∃ (x : Fin 128 → ℝ) (a c : ℝ), (∀ r, 0 ≤ x r) ∧ (∀ r, (cut A b i j).v (row128 g r) l = ((20 * x r : ℝ) : EReal)) ∧
      (∀ r, A.v (ix3 b (big i (row128 g r)) (wide j l)) = (x r : EReal)) ∧ 0 ≤ a ∧ (∀ r, |x r| ≤ a) ∧
      amax (col A.v b (bigGrp i g) (wide j l)) = (a : EReal) ∧
      (0 < a → 0 < c ∧ amin (col A.v b (bigGrp i g) (wide j l)) = (c : EReal)) ∧
      (cut A b i j).vMax g l = ((20 * a : ℝ) : EReal) ∧ (0 < a → 0 < c ∧ (cut A b i j).vMin g l = ((20 * c : ℝ) : EReal)) := by
  choose x hp hx hx' using fun r => v_cut hA b i j (row128 g r) l
  have hc : ∀ r, col A.v b (bigGrp i g) (wide j l) r = (x r : EReal) := fun r => by
    unfold col
    rw [rowIn_big]
    exact hx' r
  obtain ⟨a, c, h0, hb, h1, h2⟩ := stats_coe _ x hc
  refine ⟨x, a, c, hp, hx, hx', h0, hb, h1, h2, ?_, fun h => ⟨(h2 h).1, ?_⟩⟩
  · rw [EReal.coe_mul, ← h1]
    exact stat_max' (by norm_num) _ g l _ x hc hp hx
  · rw [EReal.coe_mul, ← (h2 h).2]
    exact stat_min' (by norm_num) _ g l _ x hc hp hx

/-- The first moment's scales. -/
theorem ms_cut (g : Fin 8) (l : Fin 512) : (cut A b i j).ms' g l = sVal (col A.m b (bigGrp i g) (wide j l)) := by
  obtain ⟨x, a, c, hx, hx', h0, hb, h1, h2, h3, h4⟩ := m_group hA b i j g l
  unfold Blk.ms'
  rw [h3, k_tenth, sVal_coe _ a h1]
  exact sclOf_coe (by norm_num) (by norm_num) a

/-- The first moment's exponents. -/
theorem mr_cut (g : Fin 8) (l : Fin 512) : (cut A b i j).mr' g l = kVal (col A.m b (bigGrp i g) (wide j l)) := by
  obtain ⟨x, a, c, hx, hx', h0, hb, h1, h2, h3, h4⟩ := m_group hA b i j g l
  unfold Blk.mr'
  rw [h3, kVal_coe _ a c h1 h2]
  exact rateOf_coe (by norm_num) a c _ h4

/-- The first moment's codes. -/
theorem mc_cut (r : Fin 1024) (l : Fin 512) :
    (cut A b i j).mc' r l = ReferenceValue.codes A.m (ix3 b (big i r) (wide j l)) := by
  obtain ⟨x, a, c, hx, hx', h0, hb, h1, h2, h3, h4⟩ := m_group hA b i j (grp r) l
  have e := hx (inGrp r)
  have e' := hx' (inGrp r)
  rw [row128_grp] at e e'
  show mCode (rateOf ((cut A b i j).mMax (grp r) l) ((cut A b i j).mMin (grp r) l)) (offOf ((cut A b i j).mMax (grp r) l) ((cut A b i j).mMin (grp r) l))
      ((cut A b i j).m r l) =
    cVal (A.m (ix3 b (big i r) (wide j l))) (sVal (col A.m b (grpOf (big i r)) (wide j l))) (kVal (col A.m b (grpOf (big i r)) (wide j l)))
  rw [grpOf_big, h3, e, e', sVal_coe _ a h1, kVal_coe _ a c h1 h2]
  exact mCode_eq (by norm_num) _ a c _ h0 (hb _) h4

/-- The second moment's scales. -/
theorem vs_cut (g : Fin 8) (l : Fin 512) : (cut A b i j).vs' g l = sVal (col A.v b (bigGrp i g) (wide j l)) := by
  obtain ⟨x, a, c, hp, hx, hx', h0, hb, h1, h2, h3, h4⟩ := v_group hA b i j g l
  unfold Blk.vs'
  rw [h3, k_twentieth, sVal_coe _ a h1]
  exact sclOf_coe (by norm_num) (by norm_num) a

/-- The second moment's exponents. -/
theorem vr_cut (g : Fin 8) (l : Fin 512) : (cut A b i j).vr' g l = kVal (col A.v b (bigGrp i g) (wide j l)) := by
  obtain ⟨x, a, c, hp, hx, hx', h0, hb, h1, h2, h3, h4⟩ := v_group hA b i j g l
  unfold Blk.vr'
  rw [h3, kVal_coe _ a c h1 h2]
  exact rateOf_coe (by norm_num) a c _ h4

/-- The second moment's codes. -/
theorem vc_cut (r : Fin 1024) (l : Fin 512) :
    (cut A b i j).vc' r l = ReferenceValue.codes A.v (ix3 b (big i r) (wide j l)) := by
  obtain ⟨x, a, c, hp, hx, hx', h0, hb, h1, h2, h3, h4⟩ := v_group hA b i j (grp r) l
  have e := hx (inGrp r)
  have e' := hx' (inGrp r)
  rw [row128_grp] at e e'
  show vCode (rateOf ((cut A b i j).vMax (grp r) l) ((cut A b i j).vMin (grp r) l)) (offOf ((cut A b i j).vMax (grp r) l) ((cut A b i j).vMin (grp r) l))
      ((cut A b i j).v r l) =
    cVal (A.v (ix3 b (big i r) (wide j l))) (sVal (col A.v b (grpOf (big i r)) (wide j l))) (kVal (col A.v b (grpOf (big i r)) (wide j l)))
  rw [grpOf_big, h3, e, e', sVal_coe _ a h1, kVal_coe _ a c h1 h2]
  exact vCode_eq (by norm_num) _ a c _ h0 (hb _) (hp _) h4

end

end Cert.Proof.KernelValue

end
-- ==== Proof.ValueRun.lean ====
/- The kernel on one block: the results it leaves are those of the block. -/
module

public import proofs.«01_k».proof.Proof.ValueTrip1
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.Claim

@[expose] public section

set_option maxRecDepth 16384
set_option maxHeartbeats 4000000

noncomputable section

namespace Cert.Proof.KernelValue

open Cert.KernelIdeal Cert.KernelIdeal.Gen
open Idealize.ShloMosaic Idealize.ShloMosaic.TcCoe Idealize.ShloMosaic.Tactic
open Idealize.ShloMosaic.Pointwise

open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The inputs of a block, as tables. -/
def blkIn (Y3 : S1.Idx → Elt Ideal .f32) (Y4 : S1x1024x512.Idx → Elt Ideal .f32) (Y5 : S1x1024x512.Idx → Elt Ideal .bf16) (Y6 : S1x1024x512.Idx → Elt Ideal .fp8e4m3) (Y7 : S1x8x512.Idx → Elt Ideal .f32) (Y8 : S1x8x512.Idx → Elt Ideal .f32) (Y9 : S1x1024x512.Idx → Elt Ideal .fp8e4m3) (Y10 : S1x8x512.Idx → Elt Ideal .f32) (Y11 : S1x8x512.Idx → Elt Ideal .f32) : Blk :=
  { st := Y3 (ix1 0), w := tab Y4, g := tab Y5, mc := tab Y6, ms := coTab Y7, mr := coTab Y8, vc := tab Y9, vs := coTab Y10, vr := coTab Y11 }

set_option maxHeartbeats 16000000 in
theorem kernel_run (c : Dev nD) (i : grid0.Coords) (arg3 : Memref sig .tc .smem S1 .f32) (harg3 : arg3.IsWhole) (arg4 : Memref sig .tc .vmem S1x1024x512 .f32) (harg4 : arg4.IsWhole) (arg5 : Memref sig .tc .vmem S1x1024x512 .bf16) (harg5 : arg5.IsWhole) (arg6 : Memref sig .tc .vmem S1x1024x512 .fp8e4m3) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x1024x512 .fp8e4m3) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x1024x512 .f32) (harg12 : arg12.IsWhole) (arg13 : Memref sig .tc .vmem S1x1024x512 .fp8e4m3) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S1x1024x512 .fp8e4m3) (harg16 : arg16.IsWhole) (arg17 : Memref sig .tc .vmem S1x8x512 .f32) (harg17 : arg17.IsWhole) (arg18 : Memref sig .tc .vmem S1x8x512 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S4x72x128 .f32) (harg22 : arg22.IsWhole) (arg23 : Memref sig .tc .vmem S4x8x128 .f32) (harg23 : arg23.IsWhole) (Y3 : S1.Idx → Elt Ideal .f32) (Y4 : S1x1024x512.Idx → Elt Ideal .f32) (Y5 : S1x1024x512.Idx → Elt Ideal .bf16) (Y6 : S1x1024x512.Idx → Elt Ideal .fp8e4m3) (Y7 : S1x8x512.Idx → Elt Ideal .f32) (Y8 : S1x8x512.Idx → Elt Ideal .f32) (Y9 : S1x1024x512.Idx → Elt Ideal .fp8e4m3) (Y10 : S1x8x512.Idx → Elt Ideal .f32) (Y11 : S1x8x512.Idx → Elt Ideal .f32) :
    (iprop(owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f))) : sProp 𝕄)
    ⊢ wp frame (wpE (defs₀ (F := Ideal)) Variants.none (c : Thread nD τ) none) Set.univ (cc0_coat_adamw (F := Ideal) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
      (fun _ => iprop(owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare (fun y => (blkIn Y3 Y4 Y5 Y6 Y7 Y8 Y9 Y10 Y11).u (y 1) (y 2)) ∗ owns (c : Thread nD τ) arg13 fullShare (fun y => (blkIn Y3 Y4 Y5 Y6 Y7 Y8 Y9 Y10 Y11).mc' (y 1) (y 2)) ∗ owns (c : Thread nD τ) arg14 fullShare (fun y => (blkIn Y3 Y4 Y5 Y6 Y7 Y8 Y9 Y10 Y11).ms' (y 1) (y 2)) ∗ owns (c : Thread nD τ) arg15 fullShare (fun y => (blkIn Y3 Y4 Y5 Y6 Y7 Y8 Y9 Y10 Y11).mr' (y 1) (y 2)) ∗ owns (c : Thread nD τ) arg16 fullShare (fun y => (blkIn Y3 Y4 Y5 Y6 Y7 Y8 Y9 Y10 Y11).vc' (y 1) (y 2)) ∗ owns (c : Thread nD τ) arg17 fullShare (fun y => (blkIn Y3 Y4 Y5 Y6 Y7 Y8 Y9 Y10 Y11).vs' (y 1) (y 2)) ∗ owns (c : Thread nD τ) arg18 fullShare (fun y => (blkIn Y3 Y4 Y5 Y6 Y7 Y8 Y9 Y10 Y11).vr' (y 1) (y 2)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)))) := by
  rw [cc0_coat_adamw_eq_skeleton]
  unfold cc0_coat_adamw_skel owns
  iintro ⟨⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, ⟨%g11, %e11, H11⟩, ⟨%d12, %g12, %e12, H12⟩, ⟨%d13, %g13, %e13, H13⟩, ⟨%d14, %g14, %e14, H14⟩, ⟨%d15, %g15, %e15, H15⟩, ⟨%d16, %g16, %e16, H16⟩, ⟨%d17, %g17, %e17, H17⟩, ⟨%d18, %g18, %e18, H18⟩, ⟨%f19, H19⟩, ⟨%f20, H20⟩, ⟨%f21, H21⟩, ⟨%f22, H22⟩, ⟨%f23, H23⟩⟩
  sl_exec
  sl_step
  have hr : kernel_run.sl.r c arg3 g3 = Y3 (ix1 0) := by
    rw [← e3]
    unfold kernel_run.sl.r
    exact congrArg (arg3.view.read (Elt Ideal) g3) (funext fun a => by
      fin_cases a
      exact Subsingleton.elim (α := Fin 1) _ _)
  have D := done Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (kernel_run.sl.r c arg3 g3) g4 g5 g6 g7 g8 g9 g10 g11 ⟨g12, g13, g14, g15, g16, g17, g18, f19, f20, f21, f22, f23⟩ k0_t1_loop.trips le_rfl
  have hb : blkOf (kernel_run.sl.r c arg3 g3) arg4 arg5 arg6 arg7 arg8 arg9 arg10 arg11 g4 g5 g6 g7 g8 g9 g10 g11 = blkIn Y3 Y4 Y5 Y6 Y7 Y8 Y9 Y10 Y11 := by
    unfold blkOf blkIn
    rw [hr, e4, e5, e6, e7, e8, e9, e10, e11]
  rw [hb] at D
  have ht : ∀ l : Fin 512, l.val < 128 * k0_t1_loop.trips := fun l => by rw [trips1]; exact l.isLt
  isplitl [H3]
  · iexists g3; isplitr; · ipureintro; exact e3
    iexact H3
  isplitl [H4]
  · iexists g4; isplitr; · ipureintro; exact e4
    iexact H4
  isplitl [H5]
  · iexists g5; isplitr; · ipureintro; exact e5
    iexact H5
  isplitl [H6]
  · iexists g6; isplitr; · ipureintro; exact e6
    iexact H6
  isplitl [H7]
  · iexists g7; isplitr; · ipureintro; exact e7
    iexact H7
  isplitl [H8]
  · iexists g8; isplitr; · ipureintro; exact e8
    iexact H8
  isplitl [H9]
  · iexists g9; isplitr; · ipureintro; exact e9
    iexact H9
  isplitl [H10]
  · iexists g10; isplitr; · ipureintro; exact e10
    iexact H10
  isplitl [H11]
  · iexists g11; isplitr; · ipureintro; exact e11
    iexact H11
  isplitl [H12]
  · iexists _; isplitr; swap; · iexact H12
    ipureintro
    exact funext fun y => D.u y (ht (y 2))
  isplitl [H13]
  · iexists _; isplitr; swap; · iexact H13
    ipureintro
    exact funext fun y => D.mc y (ht (y 2))
  isplitl [H14]
  · iexists _; isplitr; swap; · iexact H14
    ipureintro
    exact funext fun y => D.ms y (ht (y 2))
  isplitl [H15]
  · iexists _; isplitr; swap; · iexact H15
    ipureintro
    exact funext fun y => D.mr y (ht (y 2))
  isplitl [H16]
  · iexists _; isplitr; swap; · iexact H16
    ipureintro
    exact funext fun y => D.vc y (ht (y 2))
  isplitl [H17]
  · iexists _; isplitr; swap; · iexact H17
    ipureintro
    exact funext fun y => D.vs y (ht (y 2))
  isplitl [H18]
  · iexists _; isplitr; swap; · iexact H18
    ipureintro
    exact funext fun y => D.vr y (ht (y 2))
  isplitl [H19]
  · iexists _; iexact H19
  isplitl [H20]
  · iexists _; iexact H20
  isplitl [H21]
  · iexists _; iexact H21
  isplitl [H22]
  · iexists _; iexact H22
  iexists _; iexact H23

/-! ## The proof data and the body obligation -/

variable (m : (ℓ : Loc nD τ sig) → Buf (Elt Ideal) ℓ) (ρ : Dev nD → PrngReg)

/-- The inputs of the block at a grid point. -/
def blkAt (c : Dev nD) (t : Fin cfg0.N) : Blk :=
  blkIn (iblk m c 0 t) (iblk m c 1 t) (iblk m c 2 t) (iblk m c 3 t) (iblk m c 4 t) (iblk m c 5 t) (iblk m c 6 t) (iblk m c 7 t) (iblk m c 8 t)

/-- The proof data on a core: the arrays as the region finds them, each input block left as it was, the outputs at the
    results of the block, the scratch buffers at some contents between points. -/
def dats (_ : Fin 1) (c : Dev nD) : Pipeline.Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => fun y => (blkAt m c t).u (y 1) (y 2)
    | ⟨10, _⟩ => fun y => (blkAt m c t).mc' (y 1) (y 2)
    | ⟨11, _⟩ => fun y => (blkAt m c t).ms' (y 1) (y 2)
    | ⟨12, _⟩ => fun y => (blkAt m c t).mr' (y 1) (y 2)
    | ⟨13, _⟩ => fun y => (blkAt m c t).vc' (y 1) (y 2)
    | ⟨14, _⟩ => fun y => (blkAt m c t).vs' (y 1) (y 2)
    | ⟨15, _⟩ => fun y => (blkAt m c t).vr' (y 1) (y 2)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = fun y => (blkAt m c t).u (y 1) (y 2) := by dsimp only [dats]
theorem after0_10 (c : Dev nD) (t : Fin cfg0.N) : (dats m 0 c).after 10 t = fun y => (blkAt m c t).mc' (y 1) (y 2) := by dsimp only [dats]
theorem after0_11 (c : Dev nD) (t : Fin cfg0.N) : (dats m 0 c).after 11 t = fun y => (blkAt m c t).ms' (y 1) (y 2) := by dsimp only [dats]
theorem after0_12 (c : Dev nD) (t : Fin cfg0.N) : (dats m 0 c).after 12 t = fun y => (blkAt m c t).mr' (y 1) (y 2) := by dsimp only [dats]
theorem after0_13 (c : Dev nD) (t : Fin cfg0.N) : (dats m 0 c).after 13 t = fun y => (blkAt m c t).vc' (y 1) (y 2) := by dsimp only [dats]
theorem after0_14 (c : Dev nD) (t : Fin cfg0.N) : (dats m 0 c).after 14 t = fun y => (blkAt m c t).vs' (y 1) (y 2) := by dsimp only [dats]
theorem after0_15 (c : Dev nD) (t : Fin cfg0.N) : (dats m 0 c).after 15 t = fun y => (blkAt m c t).vr' (y 1) (y 2) := by dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- A scratch buffer held whole is its whole memref held. -/
theorem whole_eq (c : Dev nD) (b : Ref sig .tc) (f : Buf (Elt Ideal) ((c : Thread nD τ).loc b)) :
    (((c : Thread nD τ).loc b ↦{fullShare} f) : sProp 𝕄)
      = ((Memref.whole b).view.loc (c : Thread nD τ) ↦[(Memref.whole b).view.set]{fullShare} f) := by
  simp only [Memref.view_whole, View.set_whole]

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  unfold Pipeline.ΦA
  rw [scopedRest0_eq]
  simp only [whole_eq]
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (wp_wand_r Idealize.ShloMosaic.frame (wpE (defs₀ (F := Ideal)) Variants.none (c : Thread nD τ) none) Set.univ)
  isplitl [H0 H1 H2 H3 H4 H5 H6 H7 H8 H9 H10 H11 H12 H13 H14 H15 S0 S1 S2 S3 S4]
  · iapply (kernel_run c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [S0]; · iexact S0
    isplitl [S1]; · iexact S1
    isplitl [S2]; · iexact S2
    isplitl [S3]; · iexact S3
    iexact S4
  · iintro %_ ⟨H0, H1, H2, H3, H4, H5, H6, H7, H8, H9, H10, H11, H12, H13, H14, H15, S0, S1, S2, S3, S4⟩
    isplitl [S0 S1 S2 S3 S4 Hr]
    · isplitl [S0 S1 S2 S3 S4]
      · isplitl [S0]; · iexact S0
        isplitl [S1]; · iexact S1
        isplitl [S2]; · iexact S2
        isplitl [S3]; · iexact S3
        iexact S4
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body table's row at a point is the body. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) :
    Pipeline.BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- The launch: every execution of @main terminates, each array ends at what its write-backs leave, every other
    buffer as the region found it. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Proof.KernelValue

end
-- ==== Proof.KerFinal.lean ====
/- The kernel's result arrays are the reference's, from the arrays the kernel is given. -/
module

public import proofs.«01_k».proof.Proof.MathBlock
public import proofs.«01_k».proof.Proof.ValueRun
public import Idealize.ShloMosaic.Lib.Pipeline.ValueKit
public import Idealize.ShloMosaic.Lib.Claim

@[expose] public section

set_option maxRecDepth 16384
set_option maxHeartbeats 4000000

noncomputable section

namespace Cert.Proof.KernelValue

open Cert.KernelIdeal Cert.KernelIdeal.Gen
open Idealize.ShloMosaic Idealize.ShloMosaic.TcCoe Idealize.ShloMosaic.Tactic
open Idealize.ShloMosaic.Pointwise

open ReferenceValue (Args)

variable (m : (ℓ : Loc nD τ sig) → Buf (Elt Ideal) ℓ)

/-- The arrays the kernel is given. -/
def args (c : Dev nD) : Args where
  st := sitofp (F := Ideal) (s := S_) .f32 (m ((c : Thread nD τ).loc main_arg8)) ix0
  w := m ((c : Thread nD τ).loc main_arg0)
  g := m ((c : Thread nD τ).loc main_arg1)
  mc := m ((c : Thread nD τ).loc main_arg2)
  ms := m ((c : Thread nD τ).loc main_arg3)
  mr := m ((c : Thread nD τ).loc main_arg4)
  vc := m ((c : Thread nD τ).loc main_arg5)
  vs := m ((c : Thread nD τ).loc main_arg6)
  vr := m ((c : Thread nD τ).loc main_arg7)

theorem idx : ∀ t : Fin cfg0.N, win0_1.index t = ![(grid0.coords t 0).val, (grid0.coords t 1).val, (grid0.coords t 2).val] ∧ win0_2.index t = ![(grid0.coords t 0).val, (grid0.coords t 1).val, (grid0.coords t 2).val] ∧ win0_3.index t = ![(grid0.coords t 0).val, (grid0.coords t 1).val, (grid0.coords t 2).val] ∧ win0_4.index t = ![(grid0.coords t 0).val, (grid0.coords t 1).val, (grid0.coords t 2).val] ∧ win0_5.index t = ![(grid0.coords t 0).val, (grid0.coords t 1).val, (grid0.coords t 2).val] ∧ win0_6.index t = ![(grid0.coords t 0).val, (grid0.coords t 1).val, (grid0.coords t 2).val] ∧ win0_7.index t = ![(grid0.coords t 0).val, (grid0.coords t 1).val, (grid0.coords t 2).val] ∧ win0_8.index t = ![(grid0.coords t 0).val, (grid0.coords t 1).val, (grid0.coords t 2).val] ∧ win0_9.index t = ![(grid0.coords t 0).val, (grid0.coords t 1).val, (grid0.coords t 2).val] ∧ win0_10.index t = ![(grid0.coords t 0).val, (grid0.coords t 1).val, (grid0.coords t 2).val] ∧ win0_11.index t = ![(grid0.coords t 0).val, (grid0.coords t 1).val, (grid0.coords t 2).val] ∧ win0_12.index t = ![(grid0.coords t 0).val, (grid0.coords t 1).val, (grid0.coords t 2).val] ∧ win0_13.index t = ![(grid0.coords t 0).val, (grid0.coords t 1).val, (grid0.coords t 2).val] ∧ win0_14.index t = ![(grid0.coords t 0).val, (grid0.coords t 1).val, (grid0.coords t 2).val] ∧ win0_15.index t = ![(grid0.coords t 0).val, (grid0.coords t 1).val, (grid0.coords t 2).val] :=
  (by decide +kernel : ∀ t : Fin grid0.N, _)

theorem iblk1 (c : Dev nD) (t : Fin cfg0.N) (r : Fin 1024) (l : Fin 512) :
    iblk m c 1 t (ix3 0 r l) = (args m c).w (ix3 (grid0.coords t 0) (big (grid0.coords t 1) r) (wide (grid0.coords t 2) l)) := by
  blk_simp [iblk, idx t]
  blk_ext [V, idx t]
  all_goals (simp only [big, bigGrp, wide]; omega)

theorem iblk2 (c : Dev nD) (t : Fin cfg0.N) (r : Fin 1024) (l : Fin 512) :
    iblk m c 2 t (ix3 0 r l) = (args m c).g (ix3 (grid0.coords t 0) (big (grid0.coords t 1) r) (wide (grid0.coords t 2) l)) := by
  blk_simp [iblk, idx t]
  blk_ext [V, idx t]
  all_goals (simp only [big, bigGrp, wide]; omega)

theorem iblk3 (c : Dev nD) (t : Fin cfg0.N) (r : Fin 1024) (l : Fin 512) :
    iblk m c 3 t (ix3 0 r l) = (args m c).mc (ix3 (grid0.coords t 0) (big (grid0.coords t 1) r) (wide (grid0.coords t 2) l)) := by
  blk_simp [iblk, idx t]
  entry_read
  show m _ _ = m _ _
  blk_ext [idx t]
  all_goals (simp only [big, bigGrp, wide]; omega)

theorem iblk4 (c : Dev nD) (t : Fin cfg0.N) (r : Fin 8) (l : Fin 512) :
    iblk m c 4 t (ix3 0 r l) = (args m c).ms (ix3 (grid0.coords t 0) (bigGrp (grid0.coords t 1) r) (wide (grid0.coords t 2) l)) := by
  blk_simp [iblk, idx t]
  blk_ext [V, idx t]
  all_goals (simp only [big, bigGrp, wide]; omega)

theorem iblk5 (c : Dev nD) (t : Fin cfg0.N) (r : Fin 8) (l : Fin 512) :
    iblk m c 5 t (ix3 0 r l) = (args m c).mr (ix3 (grid0.coords t 0) (bigGrp (grid0.coords t 1) r) (wide (grid0.coords t 2) l)) := by
  blk_simp [iblk, idx t]
  blk_ext [V, idx t]
  all_goals (simp only [big, bigGrp, wide]; omega)

theorem iblk6 (c : Dev nD) (t : Fin cfg0.N) (r : Fin 1024) (l : Fin 512) :
    iblk m c 6 t (ix3 0 r l) = (args m c).vc (ix3 (grid0.coords t 0) (big (grid0.coords t 1) r) (wide (grid0.coords t 2) l)) := by
  blk_simp [iblk, idx t]
  entry_read
  show m _ _ = m _ _
  blk_ext [idx t]
  all_goals (simp only [big, bigGrp, wide]; omega)

theorem iblk7 (c : Dev nD) (t : Fin cfg0.N) (r : Fin 8) (l : Fin 512) :
    iblk m c 7 t (ix3 0 r l) = (args m c).vs (ix3 (grid0.coords t 0) (bigGrp (grid0.coords t 1) r) (wide (grid0.coords t 2) l)) := by
  blk_simp [iblk, idx t]
  blk_ext [V, idx t]
  all_goals (simp only [big, bigGrp, wide]; omega)

theorem iblk8 (c : Dev nD) (t : Fin cfg0.N) (r : Fin 8) (l : Fin 512) :
    iblk m c 8 t (ix3 0 r l) = (args m c).vr (ix3 (grid0.coords t 0) (bigGrp (grid0.coords t 1) r) (wide (grid0.coords t 2) l)) := by
  blk_simp [iblk, idx t]
  blk_ext [V, idx t]
  all_goals (simp only [big, bigGrp, wide]; omega)

/-- The block of a point, cut from the arrays. -/
theorem blkAt_eq (c : Dev nD) (t : Fin cfg0.N) : blkAt m c t = cut (args m c) (grid0.coords t 0) (grid0.coords t 1) (grid0.coords t 2) := by
  unfold blkAt blkIn cut tab coTab
  congr 1
  · exact funext fun r => funext fun l => iblk1 m c t r l
  · exact funext fun r => funext fun l => iblk2 m c t r l
  · exact funext fun r => funext fun l => iblk3 m c t r l
  · exact funext fun r => funext fun l => iblk4 m c t r l
  · exact funext fun r => funext fun l => iblk5 m c t r l
  · exact funext fun r => funext fun l => iblk6 m c t r l
  · exact funext fun r => funext fun l => iblk7 m c t r l
  · exact funext fun r => funext fun l => iblk8 m c t r l

theorem final9 (c : Dev nD) (hA : InRange (args m c)) : (dats m 0 c).arrAt 9 (cfgs 0).N = (args m c).u := by
  refine (dats m 0 c).arrAt_eq_of_covers 9 _ (by decide +kernel) fun t hf y => ?_
  blk_simp
  rw [after0_9, blkAt_eq]
  refine (u_cut hA _ _ _ (y 1) (y 2)).trans ?_
  show (args m c).u (ix3 (grid0.coords t 0) (big (grid0.coords t 1) (y 1)) (wide (grid0.coords t 2) (y 2))) = (args m c).u _
  generalize (args m c).u = X
  blk_ext [idx t]
  all_goals (simp only [big, bigGrp, wide]; omega)

theorem final10 (c : Dev nD) (hA : InRange (args m c)) : (dats m 0 c).arrAt 10 (cfgs 0).N = ReferenceValue.codes (args m c).m := by
  refine (dats m 0 c).arrAt_eq_of_covers 10 _ (by decide +kernel) fun t hf y => ?_
  blk_simp
  rw [after0_10, blkAt_eq]
  refine (mc_cut hA _ _ _ (y 1) (y 2)).trans ?_
  show ReferenceValue.codes (args m c).m (ix3 (grid0.coords t 0) (big (grid0.coords t 1) (y 1)) (wide (grid0.coords t 2) (y 2))) = ReferenceValue.codes (args m c).m _
  generalize ReferenceValue.codes (args m c).m = X
  blk_ext [idx t]
  all_goals (simp only [big, bigGrp, wide]; omega)

theorem final11 (c : Dev nD) (hA : InRange (args m c)) : (dats m 0 c).arrAt 11 (cfgs 0).N = ReferenceValue.scales (args m c).m := by
  refine (dats m 0 c).arrAt_eq_of_covers 11 _ (by decide +kernel) fun t hf y => ?_
  blk_simp
  rw [after0_11, blkAt_eq]
  refine (ms_cut hA _ _ _ (y 1) (y 2)).trans ?_
  show ReferenceValue.scales (args m c).m (ix3 (grid0.coords t 0) (bigGrp (grid0.coords t 1) (y 1)) (wide (grid0.coords t 2) (y 2))) = ReferenceValue.scales (args m c).m _
  generalize ReferenceValue.scales (args m c).m = X
  blk_ext [idx t]
  all_goals (simp only [big, bigGrp, wide]; omega)

theorem final12 (c : Dev nD) (hA : InRange (args m c)) : (dats m 0 c).arrAt 12 (cfgs 0).N = ReferenceValue.rates (args m c).m := by
  refine (dats m 0 c).arrAt_eq_of_covers 12 _ (by decide +kernel) fun t hf y => ?_
  blk_simp
  rw [after0_12, blkAt_eq]
  refine (mr_cut hA _ _ _ (y 1) (y 2)).trans ?_
  show ReferenceValue.rates (args m c).m (ix3 (grid0.coords t 0) (bigGrp (grid0.coords t 1) (y 1)) (wide (grid0.coords t 2) (y 2))) = ReferenceValue.rates (args m c).m _
  generalize ReferenceValue.rates (args m c).m = X
  blk_ext [idx t]
  all_goals (simp only [big, bigGrp, wide]; omega)

theorem final13 (c : Dev nD) (hA : InRange (args m c)) : (dats m 0 c).arrAt 13 (cfgs 0).N = ReferenceValue.codes (args m c).v := by
  refine (dats m 0 c).arrAt_eq_of_covers 13 _ (by decide +kernel) fun t hf y => ?_
  blk_simp
  rw [after0_13, blkAt_eq]
  refine (vc_cut hA _ _ _ (y 1) (y 2)).trans ?_
  show ReferenceValue.codes (args m c).v (ix3 (grid0.coords t 0) (big (grid0.coords t 1) (y 1)) (wide (grid0.coords t 2) (y 2))) = ReferenceValue.codes (args m c).v _
  generalize ReferenceValue.codes (args m c).v = X
  blk_ext [idx t]
  all_goals (simp only [big, bigGrp, wide]; omega)

theorem final14 (c : Dev nD) (hA : InRange (args m c)) : (dats m 0 c).arrAt 14 (cfgs 0).N = ReferenceValue.scales (args m c).v := by
  refine (dats m 0 c).arrAt_eq_of_covers 14 _ (by decide +kernel) fun t hf y => ?_
  blk_simp
  rw [after0_14, blkAt_eq]
  refine (vs_cut hA _ _ _ (y 1) (y 2)).trans ?_
  show ReferenceValue.scales (args m c).v (ix3 (grid0.coords t 0) (bigGrp (grid0.coords t 1) (y 1)) (wide (grid0.coords t 2) (y 2))) = ReferenceValue.scales (args m c).v _
  generalize ReferenceValue.scales (args m c).v = X
  blk_ext [idx t]
  all_goals (simp only [big, bigGrp, wide]; omega)

theorem final15 (c : Dev nD) (hA : InRange (args m c)) : (dats m 0 c).arrAt 15 (cfgs 0).N = ReferenceValue.rates (args m c).v := by
  refine (dats m 0 c).arrAt_eq_of_covers 15 _ (by decide +kernel) fun t hf y => ?_
  blk_simp
  rw [after0_15, blkAt_eq]
  refine (vr_cut hA _ _ _ (y 1) (y 2)).trans ?_
  show ReferenceValue.rates (args m c).v (ix3 (grid0.coords t 0) (bigGrp (grid0.coords t 1) (y 1)) (wide (grid0.coords t 2) (y 2))) = ReferenceValue.rates (args m c).v _
  generalize ReferenceValue.rates (args m c).v = X
  blk_ext [idx t]
  all_goals (simp only [big, bigGrp, wide]; omega)

end Cert.Proof.KernelValue

end
-- ==== Proof.InRange.lean ====
/- What the precondition says of the arrays. -/
module

public import proofs.«01_k».proof.Proof.KerFinal
public import proofs.«01_k».proof.Defs
public import proofs.«01_k».proof.Proof.Gen.Pre_in_range

@[expose] public section

set_option maxRecDepth 16384
set_option maxHeartbeats 4000000

noncomputable section

namespace Cert.Proof.KernelValue

open Cert.KernelIdeal Cert.KernelIdeal.Gen
open Idealize.ShloMosaic Idealize.ShloMosaic.TcCoe Idealize.ShloMosaic.Tactic
open Idealize.ShloMosaic.Pointwise

variable (m : (ℓ : Loc nD τ sig) → Buf (Elt Ideal) ℓ)

theorem and_one : ∀ {p q : BitVec 1}, IntOp.andi p q = 1#1 → p = 1#1 ∧ q = 1#1 := by decide

theorem ofBool_one : ∀ {p : Bool}, BitVec.ofBool p = 1#1 → p = true := by decide

theorem ogt_one {x y : EReal} (h : Ideal.cmp .ogt x y = 1#1) : y < x := of_decide_eq_true (ofBool_one h)
theorem oge_one {x y : EReal} (h : Ideal.cmp .oge x y = 1#1) : y ≤ x := of_decide_eq_true (ofBool_one h)
theorem olt_one {x y : EReal} (h : Ideal.cmp .olt x y = 1#1) : x < y := of_decide_eq_true (ofBool_one h)

theorem zero_bits : Ideal.ofBits FTy.f32 0#32 = ((0 : ℝ) : EReal) := by
  simp [Ideal.ofBits, Ideal.ieee]

theorem real_of {x : EReal} (h : IntOp.andi (Ideal.cmp .ogt x (Ideal.ofBits FTy.f32 4286578688#32)) (Ideal.cmp .olt x (Ideal.ofBits FTy.f32 2139095040#32)) = 1#1) :
    ∃ r : ℝ, x = (r : EReal) := by
  obtain ⟨h1, h2⟩ := and_one h
  rw [bits_bot] at h1
  rw [bits_top] at h2
  exact ⟨x.toReal, (EReal.coe_toReal (olt_one h2).ne (ogt_one h1).ne').symm⟩

theorem nonneg_of {x : EReal} (h1 : Ideal.cmp .oge x (Ideal.ofBits FTy.f32 0#32) = 1#1) (h2 : Ideal.cmp .olt x (Ideal.ofBits FTy.f32 2139095040#32) = 1#1) :
    ∃ r : ℝ, 0 ≤ r ∧ x = (r : EReal) := by
  rw [zero_bits] at h1
  rw [bits_top] at h2
  have g1 := oge_one h1
  have e := EReal.coe_toReal (olt_one h2).ne (fun h => by rw [h] at g1; exact absurd g1 (not_le.mpr (EReal.bot_lt_coe 0)))
  refine ⟨x.toReal, ?_, e.symm⟩
  rw [← e] at g1
  exact EReal.coe_le_coe_iff.mp g1

theorem pos_of {x : EReal} (h1 : Ideal.cmp .ogt x (Ideal.ofBits FTy.f32 0#32) = 1#1) (h2 : Ideal.cmp .olt x (Ideal.ofBits FTy.f32 2139095040#32) = 1#1) :
    ∃ r : ℝ, 0 < r ∧ x = (r : EReal) := by
  rw [zero_bits] at h1
  rw [bits_top] at h2
  have g1 := ogt_one h1
  have e := EReal.coe_toReal (olt_one h2).ne (fun h => by rw [h] at g1; exact absurd g1 (not_lt.mpr bot_le))
  refine ⟨x.toReal, ?_, e.symm⟩
  rw [← e] at g1
  exact EReal.coe_lt_coe_iff.mp g1

/-- The precondition, read off the arrays. -/
theorem inRange (h : Cert.Pre_KernelIdeal_in_range m) (c : Dev nD) : InRange (args m c) := by
  obtain ⟨h0, h1, h2, h3, h4, h5⟩ := h c
  refine ⟨?_, fun y => ?_, fun y => ?_, fun y => ?_, fun y => ?_, fun y => ?_, fun y => ?_, fun y => ?_⟩
  · have e : BitVec.ofBool (decide ((1#32 : BitVec 32).toInt ≤ (m ((c : Thread nD τ).loc main_arg8) ix0 : BitVec 32).toInt)) = 1#1 := congrFun h5 ix0
    have e' : (1 : ℤ) ≤ (m ((c : Thread nD τ).loc main_arg8) ix0 : BitVec 32).toInt := of_decide_eq_true (ofBool_one e)
    exact ⟨(((m ((c : Thread nD τ).loc main_arg8) ix0 : BitVec 32).toInt : ℤ) : ℝ), by exact_mod_cast e', rfl⟩
  · exact real_of (congrFun h0 y)
  · exact real_of (congrFun h1 y)
  · have e := and_one (congrFun h2 y)
    have e1 := and_one e.1
    have e2 := and_one e1.1
    exact nonneg_of e2.1 e2.2
  · have e := and_one (congrFun h2 y)
    have e1 := and_one e.1
    exact pos_of e1.2 e.2
  · have e := and_one (congrFun h3 y)
    exact nonneg_of e.1 e.2
  · have e := and_one (congrFun h4 y)
    have e1 := and_one e.1
    have e2 := and_one e1.1
    exact nonneg_of e2.1 e2.2
  · have e := and_one (congrFun h4 y)
    have e1 := and_one e.1
    exact pos_of e1.2 e.2

end Cert.Proof.KernelValue

end
-- ==== Proof.Algebraic.lean ====
/- The kernel and the reference end with equal results. -/
module

public import proofs.«01_k».proof.Proof.InRange
public import proofs.«01_k».proof.Proof.Gen.ReferenceIdeal.Frame

@[expose] public section

set_option maxRecDepth 16384
set_option maxHeartbeats 4000000

noncomputable section

namespace Cert.Proof

open Idealize.ShloMosaic Idealize.ShloMosaic.TcCoe Idealize.ShloMosaic.Tactic
open Idealize.ShloMosaic.Pointwise

open Idealize.SL.Sem

/-- The kernel ends with the reference's results of its own arguments. -/
theorem kernel_ends (m : (ℓ : Loc Cert.KernelIdeal.nD Cert.KernelIdeal.τ Cert.KernelIdeal.sig) → Buf (Elt Ideal) ℓ)
    (ρ : Dev Cert.KernelIdeal.nD → PrngReg) (hA : ∀ c, KernelValue.InRange (KernelValue.args m c)) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v4_0) = (KernelValue.args m c).u
      ∧ r.2.mem ((c.tc : Thread Cert.KernelIdeal.nD Cert.KernelIdeal.τ).loc Cert.KernelIdeal.main_v4_1) = ReferenceValue.codes (KernelValue.args m c).m
      ∧ r.2.mem ((c.tc : Thread Cert.KernelIdeal.nD Cert.KernelIdeal.τ).loc Cert.KernelIdeal.main_v4_2) = ReferenceValue.scales (KernelValue.args m c).m
      ∧ r.2.mem ((c.tc : Thread Cert.KernelIdeal.nD Cert.KernelIdeal.τ).loc Cert.KernelIdeal.main_v4_3) = ReferenceValue.rates (KernelValue.args m c).m
      ∧ r.2.mem ((c.tc : Thread Cert.KernelIdeal.nD Cert.KernelIdeal.τ).loc Cert.KernelIdeal.main_v4_4) = ReferenceValue.codes (KernelValue.args m c).v
      ∧ r.2.mem ((c.tc : Thread Cert.KernelIdeal.nD Cert.KernelIdeal.τ).loc Cert.KernelIdeal.main_v4_5) = ReferenceValue.scales (KernelValue.args m c).v
      ∧ r.2.mem ((c.tc : Thread Cert.KernelIdeal.nD Cert.KernelIdeal.τ).loc Cert.KernelIdeal.main_v4_6) = ReferenceValue.rates (KernelValue.args m c).v
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun _ h' c => by
    have h := h'.1
    exact ⟨((h c).1 9).trans (KernelValue.final9 m c (hA c)),
      ((h c).1 10).trans (KernelValue.final10 m c (hA c)),
      ((h c).1 11).trans (KernelValue.final11 m c (hA c)),
      ((h c).1 12).trans (KernelValue.final12 m c (hA c)),
      ((h c).1 13).trans (KernelValue.final13 m c (hA c)),
      ((h c).1 14).trans (KernelValue.final14 m c (hA c)),
      ((h c).1 15).trans (KernelValue.final15 m c (hA c)),
      ((h c).1 1).trans (((KernelValue.dats m 0 c).arrAt_in 1 rfl _).trans ((KernelValue.A_eq m c 1).trans (Cert.KernelIdeal.Gen.V_main_arg0 m c))),
      ((h c).1 2).trans (((KernelValue.dats m 0 c).arrAt_in 2 rfl _).trans ((KernelValue.A_eq m c 2).trans (Cert.KernelIdeal.Gen.V_main_arg1 m c))),
      ((h c).2 Cert.KernelIdeal.main_arg2 (Pipeline.mem_restRefs_of Cert.KernelIdeal.main_arg2 (by decide) (by decide))).trans (Cert.KernelIdeal.Gen.V_main_arg2 m c),
      ((h c).1 4).trans (((KernelValue.dats m 0 c).arrAt_in 4 rfl _).trans ((KernelValue.A_eq m c 4).trans (Cert.KernelIdeal.Gen.V_main_arg3 m c))),
      ((h c).1 5).trans (((KernelValue.dats m 0 c).arrAt_in 5 rfl _).trans ((KernelValue.A_eq m c 5).trans (Cert.KernelIdeal.Gen.V_main_arg4 m c))),
      ((h c).2 Cert.KernelIdeal.main_arg5 (Pipeline.mem_restRefs_of Cert.KernelIdeal.main_arg5 (by decide) (by decide))).trans (Cert.KernelIdeal.Gen.V_main_arg5 m c),
      ((h c).1 7).trans (((KernelValue.dats m 0 c).arrAt_in 7 rfl _).trans ((KernelValue.A_eq m c 7).trans (Cert.KernelIdeal.Gen.V_main_arg6 m c))),
      ((h c).1 8).trans (((KernelValue.dats m 0 c).arrAt_in 8 rfl _).trans ((KernelValue.A_eq m c 8).trans (Cert.KernelIdeal.Gen.V_main_arg7 m c))),
      ((h c).2 Cert.KernelIdeal.main_arg8 (Pipeline.mem_restRefs_of Cert.KernelIdeal.main_arg8 (by decide) (by decide))).trans (Cert.KernelIdeal.Gen.V_main_arg8 m c)⟩) (KernelValue.run_main m ρ)

/-- The reference ends with its results of its own arguments. -/
theorem reference_ends (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v4_0) = (ReferenceValue.args m c).u
      ∧ r.2.mem ((c.tc : Thread Cert.ReferenceIdeal.nD Cert.ReferenceIdeal.τ).loc Cert.ReferenceIdeal.main_v4_1) = ReferenceValue.codes (ReferenceValue.args m c).m
      ∧ r.2.mem ((c.tc : Thread Cert.ReferenceIdeal.nD Cert.ReferenceIdeal.τ).loc Cert.ReferenceIdeal.main_v4_2) = ReferenceValue.scales (ReferenceValue.args m c).m
      ∧ r.2.mem ((c.tc : Thread Cert.ReferenceIdeal.nD Cert.ReferenceIdeal.τ).loc Cert.ReferenceIdeal.main_v4_3) = ReferenceValue.rates (ReferenceValue.args m c).m
      ∧ r.2.mem ((c.tc : Thread Cert.ReferenceIdeal.nD Cert.ReferenceIdeal.τ).loc Cert.ReferenceIdeal.main_v4_4) = ReferenceValue.codes (ReferenceValue.args m c).v
      ∧ r.2.mem ((c.tc : Thread Cert.ReferenceIdeal.nD Cert.ReferenceIdeal.τ).loc Cert.ReferenceIdeal.main_v4_5) = ReferenceValue.scales (ReferenceValue.args m c).v
      ∧ r.2.mem ((c.tc : Thread Cert.ReferenceIdeal.nD Cert.ReferenceIdeal.τ).loc Cert.ReferenceIdeal.main_v4_6) = ReferenceValue.rates (ReferenceValue.args m c).v
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run Cert.ReferenceIdeal.defs _ _).mono (fun _ h c =>
    ⟨((h c).1 9).trans (ReferenceValue.final9 m c),
      ((h c).1 10).trans (ReferenceValue.final10 m c),
      ((h c).1 11).trans (ReferenceValue.final11 m c),
      ((h c).1 12).trans (ReferenceValue.final12 m c),
      ((h c).1 13).trans (ReferenceValue.final13 m c),
      ((h c).1 14).trans (ReferenceValue.final14 m c),
      ((h c).1 15).trans (ReferenceValue.final15 m c),
      ((h c).1 0).trans (((Cert.ReferenceIdeal.Gen.dats m 0 c).arrAt_in 0 rfl _).trans ((Cert.ReferenceIdeal.Gen.A_eq m c 0).trans (Cert.ReferenceIdeal.Gen.V_main_arg0 m c))),
      ((h c).1 1).trans (((Cert.ReferenceIdeal.Gen.dats m 0 c).arrAt_in 1 rfl _).trans ((Cert.ReferenceIdeal.Gen.A_eq m c 1).trans (Cert.ReferenceIdeal.Gen.V_main_arg1 m c))),
      ((h c).2 Cert.ReferenceIdeal.main_arg2 (Pipeline.mem_restRefs_of Cert.ReferenceIdeal.main_arg2 (by decide) (by decide))).trans (Cert.ReferenceIdeal.Gen.V_main_arg2 m c),
      ((h c).1 3).trans (((Cert.ReferenceIdeal.Gen.dats m 0 c).arrAt_in 3 rfl _).trans ((Cert.ReferenceIdeal.Gen.A_eq m c 3).trans (Cert.ReferenceIdeal.Gen.V_main_arg3 m c))),
      ((h c).1 4).trans (((Cert.ReferenceIdeal.Gen.dats m 0 c).arrAt_in 4 rfl _).trans ((Cert.ReferenceIdeal.Gen.A_eq m c 4).trans (Cert.ReferenceIdeal.Gen.V_main_arg4 m c))),
      ((h c).2 Cert.ReferenceIdeal.main_arg5 (Pipeline.mem_restRefs_of Cert.ReferenceIdeal.main_arg5 (by decide) (by decide))).trans (Cert.ReferenceIdeal.Gen.V_main_arg5 m c),
      ((h c).1 6).trans (((Cert.ReferenceIdeal.Gen.dats m 0 c).arrAt_in 6 rfl _).trans ((Cert.ReferenceIdeal.Gen.A_eq m c 6).trans (Cert.ReferenceIdeal.Gen.V_main_arg6 m c))),
      ((h c).1 7).trans (((Cert.ReferenceIdeal.Gen.dats m 0 c).arrAt_in 7 rfl _).trans ((Cert.ReferenceIdeal.Gen.A_eq m c 7).trans (Cert.ReferenceIdeal.Gen.V_main_arg7 m c))),
      ((h c).2 Cert.ReferenceIdeal.main_arg8 (Pipeline.mem_restRefs_of Cert.ReferenceIdeal.main_arg8 (by decide) (by decide))).trans (Cert.ReferenceIdeal.Gen.V_main_arg8 m c)⟩) (Cert.ReferenceIdeal.Gen.run_main m ρ)

/-- Memories that agree on the arguments give the two the same arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    ReferenceValue.args m' c = KernelValue.args m c := by
  obtain ⟨h0, h1, h2, h3, h4, h5, h6, h7, h8⟩ := h
  have e : sitofp (F := Ideal) (s := Cert.ReferenceIdeal.S_) .f32 (m' ((c.tc : Thread Cert.ReferenceIdeal.nD Cert.ReferenceIdeal.τ).loc Cert.ReferenceIdeal.main_arg8)) ix0 =
      sitofp (F := Ideal) (s := Cert.KernelIdeal.S_) .f32 (m ((c.tc : Thread Cert.KernelIdeal.nD Cert.KernelIdeal.τ).loc Cert.KernelIdeal.main_arg8)) ix0 :=
    congrArg (fun x : IVec Cert.KernelIdeal.S_ 32 => sitofp (F := Ideal) (s := Cert.KernelIdeal.S_) .f32 x ix0) h8
  unfold ReferenceValue.args KernelValue.args
  exact (ReferenceValue.Args.mk.injEq _ _ _ _ _ _ _ _ _ _ _ _ _ _ _ _ _ _).mpr ⟨e, h0, h1, h2, h3, h4, h5, h6, h7⟩

theorem algebraic : Cert.algebraic_KernelIdeal_ReferenceIdeal_pre_in_range := by
  intro m ρ m' ρ' hpre hargs
  refine ⟨fun c => (KernelValue.args m c).u, fun c => ReferenceValue.codes (KernelValue.args m c).m, fun c => ReferenceValue.scales (KernelValue.args m c).m, fun c => ReferenceValue.rates (KernelValue.args m c).m, fun c => ReferenceValue.codes (KernelValue.args m c).v, fun c => ReferenceValue.scales (KernelValue.args m c).v, fun c => ReferenceValue.rates (KernelValue.args m c).v,
    kernel_ends m ρ (KernelValue.inRange m hpre), ?_⟩
  refine (θ_run Cert.ReferenceIdeal.defs _ _).mono (fun _ h c => ?_) (reference_ends m' ρ')
  have h' := h c
  rw [args_eq m m' c (hargs c)] at h'
  exact h'

end Cert.Proof

end
-- ==== Proof.lean ====
/- The certificate: every claim, assembled from the modules under Proof/. -/
module

public import proofs.«01_k».proof.Defs
public import proofs.«01_k».proof.Proof.Claims
public import proofs.«01_k».proof.Proof.Algebraic
@[expose] public section

noncomputable section

namespace Cert.Proof

theorem claim : Cert.Claim :=
  ⟨Cert.Kernel.Gen.facts, Cert.KernelIdeal.Gen.facts, Cert.ReferenceIdeal.Gen.facts, Cert.Pre_in_range.Gen.facts,
    frame_kernel, frame_kernelIdeal, fun m ρ _ => Cert.Proof.KernelIdeal.frame m ρ, frame_referenceIdeal,
    fun m ρ _ => Cert.ReferenceIdeal.Gen.frame m ρ, preserves, algebraic⟩

end Cert.Proof

end
